-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S1024x2048 .bf16) (main_arg1 : FVec F S2048x16384 .bf16) : IVec S_ 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .bf16 := Host.absf main_arg1
  let main_cst_0 : FVec F S_ .bf16 := constant S_ .bf16 0x7F80#16
  let main_v5 : FVec F S2048x16384 .bf16 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_

variable [Facts]

def fn {F : FTy → Type} [FloatOps F] (main_arg0 : FVec F S1024x2048 .bf16) (main_arg1 : FVec F S2048x32768 .bf16) : IVec S_ 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .bf16 := Host.absf main_arg1
  let main_cst_0 : FVec F S_ .bf16 := constant S_ .bf16 0x7F80#16
  let main_v5 : FVec F S2048x32768 .bf16 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  main_v8
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S32x1024x512 : Shape := ⟨3, ![32, 1024, 512]⟩
abbrev S2048x512 : Shape := ⟨2, ![2048, 512]⟩
abbrev S8x1024x512 : Shape := ⟨3, ![8, 1024, 512]⟩
abbrev S2x1024x512 : Shape := ⟨3, ![2, 1024, 512]⟩
abbrev S1024x1 : Shape := ⟨2, ![1024, 1]⟩
abbrev S2x1024x2048 : Shape := ⟨3, ![2, 1024, 2048]⟩
abbrev S2x4x1024x512 : Shape := ⟨4, ![2, 4, 1024, 512]⟩
abbrev S8 : Shape := ⟨1, ![8]⟩
abbrev S4 : Shape := ⟨1, ![4]⟩
abbrev S_ : Shape := ⟨0, ![]⟩
abbrev S2 : Shape := ⟨1, ![2]⟩
abbrev S1024x512 : Shape := ⟨2, ![1024, 512]⟩
abbrev S1024 : Shape := ⟨1, ![1024]⟩
abbrev S1 : Shape := ⟨1, ![1]⟩
abbrev S1x1024x512 : Shape := ⟨3, ![1, 1024, 512]⟩
abbrev S1x4x1024x512 : Shape := ⟨4, ![1, 4, 1024, 512]⟩
abbrev S4x1024x512 : Shape := ⟨3, ![4, 1024, 512]⟩
abbrev S1x1x1024x512 : Shape := ⟨4, ![1, 1, 1024, 512]⟩
abbrev S1x1024x2048 : Shape := ⟨3, ![1, 1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S1024x2048, .bf16⟩
  | .hbm, ⟨1, _⟩ => ⟨S2048x16384, .bf16⟩
  | .hbm, ⟨2, _⟩ => ⟨S1024x32768, .f32⟩
  | .hbm, ⟨3, _⟩ => ⟨S32x1024x512, .bf16⟩
  | .hbm, ⟨4, _⟩ => ⟨S32x1024x512, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S8x1024x512, .bf16⟩
  | .local _ .vmem, ⟨4, _⟩ => ⟨S2x1024x512, .bf16⟩
  | .local _ .vmem, ⟨5, _⟩ => ⟨S1024x1, .f32⟩
  | .local _ .vmem, ⟨6, _⟩ => ⟨S1024x1, .f32⟩
  | .local _ .vmem, ⟨7, _⟩ => ⟨S2x1024x2048, .f32⟩
  | .local _ .vmem, ⟨8, _⟩ => ⟨S2x4x1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem1_1 : DmaSem sig := 2
abbrev barrier0 : Sem sig := 0

abbrev nD : Nat := 8
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_14 : BitVec 32 := 0#32
  let v26 : BitVec 1 := Scalar.cmpi .ne v25 c0_i32_14
  v26

def k0_dev1 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v125 : BitVec 32 := Scalar.muli v2 c4_i32_69
  let v126 : BitVec 32 := Scalar.addi c0_i32_70 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v127 : BitVec 32 := Scalar.muli v5 c2_i32_71
  let v128 : BitVec 32 := Scalar.addi v126 v127
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_72 : BitVec 32 := 1#32
  let v129 : BitVec 32 := Scalar.muli v9 c1_i32_72
  let v130 : BitVec 32 := Scalar.addi v128 v129
  v130.toNat
def k0_dev2 (d0 : Dev nD) : Nat :=
  let c0_i32_75 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_74 : BitVec 32 := 4#32
  let v131 : BitVec 32 := Scalar.muli v10 c4_i32_74
  let v132 : BitVec 32 := Scalar.addi c0_i32_75 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v133 : BitVec 32 := Scalar.muli v5 c2_i32_76
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v135 : BitVec 32 := Scalar.muli v8 c1_i32_77
  let v136 : BitVec 32 := Scalar.addi v134 v135
  v136.toNat
def k0_dev3 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v137 : BitVec 32 := Scalar.muli v2 c4_i32_79
  let v138 : BitVec 32 := Scalar.addi c0_i32_80 v137
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_81 : BitVec 32 := 2#32
  let v139 : BitVec 32 := Scalar.muli v11 c2_i32_81
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v141 : BitVec 32 := Scalar.muli v8 c1_i32_82
  let v142 : BitVec 32 := Scalar.addi v140 v141
  v142.toNat
def k0_cond2 (i : grid0.Coords) : BitVec 1 :=
  let arg0 : BitVec 32 := BitVec.ofNat 32 (i 0).val
  let c2_i32_19 : BitVec 32 := 2#32
  let v36 : BitVec 1 := Scalar.cmpi .sge arg0 c2_i32_19
  let v37 : BitVec 32 := Scalar.extui v36
  let c0_i32_20 : BitVec 32 := 0#32
  let v38 : BitVec 1 := Scalar.cmpi .ne v37 c0_i32_20
  v38

def k0_off1 (i : grid0.Coords) : Fin 1 → Nat :=
  let arg0 : BitVec 32 := BitVec.ofNat 32 (i 0).val
  let c2_i32_69 : BitVec 32 := 2#32
  let c0_i32_70 : BitVec 32 := 0#32
  let v125 : BitVec 1 := Scalar.cmpi .eq c2_i32_69 c0_i32_70
  let c1_i32_71 : BitVec 32 := 1#32
  let v126 : BitVec 32 := Scalar.select v125 c1_i32_71 c2_i32_69
  let v127 : BitVec 32 := Scalar.remsi arg0 v126
  let c0_i32_73 : BitVec 32 := 0#32
  let v129 : BitVec 1 := Scalar.cmpi .slt v127 c0_i32_73
  let c0_i32_74 : BitVec 32 := 0#32
  let v130 : BitVec 1 := Scalar.cmpi .slt v126 c0_i32_74
  let v131 : BitVec 1 := Scalar.xori v129 v130
  let c0_i32_72 : BitVec 32 := 0#32
  let v128 : BitVec 1 := Scalar.cmpi .ne v127 c0_i32_72
  let v132 : BitVec 1 := Scalar.andi v131 v128
  let v133 : BitVec 32 := Scalar.addi v127 v126
  let v134 : BitVec 32 := Scalar.select v132 v133 v127
  ![v134.toNat]
def k0_off2 (i : grid0.Coords) : Fin 3 → Nat :=
  let arg0 : BitVec 32 := BitVec.ofNat 32 (i 0).val
  let c2_i32_68 : BitVec 32 := 2#32
  let v124 : BitVec 32 := Scalar.subi arg0 c2_i32_68
  let c0_i32_75 : BitVec 32 := 0#32
  let c0_i32_76 : BitVec 32 := 0#32
  ![v124.toNat, 0, 0]
def k0_off3 (i : grid0.Coords) : Fin 3 → Nat :=
  let arg0 : BitVec 32 := BitVec.ofNat 32 (i 0).val
  let c2_i32_69 : BitVec 32 := 2#32
  let c0_i32_70 : BitVec 32 := 0#32
  let v125 : BitVec 1 := Scalar.cmpi .eq c2_i32_69 c0_i32_70
  let c1_i32_71 : BitVec 32 := 1#32
  let v126 : BitVec 32 := Scalar.select v125 c1_i32_71 c2_i32_69
  let v127 : BitVec 32 := Scalar.remsi arg0 v126
  let c0_i32_73 : BitVec 32 := 0#32
  let v129 : BitVec 1 := Scalar.cmpi .slt v127 c0_i32_73
  let c0_i32_74 : BitVec 32 := 0#32
  let v130 : BitVec 1 := Scalar.cmpi .slt v126 c0_i32_74
  let v131 : BitVec 1 := Scalar.xori v129 v130
  let c0_i32_72 : BitVec 32 := 0#32
  let v128 : BitVec 1 := Scalar.cmpi .ne v127 c0_i32_72
  let v132 : BitVec 1 := Scalar.andi v131 v128
  let v133 : BitVec 32 := Scalar.addi v127 v126
  let v134 : BitVec 32 := Scalar.select v132 v133 v127
  let c0_i32_77 : BitVec 32 := 0#32
  let c0_i32_78 : BitVec 32 := 0#32
  ![v134.toNat, 0, 0]
def k0_off4 (i : grid0.Coords) : Fin 3 → Nat :=
  let arg0 : BitVec 32 := BitVec.ofNat 32 (i 0).val
  let c2_i32_21 : BitVec 32 := 2#32
  let c0_i32_22 : BitVec 32 := 0#32
  let v39 : BitVec 1 := Scalar.cmpi .eq c2_i32_21 c0_i32_22
  let c1_i32_23 : BitVec 32 := 1#32
  let v40 : BitVec 32 := Scalar.select v39 c1_i32_23 c2_i32_21
  let v41 : BitVec 32 := Scalar.remsi arg0 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let v49 : Index := Scalar.indexCast v48
  let c0_27 : Index := 0#32
  let c0_28 : Index := 0#32
  ![v49.toNat, 0, 0]
def k0_off5 (i : grid0.Coords) : Fin 1 → Nat :=
  let arg0 : BitVec 32 := BitVec.ofNat 32 (i 0).val
  let c2_i32_29 : BitVec 32 := 2#32
  let c0_i32_30 : BitVec 32 := 0#32
  let v53 : BitVec 1 := Scalar.cmpi .eq c2_i32_29 c0_i32_30
  let c1_i32_31 : BitVec 32 := 1#32
  let v54 : BitVec 32 := Scalar.select v53 c1_i32_31 c2_i32_29
  let v55 : BitVec 32 := Scalar.remsi arg0 v54
  let c0_i32_33 : BitVec 32 := 0#32
  let v57 : BitVec 1 := Scalar.cmpi .slt v55 c0_i32_33
  let c0_i32_34 : BitVec 32 := 0#32
  let v58 : BitVec 1 := Scalar.cmpi .slt v54 c0_i32_34
  let v59 : BitVec 1 := Scalar.xori v57 v58
  let c0_i32_32 : BitVec 32 := 0#32
  let v56 : BitVec 1 := Scalar.cmpi .ne v55 c0_i32_32
  let v60 : BitVec 1 := Scalar.andi v59 v56
  let v61 : BitVec 32 := Scalar.addi v55 v54
  let v62 : BitVec 32 := Scalar.select v60 v61 v55
  ![v62.toNat]
def k0_off6 (i : grid0.Coords) : Fin 3 → Nat :=
  let arg0 : BitVec 32 := BitVec.ofNat 32 (i 0).val
  let c0_i32_35 : BitVec 32 := 0#32
  let c0_i32_36 : BitVec 32 := 0#32
  ![arg0.toNat, 0, 0]
def k0_off7 (i : grid0.Coords) : Fin 3 → Nat :=
  let arg0 : BitVec 32 := BitVec.ofNat 32 (i 0).val
  let c2_i32_29 : BitVec 32 := 2#32
  let c0_i32_30 : BitVec 32 := 0#32
  let v53 : BitVec 1 := Scalar.cmpi .eq c2_i32_29 c0_i32_30
  let c1_i32_31 : BitVec 32 := 1#32
  let v54 : BitVec 32 := Scalar.select v53 c1_i32_31 c2_i32_29
  let v55 : BitVec 32 := Scalar.remsi arg0 v54
  let c0_i32_33 : BitVec 32 := 0#32
  let v57 : BitVec 1 := Scalar.cmpi .slt v55 c0_i32_33
  let c0_i32_34 : BitVec 32 := 0#32
  let v58 : BitVec 1 := Scalar.cmpi .slt v54 c0_i32_34
  let v59 : BitVec 1 := Scalar.xori v57 v58
  let c0_i32_32 : BitVec 32 := 0#32
  let v56 : BitVec 1 := Scalar.cmpi .ne v55 c0_i32_32
  let v60 : BitVec 1 := Scalar.andi v59 v56
  let v61 : BitVec 32 := Scalar.addi v55 v54
  let v62 : BitVec 32 := Scalar.select v60 v61 v55
  let c0_i32_37 : BitVec 32 := 0#32
  let c0_i32_38 : BitVec 32 := 0#32
  ![v62.toNat, 0, 0]
def k0_cond5 (i : grid0.Coords) (d0 : Dev nD) : BitVec 1 :=
  let arg0 : BitVec 32 := BitVec.ofNat 32 (i 0).val
  let c4_i32_43 : BitVec 32 := 4#32
  let c0_i32_44 : BitVec 32 := 0#32
  let v75 : BitVec 1 := Scalar.cmpi .eq c4_i32_43 c0_i32_44
  let c1_i32_45 : BitVec 32 := 1#32
  let v76 : BitVec 32 := Scalar.select v75 c1_i32_45 c4_i32_43
  let v77 : BitVec 32 := Scalar.remsi arg0 v76
  let c0_i32_47 : BitVec 32 := 0#32
  let v79 : BitVec 1 := Scalar.cmpi .slt v77 c0_i32_47
  let c0_i32_48 : BitVec 32 := 0#32
  let v80 : BitVec 1 := Scalar.cmpi .slt v76 c0_i32_48
  let v81 : BitVec 1 := Scalar.xori v79 v80
  let c0_i32_46 : BitVec 32 := 0#32
  let v78 : BitVec 1 := Scalar.cmpi .ne v77 c0_i32_46
  let v82 : BitVec 1 := Scalar.andi v81 v78
  let v83 : BitVec 32 := Scalar.addi v77 v76
  let v84 : BitVec 32 := Scalar.select v82 v83 v77
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v13 : BitVec 32 := Scalar.addi v2 v12
  let v85 : BitVec 1 := Scalar.cmpi .eq v84 v13
  let v86 : BitVec 32 := Scalar.extui v85
  let c0_i32_49 : BitVec 32 := 0#32
  let v87 : BitVec 1 := Scalar.cmpi .ne v86 c0_i32_49
  v87

def k0_off8 (i : grid0.Coords) : Fin 3 → Nat :=
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let v141 : Index := Scalar.indexCast v140
  let c0_75 : Index := 0#32
  let c0_76 : Index := 0#32
  ![v141.toNat, 0, 0]
def k0_off9 (i : grid0.Coords) : Fin 1 → Nat :=
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  ![v140.toNat]
def k0_off10 (i : grid0.Coords) (d0 : Dev nD) : Fin 3 → Nat :=
  let c4_i32_77 : BitVec 32 := 4#32
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let v145 : BitVec 32 := Scalar.muli c4_i32_77 v140
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v13 : BitVec 32 := Scalar.addi v2 v12
  let v146 : BitVec 32 := Scalar.addi v145 v13
  let c0_i32_82 : BitVec 32 := 0#32
  let c0_i32_83 : BitVec 32 := 0#32
  ![v146.toNat, 0, 0]
def k0_off11 (i : grid0.Coords) : Fin 3 → Nat :=
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let c0_i32_84 : BitVec 32 := 0#32
  let c0_i32_85 : BitVec 32 := 0#32
  ![v140.toNat, 0, 0]
def k0_dev4 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v147 : BitVec 32 := Scalar.muli v2 c4_i32_78
  let v148 : BitVec 32 := Scalar.addi c0_i32_79 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v149 : BitVec 32 := Scalar.muli v5 c2_i32_80
  let v150 : BitVec 32 := Scalar.addi v148 v149
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v151 : BitVec 32 := Scalar.muli v9 c1_i32_81
  let v152 : BitVec 32 := Scalar.addi v150 v151
  v152.toNat
def k0_cond6 (i : grid0.Coords) : BitVec 1 :=
  let arg0 : BitVec 32 := BitVec.ofNat 32 (i 0).val
  let c4_i32_50 : BitVec 32 := 4#32
  let v88 : BitVec 1 := Scalar.cmpi .sge arg0 c4_i32_50
  let c4_i32_51 : BitVec 32 := 4#32
  let c0_i32_52 : BitVec 32 := 0#32
  let v89 : BitVec 1 := Scalar.cmpi .eq c4_i32_51 c0_i32_52
  let c1_i32_53 : BitVec 32 := 1#32
  let v90 : BitVec 32 := Scalar.select v89 c1_i32_53 c4_i32_51
  let v91 : BitVec 32 := Scalar.remsi arg0 v90
  let c0_i32_55 : BitVec 32 := 0#32
  let v93 : BitVec 1 := Scalar.cmpi .slt v91 c0_i32_55
  let c0_i32_56 : BitVec 32 := 0#32
  let v94 : BitVec 1 := Scalar.cmpi .slt v90 c0_i32_56
  let v95 : BitVec 1 := Scalar.xori v93 v94
  let c0_i32_54 : BitVec 32 := 0#32
  let v92 : BitVec 1 := Scalar.cmpi .ne v91 c0_i32_54
  let v96 : BitVec 1 := Scalar.andi v95 v92
  let v97 : BitVec 32 := Scalar.addi v91 v90
  let v98 : BitVec 32 := Scalar.select v96 v97 v91
  let c0_i32_57 : BitVec 32 := 0#32
  let v99 : BitVec 1 := Scalar.cmpi .eq v98 c0_i32_57
  let v100 : BitVec 1 := Scalar.andi v88 v99
  let v101 : BitVec 32 := Scalar.extui v100
  let c0_i32_58 : BitVec 32 := 0#32
  let v102 : BitVec 1 := Scalar.cmpi .ne v101 c0_i32_58
  v102

def k0_off12 (i : grid0.Coords) : Fin 1 → Nat :=
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let c1_i32_75 : BitVec 32 := 1#32
  let v141 : BitVec 32 := Scalar.subi v140 c1_i32_75
  ![v141.toNat]
def k0_off13 (i : grid0.Coords) (d0 : Dev nD) : Fin 3 → Nat :=
  let c4_i32_76 : BitVec 32 := 4#32
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let c1_i32_75 : BitVec 32 := 1#32
  let v141 : BitVec 32 := Scalar.subi v140 c1_i32_75
  let v142 : BitVec 32 := Scalar.muli c4_i32_76 v141
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v13 : BitVec 32 := Scalar.addi v2 v12
  let v143 : BitVec 32 := Scalar.addi v142 v13
  let c0_i32_81 : BitVec 32 := 0#32
  let c0_i32_82 : BitVec 32 := 0#32
  ![v143.toNat, 0, 0]
def k0_off14 (i : grid0.Coords) : Fin 3 → Nat :=
  let arg0 : BitVec 32 := BitVec.ofNat 32 (i 0).val
  let c0_i32_69 : BitVec 32 := 0#32
  let v125 : BitVec 1 := Scalar.cmpi .sgt arg0 c0_i32_69
  let v126 : BitVec 32 := Scalar.extui v125
  let c0_i32_70 : BitVec 32 := 0#32
  let v127 : BitVec 1 := Scalar.cmpi .slt arg0 c0_i32_70
  let v128 : BitVec 32 := Scalar.extui v127
  let v129 : BitVec 32 := Scalar.subi v126 v128
  let c4_i32_68 : BitVec 32 := 4#32
  let c0_i32_71 : BitVec 32 := 0#32
  let v130 : BitVec 1 := Scalar.cmpi .sgt c4_i32_68 c0_i32_71
  let v131 : BitVec 32 := Scalar.extui v130
  let c0_i32_72 : BitVec 32 := 0#32
  let v132 : BitVec 1 := Scalar.cmpi .slt c4_i32_68 c0_i32_72
  let v133 : BitVec 32 := Scalar.extui v132
  let v134 : BitVec 32 := Scalar.subi v131 v133
  let v135 : BitVec 1 := Scalar.cmpi .ne v129 v134
  let v136 : BitVec 32 := Scalar.remsi arg0 c4_i32_68
  let c0_i32_73 : BitVec 32 := 0#32
  let v137 : BitVec 1 := Scalar.cmpi .ne v136 c0_i32_73
  let v138 : BitVec 1 := Scalar.andi v135 v137
  let v124 : BitVec 32 := Scalar.divsi arg0 c4_i32_68
  let c1_i32_74 : BitVec 32 := 1#32
  let v139 : BitVec 32 := Scalar.subi v124 c1_i32_74
  let v140 : BitVec 32 := Scalar.select v138 v139 v124
  let c1_i32_75 : BitVec 32 := 1#32
  let v141 : BitVec 32 := Scalar.subi v140 c1_i32_75
  let c0_i32_83 : BitVec 32 := 0#32
  let c0_i32_84 : BitVec 32 := 0#32
  ![v141.toNat, 0, 0]
def k0_dev5 (d0 : Dev nD) : Nat :=
  let c0_i32_87 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_86 : BitVec 32 := 4#32
  let v158 : BitVec 32 := Scalar.muli v10 c4_i32_86
  let v159 : BitVec 32 := Scalar.addi c0_i32_87 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v160 : BitVec 32 := Scalar.muli v5 c2_i32_88
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v162 : BitVec 32 := Scalar.muli v8 c1_i32_89
  let v163 : BitVec 32 := Scalar.addi v161 v162
  v163.toNat
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v174 : BitVec 32 := Scalar.muli v2 c4_i32_95
  let v175 : BitVec 32 := Scalar.addi c0_i32_96 v174
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_97 : BitVec 32 := 2#32
  let v176 : BitVec 32 := Scalar.muli v11 c2_i32_97
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v178 : BitVec 32 := Scalar.muli v8 c1_i32_98
  let v179 : BitVec 32 := Scalar.addi v177 v178
  v179.toNat
def k0_cond7 (i : grid0.Coords) : BitVec 1 :=
  let arg0 : BitVec 32 := BitVec.ofNat 32 (i 0).val
  let c20_i32 : BitVec 32 := 20#32
  let v103 : BitVec 1 := Scalar.cmpi .sge arg0 c20_i32
  let c29_i32 : BitVec 32 := 29#32
  let v104 : BitVec 1 := Scalar.cmpi .sle arg0 c29_i32
  let v105 : BitVec 1 := Scalar.andi v103 v104
  let c20_i32_59 : BitVec 32 := 20#32
  let v106 : BitVec 32 := Scalar.subi arg0 c20_i32_59
  let c3_i32 : BitVec 32 := 3#32
  let c0_i32_60 : BitVec 32 := 0#32
  let v107 : BitVec 1 := Scalar.cmpi .eq c3_i32 c0_i32_60
  let c1_i32_61 : BitVec 32 := 1#32
  let v108 : BitVec 32 := Scalar.select v107 c1_i32_61 c3_i32
  let v109 : BitVec 32 := Scalar.remsi v106 v108
  let c0_i32_63 : BitVec 32 := 0#32
  let v111 : BitVec 1 := Scalar.cmpi .slt v109 c0_i32_63
  let c0_i32_64 : BitVec 32 := 0#32
  let v112 : BitVec 1 := Scalar.cmpi .slt v108 c0_i32_64
  let v113 : BitVec 1 := Scalar.xori v111 v112
  let c0_i32_62 : BitVec 32 := 0#32
  let v110 : BitVec 1 := Scalar.cmpi .ne v109 c0_i32_62
  let v114 : BitVec 1 := Scalar.andi v113 v110
  let v115 : BitVec 32 := Scalar.addi v109 v108
  let v116 : BitVec 32 := Scalar.select v114 v115 v109
  let c0_i32_65 : BitVec 32 := 0#32
  let v117 : BitVec 1 := Scalar.cmpi .eq v116 c0_i32_65
  let v118 : BitVec 1 := Scalar.andi v105 v117
  let v119 : BitVec 32 := Scalar.extui v118
  let c0_i32_66 : BitVec 32 := 0#32
  let v120 : BitVec 1 := Scalar.cmpi .ne v119 c0_i32_66
  v120

def k0_off15 (i : grid0.Coords) : Fin 1 → Nat :=
  let arg0 : BitVec 32 := BitVec.ofNat 32 (i 0).val
  let c20_i32_68 : BitVec 32 := 20#32
  let v124 : BitVec 32 := Scalar.subi arg0 c20_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c3_i32_69 : BitVec 32 := 3#32
  let c0_i32_72 : BitVec 32 := 0#32
  let v131 : BitVec 1 := Scalar.cmpi .sgt c3_i32_69 c0_i32_72
  let v132 : BitVec 32 := Scalar.extui v131
  let c0_i32_73 : BitVec 32 := 0#32
  let v133 : BitVec 1 := Scalar.cmpi .slt c3_i32_69 c0_i32_73
  let v134 : BitVec 32 := Scalar.extui v133
  let v135 : BitVec 32 := Scalar.subi v132 v134
  let v136 : BitVec 1 := Scalar.cmpi .ne v130 v135
  let v137 : BitVec 32 := Scalar.remsi v124 c3_i32_69
  let c0_i32_74 : BitVec 32 := 0#32
  let v138 : BitVec 1 := Scalar.cmpi .ne v137 c0_i32_74
  let v139 : BitVec 1 := Scalar.andi v136 v138
  let v125 : BitVec 32 := Scalar.divsi v124 c3_i32_69
  let c1_i32_75 : BitVec 32 := 1#32
  let v140 : BitVec 32 := Scalar.subi v125 c1_i32_75
  let v141 : BitVec 32 := Scalar.select v139 v140 v125
  ![v141.toNat]
def k0_off16 (i : grid0.Coords) (d0 : Dev nD) : Fin 3 → Nat :=
  let c4_i32_76 : BitVec 32 := 4#32
  let arg0 : BitVec 32 := BitVec.ofNat 32 (i 0).val
  let c20_i32_68 : BitVec 32 := 20#32
  let v124 : BitVec 32 := Scalar.subi arg0 c20_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c3_i32_69 : BitVec 32 := 3#32
  let c0_i32_72 : BitVec 32 := 0#32
  let v131 : BitVec 1 := Scalar.cmpi .sgt c3_i32_69 c0_i32_72
  let v132 : BitVec 32 := Scalar.extui v131
  let c0_i32_73 : BitVec 32 := 0#32
  let v133 : BitVec 1 := Scalar.cmpi .slt c3_i32_69 c0_i32_73
  let v134 : BitVec 32 := Scalar.extui v133
  let v135 : BitVec 32 := Scalar.subi v132 v134
  let v136 : BitVec 1 := Scalar.cmpi .ne v130 v135
  let v137 : BitVec 32 := Scalar.remsi v124 c3_i32_69
  let c0_i32_74 : BitVec 32 := 0#32
  let v138 : BitVec 1 := Scalar.cmpi .ne v137 c0_i32_74
  let v139 : BitVec 1 := Scalar.andi v136 v138
  let v125 : BitVec 32 := Scalar.divsi v124 c3_i32_69
  let c1_i32_75 : BitVec 32 := 1#32
  let v140 : BitVec 32 := Scalar.subi v125 c1_i32_75
  let v141 : BitVec 32 := Scalar.select v139 v140 v125
  let v142 : BitVec 32 := Scalar.muli c4_i32_76 v141
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v16 : BitVec 32 := Scalar.addi v14 v15
  let v143 : BitVec 32 := Scalar.addi v142 v16
  let c0_i32_81 : BitVec 32 := 0#32
  let c0_i32_82 : BitVec 32 := 0#32
  ![v143.toNat, 0, 0]
def k0_off17 (i : grid0.Coords) : Fin 1 → Nat :=
  let arg0 : BitVec 32 := BitVec.ofNat 32 (i 0).val
  let c20_i32_68 : BitVec 32 := 20#32
  let v124 : BitVec 32 := Scalar.subi arg0 c20_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c3_i32_69 : BitVec 32 := 3#32
  let c0_i32_72 : BitVec 32 := 0#32
  let v131 : BitVec 1 := Scalar.cmpi .sgt c3_i32_69 c0_i32_72
  let v132 : BitVec 32 := Scalar.extui v131
  let c0_i32_73 : BitVec 32 := 0#32
  let v133 : BitVec 1 := Scalar.cmpi .slt c3_i32_69 c0_i32_73
  let v134 : BitVec 32 := Scalar.extui v133
  let v135 : BitVec 32 := Scalar.subi v132 v134
  let v136 : BitVec 1 := Scalar.cmpi .ne v130 v135
  let v137 : BitVec 32 := Scalar.remsi v124 c3_i32_69
  let c0_i32_74 : BitVec 32 := 0#32
  let v138 : BitVec 1 := Scalar.cmpi .ne v137 c0_i32_74
  let v139 : BitVec 1 := Scalar.andi v136 v138
  let v125 : BitVec 32 := Scalar.divsi v124 c3_i32_69
  let c1_i32_75 : BitVec 32 := 1#32
  let v140 : BitVec 32 := Scalar.subi v125 c1_i32_75
  let v141 : BitVec 32 := Scalar.select v139 v140 v125
  ![v141.toNat]
def k0_dev7 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v158 : BitVec 32 := Scalar.muli v2 c4_i32_86
  let v159 : BitVec 32 := Scalar.addi c0_i32_87 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_88 : BitVec 32 := 2#32
  let v160 : BitVec 32 := Scalar.muli v11 c2_i32_88
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v162 : BitVec 32 := Scalar.muli v8 c1_i32_89
  let v163 : BitVec 32 := Scalar.addi v161 v162
  v163.toNat
def k0_cond8 (i : grid0.Coords) : BitVec 1 :=
  let arg0 : BitVec 32 := BitVec.ofNat 32 (i 0).val
  let c31_i32 : BitVec 32 := 31#32
  let v121 : BitVec 1 := Scalar.cmpi .eq arg0 c31_i32
  let v122 : BitVec 32 := Scalar.extui v121
  let c0_i32_67 : BitVec 32 := 0#32
  let v123 : BitVec 1 := Scalar.cmpi .ne v122 c0_i32_67
  v123

def k0_dev8 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v124 : BitVec 32 := Scalar.muli v2 c4_i32_68
  let v125 : BitVec 32 := Scalar.addi c0_i32_69 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v126 : BitVec 32 := Scalar.muli v5 c2_i32_70
  let v127 : BitVec 32 := Scalar.addi v125 v126
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_71 : BitVec 32 := 1#32
  let v128 : BitVec 32 := Scalar.muli v9 c1_i32_71
  let v129 : BitVec 32 := Scalar.addi v127 v128
  v129.toNat
def k0_off18 (d0 : Dev nD) (c28_i32 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v13 : BitVec 32 := Scalar.addi v2 v12
  let v142 : BitVec 32 := Scalar.addi c28_i32 v13
  let c0_i32_91 : BitVec 32 := 0#32
  let c0_i32_92 : BitVec 32 := 0#32
  ![v142.toNat, 0, 0]
def k0_dev9 (d0 : Dev nD) : Nat :=
  let c0_i32_99 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_98 : BitVec 32 := 4#32
  let v156 : BitVec 32 := Scalar.muli v10 c4_i32_98
  let v157 : BitVec 32 := Scalar.addi c0_i32_99 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v158 : BitVec 32 := Scalar.muli v5 c2_i32_100
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v160 : BitVec 32 := Scalar.muli v8 c1_i32_101
  let v161 : BitVec 32 := Scalar.addi v159 v160
  v161.toNat
def k0_dev10 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v171 : BitVec 32 := Scalar.muli v2 c4_i32_109
  let v172 : BitVec 32 := Scalar.addi c0_i32_110 v171
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_111 : BitVec 32 := 2#32
  let v173 : BitVec 32 := Scalar.muli v11 c2_i32_111
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v175 : BitVec 32 := Scalar.muli v8 c1_i32_112
  let v176 : BitVec 32 := Scalar.addi v174 v175
  v176.toNat
def k0_off19 (d0 : Dev nD) (c16_i32 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v19 : BitVec 32 := Scalar.addi v2 v18
  let v185 : BitVec 32 := Scalar.addi c16_i32 v19
  let c0_i32_123 : BitVec 32 := 0#32
  let c0_i32_124 : BitVec 32 := 0#32
  ![v185.toNat, 0, 0]
def k0_dev11 (d0 : Dev nD) : Nat :=
  let c0_i32_131 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_130 : BitVec 32 := 4#32
  let v199 : BitVec 32 := Scalar.muli v10 c4_i32_130
  let v200 : BitVec 32 := Scalar.addi c0_i32_131 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v201 : BitVec 32 := Scalar.muli v5 c2_i32_132
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v203 : BitVec 32 := Scalar.muli v8 c1_i32_133
  let v204 : BitVec 32 := Scalar.addi v202 v203
  v204.toNat
def k0_dev12 (d0 : Dev nD) : Nat :=
  let c0_i32_152 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_151 : BitVec 32 := 4#32
  let v227 : BitVec 32 := Scalar.muli v10 c4_i32_151
  let v228 : BitVec 32 := Scalar.addi c0_i32_152 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v229 : BitVec 32 := Scalar.muli v5 c2_i32_153
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v231 : BitVec 32 := Scalar.muli v8 c1_i32_154
  let v232 : BitVec 32 := Scalar.addi v230 v231
  v232.toNat
def k0_dev13 (d0 : Dev nD) : Nat :=
  let c0_i32_172 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_171 : BitVec 32 := 4#32
  let v255 : BitVec 32 := Scalar.muli v10 c4_i32_171
  let v256 : BitVec 32 := Scalar.addi c0_i32_172 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v257 : BitVec 32 := Scalar.muli v5 c2_i32_173
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v259 : BitVec 32 := Scalar.muli v8 c1_i32_174
  let v260 : BitVec 32 := Scalar.addi v258 v259
  v260.toNat
def k0_dev14 (d0 : Dev nD) : Nat :=
  let c0_i32_194 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_193 : BitVec 32 := 4#32
  let v283 : BitVec 32 := Scalar.muli v10 c4_i32_193
  let v284 : BitVec 32 := Scalar.addi c0_i32_194 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v285 : BitVec 32 := Scalar.muli v5 c2_i32_195
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v287 : BitVec 32 := Scalar.muli v8 c1_i32_196
  let v288 : BitVec 32 := Scalar.addi v286 v287
  v288.toNat
def k0_off20 (d0 : Dev nD) (c0_i32_210 : BitVec 32) : Fin 2 → Nat :=
  let c0_i32_304 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v308 : BitVec 32 := Scalar.muli v8 c16384_i32
  let v309 : BitVec 32 := Scalar.addi v308 c0_i32_210
  ![0, v309.toNat]
def k0_off21 (d0 : Dev nD) (c0_i32_219 : BitVec 32) : Fin 3 → Nat :=
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c2_i32_13 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_12 v5
  let v22 : BitVec 32 := Scalar.muli c2_i32_13 v21
  let v23 : BitVec 32 := Scalar.addi v20 v22
  let v325 : BitVec 32 := Scalar.addi c0_i32_219 v23
  let c0_i32_642 : BitVec 32 := 0#32
  let c0_i32_643 : BitVec 32 := 0#32
  ![v325.toNat, 0, 0]
def k0_off22 (d0 : Dev nD) (c0_i32_222 : BitVec 32) : Fin 2 → Nat :=
  let c0_i32_738 : BitVec 32 := 0#32
  let c1_i32_220 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v326 : BitVec 32 := Scalar.subi c1_i32_220 v8
  let c16384_i32_221 : BitVec 32 := 16384#32
  let v327 : BitVec 32 := Scalar.muli v326 c16384_i32_221
  let v328 : BitVec 32 := Scalar.addi v327 c0_i32_222
  ![0, v328.toNat]
def k0_off23 (d0 : Dev nD) (c16_i32_236 : BitVec 32) : Fin 3 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v16 : BitVec 32 := Scalar.addi v14 v15
  let v344 : BitVec 32 := Scalar.addi c16_i32_236 v16
  let c0_i32_928 : BitVec 32 := 0#32
  let c0_i32_929 : BitVec 32 := 0#32
  ![v344.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x32768, .bf16⟩
  | .hbm, ⟨2, _⟩ => ⟨S1024x2048, .f32⟩
  | .hbm, ⟨3, _⟩ => ⟨S2048x32768, .f32⟩
  | .hbm, ⟨4, _⟩ => ⟨S1024x32768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32768, .f32⟩
  | .hbm, ⟨9, _⟩ => ⟨S1024x32768, .f32⟩
  | .hbm, ⟨10, _⟩ => ⟨S1024x32768, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32768, .f32⟩
  | .hbm, ⟨15, _⟩ => ⟨S1024x32768, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Tab.lean ====
/-
# The kernel's tables: peers, messages, chunks, and the closed forms of its offsets

Device `c` of the 2×2×2 mesh has coordinates `(x, y, z)` with `c = 4x + 2y + z`. Every device sends and
receives the same 33 messages: eight chunks along `z`, eight relayed along `x`, eight relayed along `y`,
four relayed a second time along `y`, four relayed a second time along `x`, and one with the row sums.
Everything below is a finite table, settled by evaluation.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic

/-! ## Peers -/

set_option backward.proofsInPublic true in
/-- The device across `z`. -/
def zp (c : Dev nD) : Dev nD := ⟨(c.val / 2 * 2 + (1 - c.val % 2)) % 8, Nat.mod_lt _ (by decide)⟩
set_option backward.proofsInPublic true in
/-- The device across `x`. -/
def xp (c : Dev nD) : Dev nD := ⟨(c.val + 4) % 8, Nat.mod_lt _ (by decide)⟩
set_option backward.proofsInPublic true in
/-- The device across `y`. -/
def yp (c : Dev nD) : Dev nD := ⟨(c.val / 4 * 4 + (c.val % 4 + 2) % 4) % 8, Nat.mod_lt _ (by decide)⟩

/-- The peer of a class: 0 across `z`, 1 across `x`, 2 across `y`. -/
def peer (d : Fin 3) (c : Dev nD) : Dev nD := if d = 0 then zp c else if d = 1 then xp c else yp c

theorem peer_peer : ∀ (d : Fin 3) (c : Dev nD), peer d (peer d c) = c := by decide +kernel

/-- The peer map of a class, as a permutation of the devices. -/
def peerEquiv (d : Fin 3) : Dev nD ≃ Dev nD := ⟨peer d, peer d, peer_peer d, peer_peer d⟩

theorem dev1_eq (c : Dev nD) (h : k0_dev1 c < nD) : (⟨k0_dev1 c, h⟩ : Dev nD) = zp c := by
  revert h; revert c; decide +kernel
theorem dev2_eq (c : Dev nD) (h : k0_dev2 c < nD) : (⟨k0_dev2 c, h⟩ : Dev nD) = xp c := by
  revert h; revert c; decide +kernel
theorem dev3_eq (c : Dev nD) (h : k0_dev3 c < nD) : (⟨k0_dev3 c, h⟩ : Dev nD) = yp c := by
  revert h; revert c; decide +kernel
theorem dev4_eq (c : Dev nD) (h : k0_dev4 c < nD) : (⟨k0_dev4 c, h⟩ : Dev nD) = zp c := by
  revert h; revert c; decide +kernel
theorem dev5_eq (c : Dev nD) (h : k0_dev5 c < nD) : (⟨k0_dev5 c, h⟩ : Dev nD) = xp c := by
  revert h; revert c; decide +kernel
theorem dev6_eq (c : Dev nD) (h : k0_dev6 c < nD) : (⟨k0_dev6 c, h⟩ : Dev nD) = yp c := by
  revert h; revert c; decide +kernel
theorem dev7_eq (c : Dev nD) (h : k0_dev7 c < nD) : (⟨k0_dev7 c, h⟩ : Dev nD) = yp c := by
  revert h; revert c; decide +kernel
theorem dev8_eq (c : Dev nD) (h : k0_dev8 c < nD) : (⟨k0_dev8 c, h⟩ : Dev nD) = zp c := by
  revert h; revert c; decide +kernel
theorem dev9_eq (c : Dev nD) (h : k0_dev9 c < nD) : (⟨k0_dev9 c, h⟩ : Dev nD) = xp c := by
  revert h; revert c; decide +kernel
theorem dev10_eq (c : Dev nD) (h : k0_dev10 c < nD) : (⟨k0_dev10 c, h⟩ : Dev nD) = yp c := by
  revert h; revert c; decide +kernel
theorem dev11_eq (c : Dev nD) (h : k0_dev11 c < nD) : (⟨k0_dev11 c, h⟩ : Dev nD) = xp c := by
  revert h; revert c; decide +kernel
theorem dev12_eq (c : Dev nD) (h : k0_dev12 c < nD) : (⟨k0_dev12 c, h⟩ : Dev nD) = xp c := by
  revert h; revert c; decide +kernel
theorem dev13_eq (c : Dev nD) (h : k0_dev13 c < nD) : (⟨k0_dev13 c, h⟩ : Dev nD) = xp c := by
  revert h; revert c; decide +kernel
theorem dev14_eq (c : Dev nD) (h : k0_dev14 c < nD) : (⟨k0_dev14 c, h⟩ : Dev nD) = xp c := by
  revert h; revert c; decide +kernel

/-! ## Messages -/

/-- A message of a device: 0–7 across `z`, 8–15 across `x`, 16–23 across `y`, 24–27 relayed twice across
    `y`, 28–31 relayed twice across `x`, 32 the row sums across `z`. -/
abbrev Msg : Type := Fin 33

set_option backward.proofsInPublic true in
def mz (m : Fin 8) : Msg := ⟨m.val, by omega⟩
set_option backward.proofsInPublic true in
def mxd (m : Fin 8) : Msg := ⟨8 + m.val, by omega⟩
set_option backward.proofsInPublic true in
def myd (m : Fin 8) : Msg := ⟨16 + m.val, by omega⟩
set_option backward.proofsInPublic true in
def myt (m : Fin 4) : Msg := ⟨24 + m.val, by omega⟩
set_option backward.proofsInPublic true in
def mxt (m : Fin 4) : Msg := ⟨28 + m.val, by omega⟩
def mst : Msg := 32

/-- The direction a message travels in. -/
def cls (k : Msg) : Fin 3 :=
  if k.val < 8 then 0 else if k.val < 16 then 1 else if k.val < 24 then 2 else if k.val < 28 then 2 else if k.val < 32 then 1 else 0

/-- The device at the other end of `c`'s message `k`: where `c` sends it, and whence `c` receives it. -/
def tgt (c : Dev nD) (k : Msg) : Dev nD := peer (cls k) c

theorem tgt_tgt (c : Dev nD) (k : Msg) : tgt (tgt c k) k = c := peer_peer _ _

/-- The position of a device in its `z` plane. -/
def qd (c : Dev nD) : Nat := c.val / 4 + 2 * (c.val / 2 % 2)

set_option backward.proofsInPublic true in
/-- The chunk that the message `k` brings to the receiver `c` (of the half of the columns that `c`'s `z`
    peer computes): the landing slice. -/
def H (c : Dev nD) (k : Msg) : Fin 32 :=
  ⟨(if k.val < 8 then 4 * k.val + qd c
    else if k.val < 16 then 4 * (k.val - 8) + qd (xp c)
    else if k.val < 24 then 4 * (k.val - 16) + qd (yp c)
    else 4 * (k.val - 24) + qd (xp (yp c))) % 32, Nat.mod_lt _ (by decide)⟩

set_option backward.proofsInPublic true in
/-- The device that computed the chunk `h` that `c` receives. -/
def srcDev (c : Dev nD) (h : Fin 32) : Dev nD :=
  ⟨(4 * (h.val % 4 % 2) + 2 * (h.val % 4 / 2) + (1 - c.val % 2)) % 8, Nat.mod_lt _ (by decide)⟩

theorem srcDev_tgt : ∀ (c : Dev nD) (k : Fin 33), 8 ≤ k.val → k.val < 32 →
    ∀ h, srcDev (tgt c k) h = srcDev c h := by decide +kernel
theorem srcDev_z : ∀ (c : Dev nD) (m : Fin 8), srcDev (tgt c (mz m)) (H (tgt c (mz m)) (mz m)) = c := by decide +kernel

/-- The landing slices of the 32 chunks are the 32 slices, each once. -/
theorem H_inj : ∀ (c : Dev nD) (k k' : Fin 33), k.val < 32 → k'.val < 32 → H c k = H c k' → k = k' := by decide +kernel

/-- The slice that a relay reads: the slice it lands in at its target. -/
theorem H_relay_x : ∀ (c : Dev nD) (m : Fin 8), H (tgt c (mxd m)) (mxd m) = H c (mz m) := by decide +kernel
theorem H_relay_y : ∀ (c : Dev nD) (m : Fin 8), H (tgt c (myd m)) (myd m) = H c (mz m) := by decide +kernel
theorem H_relay_yt : ∀ (c : Dev nD) (m : Fin 4), H (tgt c (myt m)) (myt m) = H c (mxd (m.castLE (by decide))) := by decide +kernel
theorem H_relay_xt : ∀ (c : Dev nD) (m : Fin 4), H (tgt c (mxt m)) (mxt m) = H c (myd (m.natAdd 4)) := by decide +kernel
theorem H_z : ∀ (c : Dev nD) (m : Fin 8), (H (tgt c (mz m)) (mz m)).val = 4 * m.val + qd c := by decide +kernel

/-- The DMA semaphore a device's message `k` signals on its sender. -/
def sendNo (k : Msg) : Nat :=
  if k.val < 8 then 3 + k.val else if k.val < 16 then 11 + k.val else if k.val < 24 then 19 + k.val
  else if k.val < 28 then 27 + k.val else if k.val < 32 then 31 + k.val else 67
/-- The DMA semaphore a device's message `k` signals on its receiver. -/
def recvNo (k : Msg) : Nat :=
  if k.val < 8 then 11 + k.val else if k.val < 16 then 19 + k.val else if k.val < 24 then 27 + k.val
  else if k.val < 28 then 31 + k.val else if k.val < 32 then 35 + k.val else 68

set_option backward.proofsInPublic true in
def sendSem (k : Msg) : DmaSem sig := (⟨sendNo k % 75, Nat.mod_lt _ (by decide)⟩ : Fin 75)
set_option backward.proofsInPublic true in
def recvSem (k : Msg) : DmaSem sig := (⟨recvNo k % 75, Nat.mod_lt _ (by decide)⟩ : Fin 75)

/-- The semaphores of the two local copies into the `e` array, of the two input copies and of the two output copies. -/
def eSem (s : Fin 2) : DmaSem sig := (⟨73 + s.val, by have := s.isLt; show _ < 75; omega⟩ : Fin 75)
def inSem (s : Fin 2) : DmaSem sig := (⟨69 + s.val, by have := s.isLt; show _ < 75; omega⟩ : Fin 75)
def outSem (s : Fin 2) : DmaSem sig := (⟨71 + s.val, by have := s.isLt; show _ < 75; omega⟩ : Fin 75)

/-- Which semaphore is which: `some (false, k)` the send semaphore of the message `k`, `some (true, k)` its receive semaphore. -/
theorem sendSem_inj : ∀ k k' : Fin 33, sendSem k = sendSem k' → k = k' := by decide +kernel
theorem recvSem_inj : ∀ k k' : Fin 33, recvSem k = recvSem k' → k = k' := by decide +kernel
theorem sendSem_ne_recvSem : ∀ k k' : Fin 33, sendSem k ≠ recvSem k' := by decide +kernel

/-! ## Offsets and conditions at a grid point -/

theorem coords_val : ∀ t : Fin grid0.N, ((grid0.coords t) 0).val = t.val := by decide +kernel

theorem cond1_iff : ∀ t : Fin grid0.N, k0_cond1 (grid0.coords t) = 1#1 ↔ t.val = 0 := by decide +kernel
theorem cond2_iff : ∀ t : Fin grid0.N, k0_cond2 (grid0.coords t) = 1#1 ↔ 2 ≤ t.val := by decide +kernel
theorem cond5_iff : ∀ (t : Fin grid0.N) (c : Dev nD), k0_cond5 (grid0.coords t) c = 1#1 ↔ t.val % 4 = qd c := by decide +kernel
theorem cond6_iff : ∀ t : Fin grid0.N, k0_cond6 (grid0.coords t) = 1#1 ↔ 4 ≤ t.val ∧ t.val % 4 = 0 := by decide +kernel
theorem cond7_iff : ∀ t : Fin grid0.N, k0_cond7 (grid0.coords t) = 1#1 ↔ 20 ≤ t.val ∧ t.val < 32 ∧ (t.val - 20) % 3 = 0 := by decide +kernel
theorem cond8_iff : ∀ t : Fin grid0.N, k0_cond8 (grid0.coords t) = 1#1 ↔ t.val = 31 := by decide +kernel

theorem off1_eq : ∀ t : Fin grid0.N, k0_off1 (grid0.coords t) = ![t.val % 2] := by decide +kernel
theorem off2_eq : ∀ t : Fin grid0.N, 2 ≤ t.val → k0_off2 (grid0.coords t) = ![t.val - 2, 0, 0] := by decide +kernel
theorem off3_eq : ∀ t : Fin grid0.N, k0_off3 (grid0.coords t) = ![t.val % 2, 0, 0] := by decide +kernel
theorem off4_eq : ∀ t : Fin grid0.N, k0_off4 (grid0.coords t) = ![t.val % 2, 0, 0] := by decide +kernel
theorem off5_eq : ∀ t : Fin grid0.N, k0_off5 (grid0.coords t) = ![t.val % 2] := by decide +kernel
theorem off6_eq : ∀ t : Fin grid0.N, k0_off6 (grid0.coords t) = ![t.val, 0, 0] := by decide +kernel
theorem off7_eq : ∀ t : Fin grid0.N, k0_off7 (grid0.coords t) = ![t.val % 2, 0, 0] := by decide +kernel
theorem off8_eq : ∀ t : Fin grid0.N, k0_off8 (grid0.coords t) = ![t.val / 4, 0, 0] := by decide +kernel
theorem off9_eq : ∀ t : Fin grid0.N, k0_off9 (grid0.coords t) = ![t.val / 4] := by decide +kernel
theorem off10_eq : ∀ (t : Fin grid0.N) (c : Dev nD), k0_off10 (grid0.coords t) c = ![4 * (t.val / 4) + qd c, 0, 0] := by decide +kernel
theorem off11_eq : ∀ t : Fin grid0.N, k0_off11 (grid0.coords t) = ![t.val / 4, 0, 0] := by decide +kernel
theorem off12_eq : ∀ t : Fin grid0.N, 4 ≤ t.val → k0_off12 (grid0.coords t) = ![t.val / 4 - 1] := by decide +kernel
theorem off13_eq : ∀ (t : Fin grid0.N) (c : Dev nD), 4 ≤ t.val → k0_off13 (grid0.coords t) c = ![4 * (t.val / 4 - 1) + qd c, 0, 0] := by decide +kernel
theorem off14_eq : ∀ t : Fin grid0.N, 4 ≤ t.val → k0_off14 (grid0.coords t) = ![t.val / 4 - 1, 0, 0] := by decide +kernel
theorem off15_eq : ∀ t : Fin grid0.N, 20 ≤ t.val → k0_off15 (grid0.coords t) = ![(t.val - 20) / 3] := by decide +kernel
theorem off16_eq : ∀ (t : Fin grid0.N) (c : Dev nD), 20 ≤ t.val → k0_off16 (grid0.coords t) c = ![4 * ((t.val - 20) / 3) + qd (xp c), 0, 0] := by decide +kernel
theorem off17_eq : ∀ t : Fin grid0.N, 20 ≤ t.val → k0_off17 (grid0.coords t) = ![(t.val - 20) / 3] := by decide +kernel

theorem off18_eq : ∀ (c : Dev nD) (r : Fin 8), k0_off18 c (BitVec.ofNat 32 (4 * r.val)) = ![4 * r.val + qd c, 0, 0] := by decide +kernel
theorem off19_eq : ∀ (c : Dev nD) (r : Fin 8), k0_off19 c (BitVec.ofNat 32 (4 * r.val)) = ![4 * r.val + qd (yp c), 0, 0] := by decide +kernel
theorem off20_eq : ∀ (c : Dev nD) (r : Fin 8), k0_off20 c (BitVec.ofNat 32 (2048 * r.val)) = ![0, 16384 * (c.val % 2) + 2048 * r.val] := by decide +kernel
theorem off21_eq : ∀ (c : Dev nD) (r : Fin 8), k0_off21 c (BitVec.ofNat 32 (4 * r.val)) = ![4 * r.val + qd (xp (yp c)), 0, 0] := by decide +kernel
theorem off22_eq : ∀ (c : Dev nD) (r : Fin 8), k0_off22 c (BitVec.ofNat 32 (2048 * r.val)) = ![0, 16384 * (1 - c.val % 2) + 2048 * r.val] := by decide +kernel
theorem off23_eq : ∀ (c : Dev nD) (r : Fin 8), k0_off23 c (BitVec.ofNat 32 (4 * r.val)) = ![4 * r.val + qd (xp c), 0, 0] := by decide +kernel

end Cert.KernelIdeal.Hand
-- ==== Proof.Win.lean ====
/-
# The kernel's windows and contents

The stacked arrays (the received chunks, the device's own chunks, the two VMEM staging arrays of chunks) are held
slice by slice: `rowOf M h` is the slice `h` of the stacked memref `M`. The contents are named once: `eb m c j` is the
chunk `j` that device `c` computes (rounded), `accS m c n` its running row sums after `n` chunks, `chunk m c n r` the
piece `r` of the output item `n` before scaling, `outFin m c` the result.
-/
module

public import proofs.«01_k».proof.Proof.Tab
public import proofs.«01_k».proof.Proof.Gen.KernelIdeal.Frame
public import proofs.«01_k».proof.Proof.Gen.KernelIdeal.Skeleton
public import Idealize.ShloMosaic.Lib.ValueLayout
public import Idealize.ShloMosaic.Lib.ViewIndex
public import Idealize.ShloMosaic.Lib.Pipeline.Value

@[expose] public section

noncomputable section

namespace Cert.KernelIdeal.Hand

open Cert.KernelIdeal Cert.KernelIdeal.Gen
open Idealize.ShloMosaic Idealize.ShloMosaic.ValueIdx
open Idealize.ShloMosaic.TcCoe

variable {F : FTy → Type} [FloatOps F]

/-! ## Memrefs -/

abbrev xM0 : Memref sig .tc .vmem S1024x2048 .bf16 := Memref.whole cc0_stg0_0
abbrev outM : Memref sig .tc .hbm S1024x32768 .f32 := Memref.whole main_v1_0
abbrev recvM : Memref sig .tc .hbm S32x1024x512 .bf16 := Memref.whole main_v1_1
abbrev emM : Memref sig .tc .hbm S32x1024x512 .bf16 := Memref.whole main_v1_2
abbrev commM : Memref sig .tc .vmem S8x1024x512 .bf16 := Memref.whole cc0_scratch0
abbrev estM : Memref sig .tc .vmem S2x1024x512 .bf16 := Memref.whole cc0_scratch1
abbrev accM : Memref sig .tc .vmem S1024x1 .f32 := Memref.whole cc0_scratch2
abbrev othM : Memref sig .tc .vmem S1024x1 .f32 := Memref.whole cc0_scratch3
abbrev ostM : Memref sig .tc .vmem S2x1024x2048 .f32 := Memref.whole cc0_scratch4
abbrev istM : Memref sig .tc .vmem S2x4x1024x512 .bf16 := Memref.whole cc0_scratch5

/-- The shape of `n` stacked chunks. -/
abbrev Stk (n : Nat) : Shape := ⟨3, ![n, 1024, 512]⟩

theorem row_inb {n : Nat} (h : Fin n) : ∀ a, (![h.val, 0, 0] : Fin 3 → Nat) a + S1x1024x512.size a ≤ (Stk n).size a := by
  intro a
  match a with
  | ⟨0, _⟩ => exact h.isLt
  | ⟨1, _⟩ => exact Nat.le_refl _
  | ⟨2, _⟩ => exact Nat.le_refl _

/-- Slice `h` of a stacked memref, as a chunk. -/
abbrev rowOf {sp : Space} {n : Nat} {e : EltTy} (M : Memref sig .tc sp (Stk n) e) (h : Fin n) : Memref sig .tc sp S1024x512 e :=
  (M.slice (Rect.unit (s := Stk n) ![h.val, 0, 0] S1x1024x512.size (row_inb h)) (fun _ => rfl)).squeeze S1024x512 squeezes_S1x1024x512_S1024x512

/-- Any spelling of the slice's offsets gives the slice. -/
theorem rowOf_of {sp : Space} {n : Nat} {e : EltTy} (M : Memref sig .tc sp (Stk n) e) (h : Fin n) {off : Fin 3 → Nat}
    (hoff : off = ![h.val, 0, 0]) (inb : ∀ a, off a + S1x1024x512.size a ≤ (Stk n).size a) :
    (M.slice (Rect.unit (s := Stk n) off S1x1024x512.size inb) (fun _ => rfl)).squeeze S1024x512 squeezes_S1x1024x512_S1024x512
      = rowOf M h := by
  subst hoff; rfl

section Rows
variable {sp : Space} {n : Nat} {e : EltTy} (M : Memref sig .tc sp (Stk n) e)

theorem rowOf_emb (h : Fin n) (y : S1024x512.Idx) :
    (rowOf M h).view.emb y = M.view.emb (ix3 (n0 := n) (n1 := 1024) (n2 := 512) h (y 0) (y 1)) := by
  obtain ⟨a, b, rfl⟩ : ∃ (a : Fin 1024) (b : Fin 512), y = ix2 a b := ⟨y 0, y 1, eq_ix2 (n0 := 1024) (n1 := 512) y⟩
  show M.view.emb ((Rect.unit (s := Stk n) ![h.val, 0, 0] S1x1024x512.size (row_inb h)).emb
    (Shape.reshapeEquiv squeezes_S1x1024x512_S1024x512.numel_eq (ix2 a b))) = _
  refine congrArg M.view.emb ?_
  rw [show Shape.reshapeEquiv squeezes_S1x1024x512_S1024x512.numel_eq (ix2 a b) = ix3 ⟨0, Nat.one_pos⟩ a b from
    reshapeEquiv_ix2_1ab _ a b]
  refine Shape.idx3_ext ?_ ?_ ?_
  · show h.val + 1 * 0 = h.val; omega
  · show 0 + 1 * a.val = a.val; omega
  · show 0 + 1 * b.val = b.val; omega

/-- The slices of a stacked memref are disjoint. -/
theorem rowOf_disjoint {h h' : Fin n} (hne : h ≠ h') : Disjoint (rowOf M h).view.set (rowOf M h').view.set := by
  rw [Finset.disjoint_left]
  intro i hi hi'
  obtain ⟨y, hy⟩ := View.exists_emb_of_mem_set _ hi
  obtain ⟨y', hy'⟩ := View.exists_emb_of_mem_set _ hi'
  rw [rowOf_emb] at hy hy'
  have := M.view.emb.injective (hy.trans hy'.symm)
  exact hne (congrFun this 0)

/-- They cover it. -/
theorem rowOf_cover : Finset.univ.biUnion (fun h : Fin n => (rowOf M h).view.set) = M.view.set := by
  ext i
  rw [Finset.mem_biUnion]
  constructor
  · rintro ⟨h, -, hi⟩
    obtain ⟨y, rfl⟩ := View.exists_emb_of_mem_set _ hi
    rw [rowOf_emb]; exact View.emb_mem_set _ _
  · intro hi
    obtain ⟨j, rfl⟩ := View.exists_emb_of_mem_set _ hi
    obtain ⟨h, a, b, rfl⟩ : ∃ (h : Fin n) (a : Fin 1024) (b : Fin 512), j = ix3 h a b :=
      ⟨j 0, j 1, j 2, eq_ix3 (n0 := n) (n1 := 1024) (n2 := 512) j⟩
    refine ⟨h, Finset.mem_univ _, ?_⟩
    exact (show M.view.emb (ix3 h a b) = _ from (rowOf_emb M h (ix2 a b)).symm) ▸ View.emb_mem_set _ _

end Rows

/-- The stacked array whose slice `h` is `g h`. -/
def stk {n : Nat} {e : EltTy} (g : Fin n → Vec F S1024x512 e) : Vec F (Stk n) e :=
  fun i => g (i 0) (ix2 (n0 := 1024) (n1 := 512) (i 1) (i 2))

omit [FloatOps F] in
/-- A slice of a stacked array reads its entry. -/
theorem read_rowOf {sp : Space} {n : Nat} {e : EltTy} (M : Memref sig .tc sp (Stk n) e) (h : Fin n)
    (G : M.view.ty.Contents (Elt F)) (g : Fin n → Vec F S1024x512 e) (hG : M.view.read (Elt F) G = stk g) :
    (rowOf M h).view.read (Elt F) G = g h := by
  funext y
  have h1 := congrFun hG (ix3 (n0 := n) (n1 := 1024) (n2 := 512) h (y 0) (y 1))
  rw [View.read_apply] at h1 ⊢
  have h2 : (rowOf M h).view.emb y = M.view.emb (ix3 (n0 := n) (n1 := 1024) (n2 := 512) h (y 0) (y 1)) := rowOf_emb M h y
  have h3 : G ((rowOf M h).view.emb y) = G (M.view.emb (ix3 (n0 := n) (n1 := 1024) (n2 := 512) h (y 0) (y 1))) := congrArg G h2
  refine Eq.trans ?_ (h1.trans ?_)
  · exact congrArg (_root_.cast _) h3
  · exact congrArg (g h) (eq_ix2 (n0 := 1024) (n1 := 512) y).symm

omit [FloatOps F] in
/-- What a transfer leaves under its destination, when the source reads there what `G` holds. -/
theorem write_landed {sp : Space} {s : Shape} {e : EltTy} (v : View sig .tc sp s e) (f G : v.ty.Contents (Elt F))
    (w : s.Idx → Elt F e) (h : v.read (Elt F) G = w) : ∀ i ∈ v.set, v.write (Elt F) f w Finset.univ i = G i := by
  intro i hi
  obtain ⟨y, rfl⟩ := View.exists_emb_of_mem_set _ hi
  rw [View.write_emb_of_mem _ _ (Finset.mem_univ y), ← h, View.read_apply, cast_cast, cast_eq]

/-! ## The chunks -/

section Contents
variable (m : (ℓ : Loc nD τ sig) → Buf (Elt F) ℓ)

set_option backward.proofsInPublic true in
/-- A grid point from a chunk's number. -/
def pt (j : Fin 32) : Fin cfg0.N := ⟨j.val, by rw [show cfg0.N = 32 from N_0]; exact j.isLt⟩

/-- The `exp` of the chunk `j` of the logits of device `c`. -/
def eE (c : Dev nD) (j : Fin 32) : FVec F S1024x512 .f32 := k0_pay78 (F := F) (iblk m c 0 (pt j)) (iblk m c 1 (pt j))
/-- The same, rounded. -/
def eb (c : Dev nD) (j : Fin 32) : Vec F S1024x512 .bf16 := k0_pay79 (F := F) (eE m c j)
/-- Its row sums. -/
def rsum (c : Dev nD) (j : Fin 32) : FVec F S1024x1 .f32 := k0_pay80 (F := F) (eE m c j)

set_option backward.proofsInPublic true in
/-- The running row sums after `n + 1` chunks. -/
def accS (c : Dev nD) : Nat → Vec F S1024x1 .f32
  | 0 => k0_pay82 (F := F) (rsum m c 0)
  | n + 1 => k0_pay83 (F := F) (rsum m c ⟨(n + 1) % 32, Nat.mod_lt _ (by decide)⟩) (accS c n)

/-- The row sums over all the chunks of `c`. -/
def sumC (c : Dev nD) : Vec F S1024x1 .f32 := accS m c 31

/-- The array that `c` receives the other half's chunks in. -/
def recvC (c : Dev nD) : Vec F S32x1024x512 .bf16 := stk fun h => eb m (srcDev c h) h
/-- The array that `c` keeps its own chunks in. -/
def emC (c : Dev nD) : Vec F S32x1024x512 .bf16 := stk fun h => eb m c h
set_option backward.proofsInPublic true in
/-- The chunks `c` sends across `z`. -/
def commC (c : Dev nD) : Vec F S8x1024x512 .bf16 := stk fun k => eb m c ⟨(4 * k.val + qd c) % 32, Nat.mod_lt _ (by decide)⟩
/-- A staging array both of whose slots hold the chunk `j`. -/
def estC (c : Dev nD) (j : Fin 32) : Vec F S2x1024x512 .bf16 := stk fun _ => eb m c j

/-- The factor of the rows: one over the sum of both halves' row sums. -/
def invC (c : Dev nD) : FVec F S1024x1 .f32 := k0_pay1 (F := F) (sumC m c) (sumC m (zp c))

/-- A chunk scaled by the factor `v`. -/
def scl (v : FVec F S1024x1 .f32) (w : Vec F S1024x512 .bf16) : Vec F S1024x512 .f32 :=
  k0_pay2 (F := F) v (shapeCast S1x1x1024x512 w (by decide)) |> fun u => shapeCast S1024x512 u (by decide)

set_option backward.proofsInPublic true in
/-- Piece `r` of the output item `n`, before scaling: the items 0–7 are the device's own chunks, the items 8–15 the
    received ones. -/
def chunk (c : Dev nD) (n : Fin 16) (r : Fin 4) : Vec F S1024x512 .bf16 :=
  if n.val < 8 then eb m c ⟨(4 * n.val + r.val) % 32, Nat.mod_lt _ (by decide)⟩
  else eb m (srcDev c ⟨(4 * (n.val - 8) + r.val) % 32, Nat.mod_lt _ (by decide)⟩) ⟨(4 * (n.val - 8) + r.val) % 32, Nat.mod_lt _ (by decide)⟩

/-- An input staging array both of whose slots hold the item `n`. -/
def istC (c : Dev nD) (n : Fin 16) : Vec F S2x4x1024x512 .bf16 :=
  fun i => chunk m c n (i 1) (ix2 (n0 := 1024) (n1 := 512) (i 2) (i 3))

set_option backward.proofsInPublic true in
/-- The item `n` scaled, at row `a` and column `b` of its 2048. -/
def itemAt (c : Dev nD) (n : Fin 16) (a : Fin 1024) (b : Fin 2048) : Elt F .f32 :=
  scl (invC m c) (chunk m c n ⟨b.val / 512, by have := b.isLt; omega⟩) (ix2 (n0 := 1024) (n1 := 512) a ⟨b.val % 512, Nat.mod_lt _ (by decide)⟩)

/-- An output staging array both of whose slots hold the item `n` scaled. -/
def ostC (c : Dev nD) (n : Fin 16) : Vec F S2x1024x2048 .f32 := fun i => itemAt m c n (i 1) (i 2)

set_option backward.proofsInPublic true in
/-- The item that the result's column `b` belongs to on device `c`. -/
def itemOf (c : Dev nD) (b : Fin 32768) : Fin 16 :=
  ⟨(if b.val / 16384 = c.val % 2 then b.val % 16384 / 2048 else 8 + b.val % 16384 / 2048) % 16, Nat.mod_lt _ (by decide)⟩

set_option backward.proofsInPublic true in
/-- The result on device `c`. -/
def outFin (c : Dev nD) : Vec F S1024x32768 .f32 :=
  fun i => itemAt m c (itemOf c (i 1)) (i 0) ⟨(i 1).val % 2048, Nat.mod_lt _ (by decide)⟩

end Contents

/-! ## The semaphore expressions -/

section Sems

/-- Semaphore `k` of an array of `n` consecutive ones. -/
theorem sem_at {n : Nat} (base : Nat) (hb : base + (⟨1, ![n]⟩ : Shape).numel ≤ sig.nDmaSem) {off : Fin 1 → Nat} (k : Nat) (hoff : off = ![k])
    (inb : ∀ a, off a + S1.size a ≤ (⟨1, ![n]⟩ : Shape).size a) (s : DmaSem sig) (hs : s.val = base + k) :
    (((SemArray.consecutive base ⟨1, ![n]⟩ hb : DmaSems sig ⟨1, ![n]⟩).slice (Rect.unit (s := ⟨1, ![n]⟩) off S1.size inb)).squeeze S_
      squeezes_S1_S_).sem = s := by
  subst hoff
  refine Fin.ext ?_
  rw [hs]
  have hx : ∀ x : S1.Idx, (x 0).val = 0 := fun x => by have := (x 0).isLt; change (x 0).val < 1 at this; omega
  show base + (Shape.rowMajor ⟨1, ![n]⟩ ((Rect.unit (s := ⟨1, ![n]⟩) ![k] S1.size inb).emb
    (Shape.reshapeEquiv squeezes_S1_S_.numel_eq fun i => i.elim0))).val = base + k
  rw [Shape.rowMajor_val_one]
  have := hx (Shape.reshapeEquiv squeezes_S1_S_.numel_eq fun i => i.elim0)
  show base + (k + 1 * (Shape.reshapeEquiv squeezes_S1_S_.numel_eq (fun i => i.elim0) 0).val) = base + k
  omega

end Sems

end Cert.KernelIdeal.Hand
-- ==== Proof.Sched.lean ====
/-
# The messages' schedule

Every message of a device has a send cell on its sender and a receive cell on its receiver; every device has the
runtime's barrier cell. One round each: a barrier cell takes one unit from each of the three peers, each handing over the
places the messages to it land in; a send or receive cell takes the credit of its message.
-/
module

public import proofs.«01_k».proof.Proof.Win
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

omit [FloatOps F] in
theorem ER_lands : (ER : Emb UB 𝕄).LandsIn (upEmb : UEmb _ 𝕄) := by infer_instance
omit [FloatOps F] in
theorem EC_lands : (EC : UEmb Counters 𝕄).LandsIn (upEmb : UEmb _ 𝕄) := by infer_instance

variable (m : (ℓ : Loc nD τ sig) → Buf (Elt F) ℓ)

/-! ## The cells -/

/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (k : Msg) : GSem nD τ sig := ((c : Thread nD τ), .dma (sendSem k))
abbrev recvCell (c : Dev nD) (k : Msg) : GSem nD τ sig := ((c : Thread nD τ), .dma (recvSem k))

/-- A device's cells: the barrier's, and each message's at its two ends. -/
abbrev CI : Type := Option (Bool × Msg)

abbrev csem : CI → SemLoc sig
  | none => .reg barS
  | some (false, k) => .dma (sendSem k)
  | some (true, k) => .dma (recvSem k)
abbrev kcell (ck : Dev nD × CI) : GSem nD τ sig := ((ck.1 : Thread nD τ), csem ck.2)

/-- Which of them a semaphore is, if any. -/
def dec : SemLoc sig → Option CI
  | .reg s => if s = barS then some none else none
  | .dma s =>
    match (List.finRange 33).find? (fun k => sendSem k = s) with
    | some k => some (some (false, k))
    | none => match (List.finRange 33).find? (fun k => recvSem k = s) with
      | some k => some (some (true, k))
      | none => none

theorem dec_bar : dec (.reg barS) = some none := by unfold dec; exact if_pos rfl
theorem dec_send : ∀ k : Fin 33, dec (.dma (sendSem k)) = some (some (false, k)) := by decide +kernel
theorem dec_recv : ∀ k : Fin 33, dec (.dma (recvSem k)) = some (some (true, k)) := by decide +kernel
theorem dec_csem : ∀ i : CI, dec (csem i) = some i
  | none => dec_bar
  | some (false, k) => dec_send k
  | some (true, k) => dec_recv k

theorem kcell_injective : Function.Injective (kcell : Dev nD × CI → GSem nD τ sig) := by
  rintro ⟨c, i⟩ ⟨c', i'⟩ h
  have h1 : c = c' := congrArg (fun g : GSem nD τ sig => g.1.1) h
  have h2 : csem i = csem i' := congrArg Prod.snd h
  have h3 := congrArg dec h2
  rw [dec_csem, dec_csem] at h3
  rw [h1, Option.some.inj h3]

/-! ## Credits -/

abbrev NC : ℕ := (rowOf recvM 0).view.dmaCredit
abbrev NS : ℕ := othM.view.dmaCredit
/-- The credit of a message. -/
def amt (k : Msg) : ℕ := if k.val < 32 then NC else NS
theorem amt_pos (k : Msg) : 0 < amt k := by
  unfold amt; split <;> exact View.dmaCredit_pos _ (by decide)
theorem amt_lt {k : Msg} (h : k.val < 32) : amt k = NC := if_pos h
theorem amt_mst : amt mst = NS := if_neg (by decide)

/-! ## The places -/

/-- The place `c`'s message `k` lands in, at any contents. -/
def landing (c : Dev nD) (k : Msg) : sProp 𝕄 :=
  if k.val < 32 then iprop(∃ f, (rowOf recvM (H c k)).view.loc (c : Thread nD τ) ↦[(rowOf recvM (H c k)).view.set]{fullShare} f)
  else iprop(∃ f, othM.view.loc (c : Thread nD τ) ↦[othM.view.set]{fullShare} f)

/-- The received slice `h` of `c`, holding its chunk. -/
def recvPts (c : Dev nD) (q : PosShare TreeShare) (h : Fin 32) : sProp 𝕄 :=
  (rowOf recvM h).view.loc (c : Thread nD τ) ↦[(rowOf recvM h).view.set]{q} recvC m c

/-- The other half's row sums, received. -/
def othPts (c : Dev nD) : sProp 𝕄 := othM.view.loc (c : Thread nD τ) ↦[othM.view.set]{fullShare} sumC m (zp c)

/-- What `c` gets with its message `k`. -/
def recvPay (c : Dev nD) (k : Msg) : sProp 𝕄 := if k.val < 32 then recvPts m c fullShare (H c k) else othPts m c

/-- The row sums of `c`, at a share. -/
def accPts (c : Dev nD) (q : PosShare TreeShare) (f : Vec F S1024x1 .f32) : sProp 𝕄 :=
  accM.view.loc (c : Thread nD τ) ↦[accM.view.set]{q} f

/-- A slot of the array that `c` sends across `z` from, at any contents. -/
def commAny (c : Dev nD) (k : Fin 8) : sProp 𝕄 :=
  iprop(∃ f, (rowOf commM k).view.loc (c : Thread nD τ) ↦[(rowOf commM k).view.set]{fullShare} f)

/-- What `c` gets back with its own message `k`. -/
def sendPay (c : Dev nD) (k : Msg) : sProp 𝕄 :=
  if h : k.val < 8 then commAny c ⟨k.val, h⟩ else if k.val < 32 then iprop(emp) else accPts c fullShare.left (sumC m c)

/-- What the peer of class `d` hands `c` at the barrier: the places `c`'s messages to it land in. -/
def barPay (c : Dev nD) (d : Fin 3) : sProp 𝕄 := bigSep (Finset.univ.filter fun k : Msg => cls k = d) fun k => landing (tgt c k) k

/-! ## The schedule -/

def Rd : Rounds.Schedule (GSem nD τ sig) (Fin 3) 𝕄 where
  duties g r := if r = 0 ∧ g.1.2 = .tc then (match dec g.2 with | some none => Finset.univ | some (some _) => {0} | none => ∅) else ∅
  unitless _ := False
  amount g _ _ := match dec g.2 with | some (some (_, k)) => amt k | _ => 1
  payload g _ d := match dec g.2 with
    | some none => barPay g.1.1 d
    | some (some (false, k)) => sendPay m g.1.1 k
    | some (some (true, k)) => recvPay m g.1.1 k
    | none => iprop(emp)
  amount_pos g _ _ _ := by
    generalize dec g.2 = o
    match o with
    | none => exact Nat.one_pos
    | some none => exact Nat.one_pos
    | some (some (_, k)) => exact amt_pos k

omit [FloatOps F] in
instance landing_storable (c : Dev nD) (k : Msg) : BI.Storable (upEmb : UEmb _ 𝕄) (landing (F := F) c k) := by
  unfold landing; split <;> infer_instance
instance recvPay_storable (c : Dev nD) (k : Msg) : BI.Storable (upEmb : UEmb _ 𝕄) (recvPay m c k) := by
  unfold recvPay recvPts othPts; split <;> infer_instance
instance sendPay_storable (c : Dev nD) (k : Msg) : BI.Storable (upEmb : UEmb _ 𝕄) (sendPay m c k) := by
  unfold sendPay commAny accPts; (repeat' split) <;> infer_instance
omit [FloatOps F] in
instance barPay_storable (c : Dev nD) (d : Fin 3) : BI.Storable (upEmb : UEmb _ 𝕄) (barPay (F := F) c d) := by
  unfold barPay; infer_instance

instance Rd_payload_storable (g : GSem nD τ sig) (r : ℕ) (d : Fin 3) : BI.Storable (upEmb : UEmb _ 𝕄) ((Rd m).payload g r d) := by
  show BI.Storable upEmb (match dec g.2 with
    | some none => barPay g.1.1 d
    | some (some (false, k)) => sendPay m g.1.1 k
    | some (some (true, k)) => recvPay m g.1.1 k
    | none => iprop(emp))
  split <;> infer_instance

section Lemmas
variable (c : Dev nD) (k : Msg)

theorem duties_bar : (Rd m).duties (barCell c) 0 = Finset.univ := by
  dsimp only [Rd]; rw [if_pos ⟨rfl, rfl⟩, dec_bar]
theorem duties_send : (Rd m).duties (sendCell c k) 0 = {0} := by
  dsimp only [Rd]; rw [if_pos ⟨rfl, rfl⟩, dec_send]
theorem duties_recv : (Rd m).duties (recvCell c k) 0 = {0} := by
  dsimp only [Rd]; rw [if_pos ⟨rfl, rfl⟩, dec_recv]
theorem duties_later (g : GSem nD τ sig) : ∀ r, 1 ≤ r → (Rd m).duties g r = ∅ :=
  fun r hr => by dsimp only [Rd]; rw [if_neg fun h => by omega]

theorem amount_bar (d : Fin 3) : (Rd m).amount (barCell c) 0 d = 1 := by dsimp only [Rd]; rw [dec_bar]
theorem amount_send (d : Fin 3) : (Rd m).amount (sendCell c k) 0 d = amt k := by dsimp only [Rd]; rw [dec_send]
theorem amount_recv (d : Fin 3) : (Rd m).amount (recvCell c k) 0 d = amt k := by dsimp only [Rd]; rw [dec_recv]

theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd m).expect (sendCell c k) 0 = amt k := by
  unfold Schedule.expect Schedule.amountOf; rw [duties_send, Finset.sum_singleton, amount_send]
theorem expect_recv : (Rd m).expect (recvCell c k) 0 = amt k := by
  unfold Schedule.expect Schedule.amountOf; rw [duties_recv, Finset.sum_singleton, amount_recv]

theorem payload_bar (d : Fin 3) : (Rd m).payload (barCell c) 0 d = barPay c d := by dsimp only [Rd]; rw [dec_bar]
theorem payload_send (d : Fin 3) : (Rd m).payload (sendCell c k) 0 d = sendPay m c k := by dsimp only [Rd]; rw [dec_send]
theorem payload_recv (d : Fin 3) : (Rd m).payload (recvCell c k) 0 d = recvPay m c k := by dsimp only [Rd]; rw [dec_recv]

/-- The three payloads of a barrier cell: the landing place of every message of `c`. -/
theorem rest_bar : bigSep ((Rd m).duties (barCell c) 0 \ ∅) (fun d => (Rd m).payload (barCell c) 0 d)
    = bigSep Finset.univ fun k : Msg => landing (F := F) (tgt c k) k := by
  rw [Finset.sdiff_empty, duties_bar, BI.bigSep_congr fun d _ => payload_bar m c d]
  unfold barPay
  rw [← bigSep_biUnion_eq Finset.univ (fun d : Fin 3 => Finset.univ.filter fun k : Msg => cls k = d)]
  · congr 1
    ext k; simp
  · intro d _ d' _ hne
    exact Finset.disjoint_filter.mpr fun k _ h h' => hne (h.symm.trans h')
theorem rest_send : bigSep ((Rd m).duties (sendCell c k) 0 \ ∅) (fun d => (Rd m).payload (sendCell c k) 0 d) = sendPay m c k := by
  rw [Finset.sdiff_empty, duties_send, bigSep_singleton, payload_send]
theorem rest_recv : bigSep ((Rd m).duties (recvCell c k) 0 \ ∅) (fun d => (Rd m).payload (recvCell c k) 0 d) = recvPay m c k := by
  rw [Finset.sdiff_empty, duties_recv, bigSep_singleton, payload_recv]

end Lemmas

/-! ## What a device owes, and the levels -/

/-- What `c` owes when it has sent the messages of `A`: the receive cells of the others. -/
def Ow (c : Dev nD) (A : Finset Msg) : CellTallies nD τ sig Unit :=
  ∑ k ∈ Finset.univ \ A, tallyAt (recvCell (tgt c k) k) () (amt k)

theorem Ow_peel (c : Dev nD) (A : Finset Msg) {k : Msg} (h : k ∉ A) :
    Ow c A = Ow c (insert k A) + tallyAt (recvCell (tgt c k) k) () (amt k) := by
  unfold Ow
  have : Finset.univ \ A = insert k (Finset.univ \ insert k A) := by
    ext j; by_cases hj : j = k
    · subst hj; simp [h]
    · simp [hj]
  rw [this, Finset.sum_insert (by simp), add_comm]

theorem Ow_univ (c : Dev nD) : Ow c Finset.univ = 0 := by unfold Ow; rw [Finset.sdiff_self, Finset.sum_empty]

def O₂ (c : Dev nD) : CellTallies nD τ sig Unit := Ow c ∅ + tallyAt (barCell (yp c)) () 1
def O₁ (c : Dev nD) : CellTallies nD τ sig Unit := O₂ c + tallyAt (barCell (xp c)) () 1
/-- At launch `c` owes its peers' barrier cells a unit each, and every receive cell of its messages. -/
def O₀ (c : Dev nD) : CellTallies nD τ sig Unit := O₁ c + tallyAt (barCell (zp c)) () 1

def L (g : GSem nD τ sig) : Finset Unit := if g.1.2 = .tc then {()} else ∅

/-- The level of a message's receive cell: rising in the order the messages are waited for before others are sent. -/
def mlev (k : Msg) : ℕ :=
  if k.val < 8 then 40 * k.val + 31 else if k.val < 16 then 40 * (k.val - 8) + 42 else if k.val < 24 then 40 * (k.val - 16) + 42
  else if k.val < 28 then 203 + 30 * (k.val - 24) else if k.val < 32 then 372 + k.val else 390

def lv (g : GSem nD τ sig) (_ : Unit) : ℕ := match dec g.2 with
  | some none => 1
  | some (some (true, k)) => mlev k
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; dsimp only; rw [dec_bar]
theorem lv_recv (c : Dev nD) (k : Msg) (u : Unit) : lv (recvCell c k) u = mlev k := by unfold lv; dsimp only; rw [dec_recv]
theorem lv_send (c : Dev nD) (k : Msg) (u : Unit) : lv (sendCell c k) u = 0 := by unfold lv; dsimp only; rw [dec_send]
theorem lv_none (c : Dev nD) (s : SemLoc sig) (h : dec s = none) (u : Unit) : lv ((c : Thread nD τ), s) u = 0 := by unfold lv; dsimp only; rw [h]

theorem Ow_pos {c : Dev nD} {A : Finset Msg} {g : GSem nD τ sig} {u : Unit} (h : 0 < Ow c A g u) :
    ∃ k, k ∉ A ∧ g = recvCell (tgt c k) k := by
  unfold Ow at h
  rw [Finset.sum_apply, Finsupp.finset_sum_apply] at h
  by_contra hn
  have : ∑ k ∈ Finset.univ \ A, (tallyAt (recvCell (tgt c k) k) () (amt k) : CellTallies nD τ sig Unit) g u = 0 :=
    Finset.sum_eq_zero fun k hk => by
      rw [tallyAt_apply]
      exact if_neg fun hg => hn ⟨k, (Finset.mem_sdiff.mp hk).2, hg.1⟩
  omega

theorem O₀_pos {c : Dev nD} {g : GSem nD τ sig} {u : Unit} (h : 0 < O₀ c g u) :
    (∃ k, g = recvCell (tgt c k) k) ∨ ∃ c', g = barCell c' := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨k, -, hk⟩ := Ow_pos (c := c) (A := ∅) (g := g) (u := u) (by omega)
  exact hn.1 ⟨k, hk⟩

omit [FloatOps F] in
/-- A wait below everything owed. -/
theorem mayWait_of (c : Dev nD) (sm : SemLoc sig) (O : CellTallies nD τ sig Unit) (n : ℕ) (h : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

omit [FloatOps F] in
/-- A wait with the messages outside `A` unsent, below their levels. -/
theorem mayWait_Ow (c : Dev nD) (sm : SemLoc sig) (A : Finset Msg) (n : ℕ) (h : lv ((c : Thread nD τ), sm) () ≤ n)
    (hA : ∀ k, k ∉ A → n < mlev k) : (levAts L lv : sProp 𝕄) ⊢ MayWait (c : Thread nD τ) sm () (Ow c A) :=
  mayWait_of c sm _ n h fun g u hg => by
    obtain ⟨k, hk, rfl⟩ := Ow_pos hg
    exact ⟨rfl, by rw [lv_recv]; exact hA k hk⟩

theorem mlev_pos : ∀ k : Fin 33, 1 < mlev k := by decide +kernel

omit [FloatOps F] in
theorem mayWait_bar (c : Dev nD) : (levAts L lv : sProp 𝕄) ⊢ MayWait (c : Thread nD τ) (.reg barS) () (Ow c ∅) :=
  mayWait_Ow c _ _ 1 (le_of_eq (lv_bar c ())) fun k _ => mlev_pos k

omit [FloatOps F] in
theorem mayWait_local (c : Dev nD) (sm : SemLoc sig) (h : dec sm = none) (A : Finset Msg) :
    (levAts L lv : sProp 𝕄) ⊢ MayWait (c : Thread nD τ) sm () (Ow c A) :=
  mayWait_Ow c _ _ 0 (le_of_eq (lv_none c sm h ())) fun k _ => lt_trans Nat.one_pos (mlev_pos k)

omit [FloatOps F] in
theorem mayWait_launch (c : Dev nD) (sm : SemLoc sig) (h : dec sm = none) :
    (levAts L lv : sProp 𝕄) ⊢ MayWait (c : Thread nD τ) sm () (O₀ c) :=
  mayWait_of c sm _ 0 (le_of_eq (lv_none c sm h ())) fun g u hg => by
    rcases O₀_pos hg with ⟨k, rfl⟩ | ⟨c', rfl⟩
    · exact ⟨rfl, by rw [lv_recv]; exact lt_trans Nat.one_pos (mlev_pos k)⟩
    · exact ⟨rfl, by rw [lv_bar]; exact Nat.one_pos⟩

/-! ## The order -/

/-- The grid point at which the message `k` is sent by a device at position `q` of its plane (32: in the last point's
    closing part; 33: there, after the row sums). -/
def sTime (q : ℕ) (k : Msg) : ℕ :=
  if k.val < 8 then 4 * k.val + q else if k.val < 16 then 4 * (k.val - 8) + 4 else if k.val < 24 then 4 * (k.val - 16) + 4
  else if k.val < 28 then 20 + 3 * (k.val - 24) else if k.val < 32 then 32 else 32
/-- The messages sent before the grid point `n`. -/
def sent (c : Dev nD) (n : ℕ) : Finset Msg := Finset.univ.filter fun k => sTime (qd c) k < n

/-- The grid point at which the message `k` is waited for. -/
def rTime (k : Msg) : ℕ :=
  if k.val < 7 then 4 * k.val + 4 else if k.val < 8 then 32 else if k.val < 12 then 20 + 3 * (k.val - 8) else 32
def recvd (n : ℕ) : Finset Msg := Finset.univ.filter fun k => rTime k < n

theorem sent_zero (c : Dev nD) : sent c 0 = ∅ := by unfold sent; exact Finset.filter_false_of_mem fun k _ => Nat.not_lt_zero _
theorem recvd_zero : recvd 0 = ∅ := by unfold recvd; exact Finset.filter_false_of_mem fun k _ => Nat.not_lt_zero _

end Cert.KernelIdeal.Hand
-- ==== Proof.Rules.lean ====
/-
# The state between the kernel's effects, and a rule per kind of effect

What device `c` holds is a handful of families: per message (`SentSt`, `CommSt`, `RecvSt`, `EndSt`), per own chunk (`EmSt`), per staging slot
(`EsSt`). Each rule moves one entry of a family.
-/
module

public import proofs.«01_k».proof.Proof.Sched
public import Idealize.ShloMosaic.Lib.Ring.Trips

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the kernel's body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- One entry of a family changes. -/
theorem bigSep_upd {I : Type} [Fintype I] [DecidableEq I] (a : I) (Φ Ψ : I → sProp 𝕄) (h : ∀ x, x ≠ a → Ψ x = Φ x) :
    bigSep Finset.univ Φ ⊢ iprop(Φ a ∗ (Ψ a -∗ bigSep Finset.univ Ψ)) := by
  have e1 : bigSep Finset.univ Φ = iprop(Φ a ∗ bigSep (Finset.univ.erase a) Φ) := BI.bigSep_erase (Finset.mem_univ a)
  have e2 : bigSep Finset.univ Ψ = iprop(Ψ a ∗ bigSep (Finset.univ.erase a) Φ) := by
    rw [← BI.bigSep_congr (s := Finset.univ.erase a) (Φ := Ψ) (Ψ := Φ) fun x hx => h x (Finset.ne_of_mem_erase hx)]
    exact BI.bigSep_erase (Finset.mem_univ a)
  rw [e1, e2]
  iintro ⟨Ha, Hr⟩
  isplitl [Ha]; · iexact Ha
  iintro Hb
  isplitl [Hb]; · iexact Hb
  iexact Hr

/-! ## Loads and stores of a slice -/

section Row
variable {n : Nat} {e : EltTy} (M : Memref sig .tc .vmem (Stk n) e) (h : Fin n)

theorem access_row_set : (M.access (Rect.unit (s := Stk n) ![h.val, 0, 0] S1x1024x512.size (row_inb h))).set = (rowOf M h).view.set := by
  exact (View.set_reshape _ _).symm

/-- A load of a slice, whatever it holds. -/
theorem wp_rowload (c : Dev nD) {off : Fin 3 → Nat} (hoff : off = ![h.val, 0, 0]) (inb : ∀ a, off a + S1x1024x512.size a ≤ (Stk n).size a)
    {hl : M.view.LoadsAt (Rect.unit (s := Stk n) off S1x1024x512.size inb).toLoadRect} {α : Type} {Q : α → sProp 𝕄}
    {k : (S1x1024x512.Idx → Elt F e) → Prog (TpuEff nD τ sig (Elt F) Λ₀ .tc) α}
    (q : PosShare TreeShare) (f : M.view.ty.Contents (Elt F)) :
    ((rowOf M h).view.loc (c : Thread nD τ) ↦[(rowOf M h).view.set]{q} f : sProp 𝕄)
      ⊢ iprop((((rowOf M h).view.loc (c : Thread nD τ) ↦[(rowOf M h).view.set]{q} f)
            -∗ WP c (k (M.view.readAt (Elt F) (Rect.unit (s := Stk n) off S1x1024x512.size inb).toLoadRect f)) Q)
          -∗ WP c (.op (.load M (Rect.unit (s := Stk n) off S1x1024x512.size inb).toLoadRect hl) k) Q) := by
  subst hoff
  refine wp_load_rect 𝒱₀ (c : Thread nD τ) none Set.univ (m := M) (r := Rect.unit (s := Stk n) ![h.val, 0, 0] S1x1024x512.size (row_inb h))
    (S := (rowOf M h).view.set) ?_
  rw [access_row_set]

/-- A store of a whole slice, to contents that hold it. -/
theorem wp_rowstore (c : Dev nD) {off : Fin 3 → Nat} (hoff : off = ![h.val, 0, 0]) (inb : ∀ a, off a + S1x1024x512.size a ≤ (Stk n).size a)
    {w : S1x1024x512.Idx → Elt F e} {hx : (M.access (Rect.unit (s := Stk n) off S1x1024x512.size inb)).Stores Finset.univ}
    {hm : (Finset.univ : Finset S1x1024x512.Idx) = Finset.univ ∨ ∀ a, (Rect.unit (s := Stk n) off S1x1024x512.size inb).stride a = 1} {α : Type} {Q : α → sProp 𝕄}
    {k : PUnit → Prog (TpuEff nD τ sig (Elt F) Λ₀ .tc) α}
    (f G : M.view.ty.Contents (Elt F))
    (hG : ∀ y : S1024x512.Idx, (rowOf M h).view.read (Elt F) G y = w (Shape.reshapeEquiv squeezes_S1x1024x512_S1024x512.numel_eq y)) :
    ((rowOf M h).view.loc (c : Thread nD τ) ↦[(rowOf M h).view.set]{fullShare} f : sProp 𝕄)
      ⊢ iprop((((rowOf M h).view.loc (c : Thread nD τ) ↦[(rowOf M h).view.set]{fullShare} G) -∗ WP c (k ⟨⟩) Q)
          -∗ WP c (.op (.store M (Rect.unit (s := Stk n) off S1x1024x512.size inb) w Finset.univ hx hm) k) Q) := by
  subst hoff
  have hset := access_row_set M h
  have key : ((rowOf M h).view.loc (c : Thread nD τ) ↦[(rowOf M h).view.set]{fullShare}
      ((M.access (Rect.unit (s := Stk n) ![h.val, 0, 0] S1x1024x512.size (row_inb h))).write (Elt F) f w Finset.univ) : sProp 𝕄)
      = ((rowOf M h).view.loc (c : Thread nD τ) ↦[(rowOf M h).view.set]{fullShare} G) := by
    refine pointsTo_congr fun i hi => ?_
    obtain ⟨y, rfl⟩ := View.exists_emb_of_mem_set _ hi
    have h1 := hG y
    rw [View.read_apply] at h1
    have h2 := View.write_emb_of_mem (v := M.access (Rect.unit (s := Stk n) ![h.val, 0, 0] S1x1024x512.size (row_inb h))) (Val := Elt F)
      f w (Finset.mem_univ (Shape.reshapeEquiv squeezes_S1x1024x512_S1024x512.numel_eq y))
    refine Eq.trans h2 ?_
    rw [← h1, cast_cast, cast_eq]
  iintro H Hk
  iapply (wp_store 𝒱₀ (c : Thread nD τ) none Set.univ (m := M) (r := Rect.unit (s := Stk n) ![h.val, 0, 0] S1x1024x512.size (row_inb h))
    (Mk := Finset.univ) (S := (rowOf M h).view.set) (by rw [← hset]; exact subset_rfl)) $$ H
  iintro H
  iapply Hk
  iapply (Entails.of_eq key) $$ H

end Row

end Cert.KernelIdeal.Hand
-- ==== Proof.Fam.lean ====
/-
# The families a device holds, and the rules that move their entries
-/
module

public import proofs.«01_k».proof.Proof.Rules

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is shared -/

/-- The invariants and reached-marks of every cell of every device, and the levels. -/
def ctx (K : Dev nD × CI → ℕ) : sProp 𝕄 :=
  iprop((bigSep Finset.univ fun ci : Dev nD × CI => iprop(cellInv ER (Rd m) (K ci) (kcell ci) ∗ reached ER (kcell ci) 0)) ∗ levAts L lv)

instance ctx_persistent (K : Dev nD × CI → ℕ) : BI.Persistent (ctx m K) := by unfold ctx; infer_instance

theorem ctx_cell (K : Dev nD × CI → ℕ) (c : Dev nD) (i : CI) :
    ctx m K ⊢ iprop(cellInv ER (Rd m) (K (c, i)) (kcell (c, i)) ∗ reached ER (kcell (c, i)) 0) := by
  unfold ctx
  have h : (bigSep Finset.univ fun ci : Dev nD × CI => iprop(cellInv ER (Rd m) (K ci) (kcell ci) ∗ reached ER (kcell ci) 0) : sProp 𝕄)
      ⊢ iprop(cellInv ER (Rd m) (K (c, i)) (kcell (c, i)) ∗ reached ER (kcell (c, i)) 0) := BI.bigSep_elim (Finset.mem_univ (c, i))
  iintro ⟨H, -⟩
  iapply h $$ H

theorem ctx_lev (K : Dev nD × CI → ℕ) : ctx m K ⊢ levAts L lv := by
  unfold ctx
  iintro ⟨-, H⟩
  iexact H

/-- What `c` owes once it has sent the messages of `A`. -/
def Owes (c : Dev nD) (A : Finset Msg) : sProp 𝕄 := iprop(∃ W, owes (c : Thread nD τ) (Ow c A) W)

/-! ## Messages to send -/

/-- What `c` needs to send its message `k`: the two duties and the place it lands in. -/
def unsent (c : Dev nD) (k : Msg) : sProp 𝕄 :=
  iprop(dutyTok ER (sendCell c k) 0 (0 : Fin 3) ∗ dutyTok ER (recvCell (tgt c k) k) 0 (0 : Fin 3) ∗ landing (tgt c k) k)

/-- The messages of `A` are sent: their credits; the others are not. -/
def SentSt (c : Dev nD) (A : Finset Msg) : sProp 𝕄 :=
  bigSep Finset.univ fun k : Msg => if k ∈ A then cred (tallyAt (sendCell c k) () (amt k)) else unsent c k

/-- The slots sent across `z` from, of the messages not sent. -/
def CommSt (c : Dev nD) (A : Finset Msg) : sProp 𝕄 :=
  bigSep Finset.univ fun j : Fin 8 => if mz j ∈ A then iprop(emp) else commAny c j

/-- The send cells, none waited for. -/
def SAt (c : Dev nD) : sProp 𝕄 := bigSep Finset.univ fun k : Msg => atPos ER (sendCell c k) 0 (∅ : Finset (Fin 3)) 0

/-- All messages sent, the sends of `D` waited for. -/
def EndSt (c : Dev nD) (D : Finset Msg) : sProp 𝕄 :=
  bigSep Finset.univ fun k : Msg => if k ∈ D then iprop(semVal (sendCell c k) 0 ∗ sendPay m c k)
    else iprop(atPos ER (sendCell c k) 0 (∅ : Finset (Fin 3)) 0 ∗ cred (tallyAt (sendCell c k) () (amt k)))

theorem endSt_intro (c : Dev nD) : iprop(SAt (F := F) c ∗ SentSt (F := F) c Finset.univ) ⊢ EndSt m c ∅ := by
  unfold SAt SentSt EndSt
  refine (Entails.of_eq (BI.bigSep_sep Finset.univ _ _).symm).trans ?_
  refine BI.bigSep_mono fun k _ => ?_
  rw [if_pos (Finset.mem_univ k), if_neg (Finset.notMem_empty k)]
  exact BI.Entails.refl _

/-! ## Messages to receive -/

/-- The share kept of a received slice; the other two serve relays. -/
abbrev sK : PosShare TreeShare := fullShare.right.right
abbrev sL : PosShare TreeShare := fullShare.left
abbrev sR : PosShare TreeShare := fullShare.right.left

/-- The receive cells: those of `B` are closed. -/
def RecvSm (c : Dev nD) (B : Finset Msg) : sProp 𝕄 :=
  bigSep Finset.univ fun k : Msg => if k ∈ B then semVal (recvCell c k) 0
    else iprop(atPos ER (recvCell c k) 0 (∅ : Finset (Fin 3)) 0 ∗ cred (tallyAt (recvCell c k) () (amt k)))

/-- What is kept of a message received. -/
def kept (c : Dev nD) (k : Msg) : sProp 𝕄 := if k.val < 32 then recvPts m c sK (H c k) else othPts m c

/-- What is kept of the messages of `B`. -/
def KeptSt (c : Dev nD) (B : Finset Msg) : sProp 𝕄 :=
  bigSep Finset.univ fun k : Msg => if k ∈ B then kept m c k else iprop(emp)

theorem keptSt_put (c : Dev nD) (B : Finset Msg) (k : Msg) (h : k ∉ B) : KeptSt m c B ⊢ iprop(kept m c k -∗ KeptSt m c (insert k B)) := by
  unfold KeptSt
  iintro H
  ihave H := (bigSep_upd k (fun k : Msg => if k ∈ B then kept m c k else iprop(emp))
    (fun k' : Msg => if k' ∈ insert k B then kept m c k' else iprop(emp))
    (fun x hx => by simp only [Finset.mem_insert, hx, false_or])) $$ H
  rw [if_pos (Finset.mem_insert_self k B)]
  icases H with ⟨-, H⟩
  iexact H

theorem keptSt_take (c : Dev nD) (B : Finset Msg) (k : Msg) (h : k ∈ B) : KeptSt m c B ⊢ iprop(kept m c k ∗ KeptSt m c (B.erase k)) := by
  unfold KeptSt
  iintro H
  ihave H := (bigSep_upd k (fun k : Msg => if k ∈ B then kept m c k else iprop(emp))
    (fun k' : Msg => if k' ∈ B.erase k then kept m c k' else iprop(emp))
    (fun x hx => by simp only [Finset.mem_erase, ne_eq, hx, not_false_eq_true, true_and])) $$ H
  rw [if_pos h, if_neg (Finset.notMem_erase k B)]
  icases H with ⟨H, Hb⟩
  isplitl [H]; · iexact H
  iapply Hb
  iempintro

/-- The messages of `B` are received. -/
def RecvSt (c : Dev nD) (B : Finset Msg) : sProp 𝕄 := iprop(RecvSm (F := F) c B ∗ KeptSt m c B)

/-- The shares of a received slice for its relays. -/
def spare (c : Dev nD) (k : Msg) : sProp 𝕄 :=
  if k.val < 32 then iprop(recvPts m c sL (H c k) ∗ recvPts m c sR (H c k)) else iprop(emp)

theorem recvPay_split (c : Dev nD) (k : Msg) : recvPay m c k ⊢ iprop(kept m c k ∗ spare m c k) := by
  unfold recvPay kept spare
  by_cases h : k.val < 32
  · rw [if_pos h, if_pos h, if_pos h]
    unfold recvPts
    iintro H
    ihave H := (pointsTo_share (PosShare.mem_left_op_right fullShare)).1 $$ H
    icases H with ⟨Hl, H⟩
    ihave H := (pointsTo_share (PosShare.mem_left_op_right fullShare.right)).1 $$ H
    icases H with ⟨Hr, H⟩
    isplitl [H]; · iexact H
    isplitl [Hl]; · iexact Hl
    iexact Hr
  · rw [if_neg h, if_neg h, if_neg h]
    iintro H
    isplitl [H]; · iexact H
    iempintro

/-! ## The rules for messages -/

section MsgRules
variable (K : Dev nD × CI → ℕ) (c : Dev nD) (k : Msg)

/-- A wait for the message `k`, above nothing still to be sent. -/
theorem wp_recvS (A B : Finset Msg) (hB : k ∉ B) (hlev : ∀ k', k' ∉ A → mlev k < mlev k') {sem : DmaSem sig} (hsem : sem = recvSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k) {α : Type} {Q : α → sProp 𝕄}
    {kk : PUnit → Prog (TpuEff nD τ sig (Elt F) Λ₀ .tc) α} :
    iprop(ctx m K ∗ RecvSm (F := F) c B ∗ Owes c A)
      ⊢ iprop((iprop(RecvSm (F := F) c (insert k B) ∗ recvPay m c k ∗ Owes c A) -∗ WP c (kk ⟨⟩) Q)
          -∗ WP c (.op (.waitDma2 sem srcw dstw hsrc hdst) kk) Q) := by
  subst hsem
  unfold Owes
  iintro ⟨#Hctx, HR, ⟨%W, HO⟩⟩ Hk
  unfold RecvSm
  ihave HR := (bigSep_upd k (fun k : Msg => if k ∈ B then semVal (recvCell c k) 0
      else iprop(atPos ER (recvCell c k) 0 (∅ : Finset (Fin 3)) 0 ∗ cred (tallyAt (recvCell c k) () (amt k))))
    (fun k' : Msg => if k' ∈ insert k B then semVal (recvCell c k') 0
      else iprop(atPos ER (recvCell c k') 0 (∅ : Finset (Fin 3)) 0 ∗ cred (tallyAt (recvCell c k') () (amt k'))))
    (fun x hx => by simp only [Finset.mem_insert, hx, false_or])) $$ HR
  rw [if_neg hB, if_pos (Finset.mem_insert_self k B)]
  icases HR with ⟨⟨Hat, Hcr⟩, Hback⟩
  ihave HI := (ctx_cell m K c (some (true, k))) $$ Hctx
  icases HI with ⟨#HI, #Hrch⟩
  iapply (Rounds.wp_wait_rest_token 𝒱₀ ER (Rd m) (c : Thread nD τ) none (κ := K (c, some (true, k)))
      (wpE_waitDma2_eq 𝒱₀ (c : Thread nD τ) none Set.univ) (Set.mem_univ _) () (O := Ow c A) (W := W) (R := 0) (m := 0) (T := ∅)
      (by rw [Nat.zero_add]; exact ((expect_recv m c k).trans hN.symm).symm)) $$ [Hcr HO Hat]
  · isplitr; · iexact HI
    isplitl [Hcr]; · rw [show dstw.view.dmaCredit = amt k from hN]; iexact Hcr
    isplitl [HO]; · iexact HO
    isplitr
    · iapply (mayWait_Ow c (.dma (recvSem k)) A (mlev k) (le_of_eq (lv_recv c k ())) hlev)
      iapply (ctx_lev m K) $$ Hctx
    iexact Hat
  iintro ⟨HO, Hat, -, Hpay⟩
  imod (Rounds.cell_close ER (Rd m) (Set.mem_univ (K (c, some (true, k)))) (fun h => h) (R := 0 + 1) (duties_later m (recvCell c k))) $$ [Hat] with Hz
  · isplitr; · iexact HI
    iexact Hat
  ihave Hpay := (Entails.of_eq (rest_recv m c k)) $$ Hpay
  iapply Hk
  isplitl [Hback Hz]; · iapply Hback $$ Hz
  isplitl [Hpay]; · iexact Hpay
  iexists _; iexact HO

/-- The same, with what is kept of the message put by. -/
theorem wp_recv (A B : Finset Msg) (hB : k ∉ B) (hlev : ∀ k', k' ∉ A → mlev k < mlev k') {sem : DmaSem sig} (hsem : sem = recvSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k) {α : Type} {Q : α → sProp 𝕄}
    {kk : PUnit → Prog (TpuEff nD τ sig (Elt F) Λ₀ .tc) α} :
    iprop(ctx m K ∗ RecvSt m c B ∗ Owes c A)
      ⊢ iprop((iprop(RecvSt m c (insert k B) ∗ spare m c k ∗ Owes c A) -∗ WP c (kk ⟨⟩) Q)
          -∗ WP c (.op (.waitDma2 sem srcw dstw hsrc hdst) kk) Q) := by
  unfold RecvSt
  iintro ⟨#Hctx, ⟨HR, HK⟩, HO⟩ Hk
  iapply (wp_recvS m K c k A B hB hlev hsem hN) $$ [HR HO]
  · isplitr; · iexact Hctx
    isplitl [HR]; · iexact HR
    iexact HO
  iintro ⟨HR, Hp, HO⟩
  ihave Hp := (recvPay_split m c k) $$ Hp
  icases Hp with ⟨Hp, Hs⟩
  iapply Hk
  isplitl [HR HK Hp]
  · isplitl [HR]; · iexact HR
    iapply (keptSt_put m c B k hB) $$ HK Hp
  isplitl [Hs]; · iexact Hs
  iexact HO

/-- A wait for the message `k` having been sent. -/
theorem wp_sent (A D : Finset Msg) (hD : k ∉ D) {sem : DmaSem sig} (hsem : sem = sendSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k) {α : Type} {Q : α → sProp 𝕄}
    {kk : PUnit → Prog (TpuEff nD τ sig (Elt F) Λ₀ .tc) α} :
    iprop(ctx m K ∗ EndSt m c D ∗ Owes c A)
      ⊢ iprop((iprop(EndSt m c (insert k D) ∗ Owes c A) -∗ WP c (kk ⟨⟩) Q)
          -∗ WP c (.op (.waitDma2 sem srcw dstw hsrc hdst) kk) Q) := by
  subst hsem
  unfold Owes
  iintro ⟨#Hctx, HR, ⟨%W, HO⟩⟩ Hk
  unfold EndSt
  ihave HR := (bigSep_upd k (fun k : Msg => if k ∈ D then iprop(semVal (sendCell c k) 0 ∗ sendPay m c k)
      else iprop(atPos ER (sendCell c k) 0 (∅ : Finset (Fin 3)) 0 ∗ cred (tallyAt (sendCell c k) () (amt k))))
    (fun k' : Msg => if k' ∈ insert k D then iprop(semVal (sendCell c k') 0 ∗ sendPay m c k')
      else iprop(atPos ER (sendCell c k') 0 (∅ : Finset (Fin 3)) 0 ∗ cred (tallyAt (sendCell c k') () (amt k'))))
    (fun x hx => by simp only [Finset.mem_insert, hx, false_or])) $$ HR
  rw [if_neg hD, if_pos (Finset.mem_insert_self k D)]
  icases HR with ⟨⟨Hat, Hcr⟩, Hback⟩
  ihave HI := (ctx_cell m K c (some (false, k))) $$ Hctx
  icases HI with ⟨#HI, #Hrch⟩
  iapply (Rounds.wp_wait_rest_token 𝒱₀ ER (Rd m) (c : Thread nD τ) none (κ := K (c, some (false, k)))
      (wpE_waitDma2_eq 𝒱₀ (c : Thread nD τ) none Set.univ) (Set.mem_univ _) () (O := Ow c A) (W := W) (R := 0) (m := 0) (T := ∅)
      (by rw [Nat.zero_add]; exact ((expect_send m c k).trans hN.symm).symm)) $$ [Hcr HO Hat]
  · isplitr; · iexact HI
    isplitl [Hcr]; · rw [show dstw.view.dmaCredit = amt k from hN]; iexact Hcr
    isplitl [HO]; · iexact HO
    isplitr
    · iapply (mayWait_Ow c (.dma (sendSem k)) A 0 (le_of_eq (lv_send c k ())) fun k' _ => lt_trans Nat.one_pos (mlev_pos k'))
      iapply (ctx_lev m K) $$ Hctx
    iexact Hat
  iintro ⟨HO, Hat, -, Hpay⟩
  imod (Rounds.cell_close ER (Rd m) (Set.mem_univ (K (c, some (false, k)))) (fun h => h) (R := 0 + 1) (duties_later m (sendCell c k))) $$ [Hat] with Hz
  · isplitr; · iexact HI
    iexact Hat
  ihave Hpay := (Entails.of_eq (rest_send m c k)) $$ Hpay
  iapply Hk
  isplitl [Hback Hpay Hz]
  · iapply Hback
    isplitl [Hz]; · iexact Hz
    iexact Hpay
  iexists _; iexact HO

/-- The transfer of a chunk: the message `k`, from a window that holds the chunk the target expects in the landing slice. -/
theorem wp_sendChunk (A : Finset Msg) (hA : k ∉ A) (hk : k.val < 32) {n : Dev nD} (hn : n = tgt c k) {sS sem : DmaSem sig} (hsS : sS = sendSem k) (hsem : sem = recvSem k)
    {sp : Space} {src : Memref sig .tc sp S1024x512 .bf16} {dst : Memref sig (Dev.tc n : Thread nD τ).2.kind .hbm S1024x512 .bf16}
    (hd : dst = rowOf recvM (H (tgt c k) k))
    {hsc : dst.view.ref.isScScratch = false} {hsrc : src.view.WordExact} {hdst : dst.view.WordExact}
    {hsm : DmaTarget.Typed sp (.dma sem) (.remote (Dev.tc n : Thread nD τ) dst (.dma sS) hsc)} {α : Type} {Q : α → sProp 𝕄}
    {kk : PUnit → Prog (TpuEff nD τ sig (Elt F) Λ₀ .tc) α}
    (q : PosShare TreeShare) (fs : src.view.ty.Contents (Elt F))
    (hfs : src.view.read (Elt F) fs = eb m (srcDev (tgt c k) (H (tgt c k) k)) (H (tgt c k) k))
    (hpay : (src.view.loc (c : Thread nD τ) ↦[src.view.set]{q} fs : sProp 𝕄) ⊢ sendPay m c k) :
    iprop(ctx m K ∗ (src.view.loc (c : Thread nD τ) ↦[src.view.set]{q} fs) ∗ SentSt c A ∗ Owes c A)
      ⊢ iprop((iprop(SentSt c (insert k A) ∗ Owes c (insert k A)) -∗ WP c (kk ⟨⟩) Q)
          -∗ WP c (.op (.enqueueDma src (.remote (Dev.tc n : Thread nD τ) dst (.dma sS) hsc) (.dma sem) hsrc hdst hsm) kk) Q) := by
  subst hn hsS hsem
  subst hd
  unfold Owes
  iintro ⟨#Hctx, Hsrc, HR, ⟨%W, HO⟩⟩ Hk
  unfold SentSt
  ihave HR := (bigSep_upd k (fun k : Msg => if k ∈ A then cred (tallyAt (sendCell c k) () (amt k)) else unsent c k)
    (fun k' : Msg => if k' ∈ insert k A then cred (tallyAt (sendCell c k') () (amt k')) else unsent c k')
    (fun x hx => by simp only [Finset.mem_insert, hx, false_or])) $$ HR
  rw [if_neg hA, if_pos (Finset.mem_insert_self k A)]
  icases HR with ⟨Hu, Hback⟩
  unfold unsent landing
  rw [if_pos hk]
  icases Hu with ⟨Ht1, Ht2, ⟨%fd, Hd⟩⟩
  ihave HI1 := (ctx_cell m K c (some (false, k))) $$ Hctx
  icases HI1 with ⟨#HI1, #Hr1⟩
  ihave HI2 := (ctx_cell m K (tgt c k) (some (true, k))) $$ Hctx
  icases HI2 with ⟨#HI2, #Hr2⟩
  iapply (Rounds.wp_send_pointsTo 𝒱₀ ER (Rd m) (c : Thread nD τ) none (κ₁ := K (c, some (false, k))) (κ₂ := K (tgt c k, some (true, k)))
    (r₁ := 0) (r₂ := 0) (d₁ := 0) (d₂ := 0) (fd := fd)
    (by rw [duties_send]; exact Finset.mem_singleton_self _) (by rw [duties_recv]; exact Finset.mem_singleton_self _)
    () () (amt k) (by rw [amt_lt hk]) (amount_send m c k 0) (amount_recv m (tgt c k) k 0) (Ow c (insert k A)) (Ow_peel c A hA) (W := W)
    (by rw [payload_send]; exact hpay)
    (by
      rw [payload_recv]; unfold recvPay recvPts; rw [if_pos hk]
      rw [hfs]
      exact Entails.of_eq (pointsTo_congr (write_landed (rowOf recvM (H (tgt c k) k)).view fd (recvC m (tgt c k)) _
        (read_rowOf recvM (H (tgt c k) k) (recvC m (tgt c k)) (fun h => eb m (srcDev (tgt c k) h) h) rfl))))) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hback Hcr]; · iapply Hback $$ Hcr
  iexists _; iexact HO

end MsgRules

end Cert.KernelIdeal.Hand
-- ==== Proof.Em.lean ====
/-
# The device's own chunks: staged in a slot, copied to the array of own chunks
-/
module

public import proofs.«01_k».proof.Proof.Fam

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The families -/

/-- The credit of a chunk copied to the array of own chunks. -/
abbrev NE : ℕ := (rowOf emM 0).view.dmaCredit

/-- The staging slot of chunk `h`. -/
def slotOf (h : Fin 32) : Fin 2 := ⟨h.val % 2, Nat.mod_lt _ (by decide)⟩

/-- Slice `h` of the array of own chunks, holding its chunk. -/
def emPts (c : Dev nD) (h : Fin 32) : sProp 𝕄 :=
  (rowOf emM h).view.loc (c : Thread nD τ) ↦[(rowOf emM h).view.set]{fullShare} emC m c
/-- The same at any contents. -/
def emAny (c : Dev nD) (h : Fin 32) : sProp 𝕄 :=
  iprop(∃ f, (rowOf emM h).view.loc (c : Thread nD τ) ↦[(rowOf emM h).view.set]{fullShare} f)
/-- A staging slot at any contents. -/
def estAny (c : Dev nD) (s : Fin 2) : sProp 𝕄 :=
  iprop(∃ f, (rowOf estM s).view.loc (c : Thread nD τ) ↦[(rowOf estM s).view.set]{fullShare} f)

/-- The chunks below `w` are copied, those from `w` to below `n` under way. -/
def EmSt (c : Dev nD) (w n : ℕ) : sProp 𝕄 :=
  bigSep Finset.univ fun h : Fin 32 => if h.val < w then emPts m c h
    else if h.val < n then Transfers.Flight EC (c : Thread nD τ) (.dma (eSem (slotOf h))) () NE iprop(emPts m c h ∗ estAny c (slotOf h))
    else emAny c h

/-- The staging slots not yet used when `n` chunks are staged. -/
def EsSt (c : Dev nD) (n : ℕ) : sProp 𝕄 :=
  bigSep Finset.univ fun s : Fin 2 => if s.val < n then iprop(emp)
    else iprop(semVal ((c : Thread nD τ), .dma (eSem s)) 0 ∗ estAny (F := F) c s)

omit [FloatOps F] in
/-- A first use of a staging slot. -/
theorem esSt_take (c : Dev nD) (t : ℕ) (ht : t < 2) :
    EsSt (F := F) c t ⊢ iprop((semVal ((c : Thread nD τ), .dma (eSem ⟨t, ht⟩)) 0 ∗ estAny (F := F) c ⟨t, ht⟩) ∗ EsSt (F := F) c (t + 1)) := by
  unfold EsSt
  refine (bigSep_upd (⟨t, ht⟩ : Fin 2) _ (fun s : Fin 2 => if s.val < t + 1 then iprop(emp)
    else iprop(semVal ((c : Thread nD τ), .dma (eSem s)) 0 ∗ estAny (F := F) c s)) ?_).trans ?_
  · intro x hx
    have : x.val ≠ t := fun h => hx (Fin.ext h)
    by_cases h : x.val < t
    · rw [if_pos h, if_pos (by omega)]
    · rw [if_neg h, if_neg (by omega)]
  · rw [if_neg (lt_irrefl t), if_pos (Nat.lt_succ_self t)]
    iintro ⟨H, Hb⟩
    isplitl [H]; · iexact H
    iapply Hb
    iempintro

omit [FloatOps F] in
theorem esSt_late (c : Dev nD) (n : ℕ) (h : 2 ≤ n) : EsSt (F := F) c n = EsSt (F := F) c 2 := by
  unfold EsSt
  refine BI.bigSep_congr fun s _ => ?_
  rw [if_pos (by have := s.isLt; omega), if_pos (by have := s.isLt; omega)]

theorem dec_eSem : ∀ s : Fin 2, dec (.dma (eSem s)) = none := by decide +kernel
theorem dec_inSem : ∀ s : Fin 2, dec (.dma (inSem s)) = none := by decide +kernel
theorem dec_outSem : ∀ s : Fin 2, dec (.dma (outSem s)) = none := by decide +kernel

section EmRules
variable (K : Dev nD × CI → ℕ) (c : Dev nD) (h : Fin 32)

/-- The copy of chunk `h` starts. -/
theorem wp_estart (w : ℕ) (hw : w ≤ h.val) {sem : DmaSem sig} (hsem : sem = eSem (slotOf h))
    {src : Memref sig .tc .vmem S1024x512 .bf16} {dst : Memref sig .tc .hbm S1024x512 .bf16} (hs : src = rowOf estM (slotOf h)) (hd : dst = rowOf emM h)
    {hsrc : src.view.WordExact} {hdst : dst.view.WordExact} {hsm : DmaTarget.Typed (nD := nD) (p := (c : Thread nD τ).2) .vmem (.dma sem) (.here dst)} {α : Type} {Q : α → sProp 𝕄}
    {kk : PUnit → Prog (TpuEff nD τ sig (Elt F) Λ₀ .tc) α} :
    iprop(((rowOf estM (slotOf h)).view.loc (c : Thread nD τ) ↦[(rowOf estM (slotOf h)).view.set]{fullShare} estC m c h)
        ∗ semVal ((c : Thread nD τ), .dma (eSem (slotOf h))) 0 ∗ EmSt m c w h.val)
      ⊢ iprop((EmSt m c w (h.val + 1) -∗ WP c (kk ⟨⟩) Q)
          -∗ WP c (.op (.enqueueDma src (.here dst) (.dma sem) hsrc hdst hsm) kk) Q) := by
  subst hsem hs hd
  iintro ⟨Hs, Hz, HR⟩ Hk
  unfold EmSt
  ihave HR := (bigSep_upd h (fun h' : Fin 32 => if h'.val < w then emPts m c h'
    else if h'.val < h.val then Transfers.Flight EC (c : Thread nD τ) (.dma (eSem (slotOf h'))) () NE iprop(emPts m c h' ∗ estAny c (slotOf h'))
    else emAny c h')
    (fun h' : Fin 32 => if h'.val < w then emPts m c h'
    else if h'.val < h.val + 1 then Transfers.Flight EC (c : Thread nD τ) (.dma (eSem (slotOf h'))) () NE iprop(emPts m c h' ∗ estAny c (slotOf h'))
    else emAny c h')
    (fun x hx => by
      have : x.val ≠ h.val := fun e => hx (Fin.ext e)
      by_cases h1 : x.val < w
      · rw [if_pos h1, if_pos h1]
      · rw [if_neg h1, if_neg h1]
        by_cases h2 : x.val < h.val
        · rw [if_pos h2, if_pos (by omega)]
        · rw [if_neg h2, if_neg (by omega)])) $$ HR
  rw [if_neg (Nat.not_lt.mpr hw), if_neg (lt_irrefl _), if_neg (Nat.not_lt.mpr hw), if_pos (Nat.lt_succ_self _)]
  icases HR with ⟨Hd, Hback⟩
  unfold emAny
  icases Hd with ⟨%fd, Hd⟩
  iapply (Transfers.wp_dmaLocal EC 𝒱₀ (c : Thread nD τ) none () NE rfl (View.dmaCredit_pos _ (by decide)) subset_rfl) $$ [Hs Hd Hz]
  · isplitl [Hs]; · iexact Hs
    isplitl [Hd]; · iexact Hd
    iexact Hz
  iintro HF
  iapply Hk
  iapply Hback
  have hD : iprop(((rowOf emM h).view.loc (c : Thread nD τ) ↦[(rowOf emM h).view.set]{fullShare}
        ((rowOf emM h).view.write (Elt F) fd (ReadAs.same.apply ((rowOf estM (slotOf h)).view.read (Elt F) (estC m c h))) Finset.univ))
      ∗ ((rowOf estM (slotOf h)).view.loc (c : Thread nD τ) ↦[(rowOf estM (slotOf h)).view.set]{fullShare} estC m c h) : sProp 𝕄)
      ⊢ iprop(emPts m c h ∗ estAny c (slotOf h)) := by
    unfold emPts estAny
    iintro ⟨H1, H2⟩
    isplitl [H1]
    · iapply (Entails.of_eq (pointsTo_congr (write_landed (rowOf emM h).view fd (emC m c) _
        ((read_rowOf emM h (emC m c) (fun h => eb m c h) rfl).trans
          (read_rowOf estM (slotOf h) (estC m c h) (fun _ => eb m c h) rfl).symm)))) $$ H1
    · iexists _; iexact H2
  iapply (Transfers.Flight_mono EC (c : Thread nD τ) hD) $$ HF

/-- A wait for the copy of chunk `h`. -/
theorem wp_ewait (A : Finset Msg) (n : ℕ) (hn : h.val < n) {sem : DmaSem sig} (hsem : sem = eSem (slotOf h))
    {sp sp' : Space} {s s' : Shape} {e e' : EltTy} {srcw : Memref sig .tc sp' s' e'} {dstw : Memref sig .tc sp s e}
    {hsrc : srcw.view.WordExact} {hdst : dstw.view.WordExact} (hN : dstw.view.dmaCredit = NE) {α : Type} {Q : α → sProp 𝕄}
    {kk : PUnit → Prog (TpuEff nD τ sig (Elt F) Λ₀ .tc) α} :
    iprop(ctx m K ∗ EmSt m c h.val n ∗ Owes c A)
      ⊢ iprop((iprop(EmSt m c (h.val + 1) n ∗ (semVal ((c : Thread nD τ), .dma (eSem (slotOf h))) 0 ∗ estAny c (slotOf h)) ∗ Owes c A) -∗ WP c (kk ⟨⟩) Q)
          -∗ WP c (.op (.waitDma2 sem srcw dstw hsrc hdst) kk) Q) := by
  subst hsem
  unfold Owes
  iintro ⟨#Hctx, HR, ⟨%W, HO⟩⟩ Hk
  unfold EmSt
  ihave HR := (bigSep_upd h (fun h' : Fin 32 => if h'.val < h.val then emPts m c h'
    else if h'.val < n then Transfers.Flight EC (c : Thread nD τ) (.dma (eSem (slotOf h'))) () NE iprop(emPts m c h' ∗ estAny c (slotOf h'))
    else emAny c h')
    (fun h' : Fin 32 => if h'.val < h.val + 1 then emPts m c h'
    else if h'.val < n then Transfers.Flight EC (c : Thread nD τ) (.dma (eSem (slotOf h'))) () NE iprop(emPts m c h' ∗ estAny c (slotOf h'))
    else emAny c h')
    (fun x hx => by
      have : x.val ≠ h.val := fun e => hx (Fin.ext e)
      by_cases h1 : x.val < h.val
      · rw [if_pos h1, if_pos (by omega)]
      · rw [if_neg h1, if_neg (by omega)])) $$ HR
  rw [if_neg (lt_irrefl _), if_pos hn, if_pos (Nat.lt_succ_self _)]
  icases HR with ⟨HF, Hback⟩
  iapply (Transfers.wp_waitLocalO EC 𝒱₀ (c : Thread nD τ) none () hN) $$ [HF HO]
  · isplitl [HF]; · iexact HF
    isplitl [HO]; · iexact HO
    iapply (mayWait_local c _ (dec_eSem (slotOf h)) A)
    iapply (ctx_lev m K) $$ Hctx
  iintro ⟨⟨Hem, Hes⟩, Hz, HO⟩
  iapply Hk
  isplitl [Hback Hem]; · iapply Hback $$ Hem
  isplitl [Hz Hes]
  · isplitl [Hz]; · iexact Hz
    iexact Hes
  iexists _; iexact HO

end EmRules

/-! ## The row sums and their message -/

/-- The running row sums after `n` chunks. -/
def AccSt (c : Dev nD) (n : ℕ) : sProp 𝕄 :=
  if n = 0 then iprop(∃ f, accPts c fullShare f) else accPts c fullShare (accS m c (n - 1))

section StatRule
variable (K : Dev nD × CI → ℕ) (c : Dev nD)

/-- The transfer of the row sums across `z`. -/
theorem wp_sendStat (A : Finset Msg) (hA : mst ∉ A) {n : Dev nD} (hn : n = zp c) {sS sem : DmaSem sig} (hsS : sS = sendSem mst) (hsem : sem = recvSem mst)
    {hsc : (Memref.whole cc0_scratch3 : Memref sig (Dev.tc n : Thread nD τ).2.kind .vmem S1024x1 .f32).view.ref.isScScratch = false}
    {hsrc : accM.view.WordExact} {hdst : (Memref.whole cc0_scratch3 : Memref sig (Dev.tc n : Thread nD τ).2.kind .vmem S1024x1 .f32).view.WordExact}
    {hsm : DmaTarget.Typed .vmem (.dma sem) (.remote (Dev.tc n : Thread nD τ) (Memref.whole cc0_scratch3) (.dma sS) hsc)} {α : Type} {Q : α → sProp 𝕄}
    {kk : PUnit → Prog (TpuEff nD τ sig (Elt F) Λ₀ .tc) α} :
    iprop(ctx m K ∗ accPts c fullShare.left (sumC m c) ∗ SentSt c A ∗ Owes c A)
      ⊢ iprop((iprop(SentSt c (insert mst A) ∗ Owes c (insert mst A)) -∗ WP c (kk ⟨⟩) Q)
          -∗ WP c (.op (.enqueueDma accM (.remote (Dev.tc n : Thread nD τ) (Memref.whole cc0_scratch3) (.dma sS) hsc) (.dma sem) hsrc hdst hsm) kk) Q) := by
  have ht : tgt c mst = zp c := rfl
  subst hn hsS hsem
  unfold Owes
  iintro ⟨#Hctx, Hsrc, HR, ⟨%W, HO⟩⟩ Hk
  unfold SentSt
  ihave HR := (bigSep_upd mst (fun k : Msg => if k ∈ A then cred (tallyAt (sendCell c k) () (amt k)) else unsent c k)
    (fun k' : Msg => if k' ∈ insert mst A then cred (tallyAt (sendCell c k') () (amt k')) else unsent c k')
    (fun x hx => by simp only [Finset.mem_insert, hx, false_or])) $$ HR
  rw [if_neg hA, if_pos (Finset.mem_insert_self mst A)]
  icases HR with ⟨Hu, Hback⟩
  unfold unsent landing
  rw [if_neg (by decide), ht]
  icases Hu with ⟨Ht1, Ht2, ⟨%fd, Hd⟩⟩
  ihave HI1 := (ctx_cell m K c (some (false, mst))) $$ Hctx
  icases HI1 with ⟨#HI1, #Hr1⟩
  ihave HI2 := (ctx_cell m K (zp c) (some (true, mst))) $$ Hctx
  icases HI2 with ⟨#HI2, #Hr2⟩
  unfold accPts
  iapply (Rounds.wp_send_pointsTo 𝒱₀ ER (Rd m) (c : Thread nD τ) none (κ₁ := K (c, some (false, mst))) (κ₂ := K (zp c, some (true, mst)))
    (r₁ := 0) (r₂ := 0) (d₁ := 0) (d₂ := 0) (fd := fd)
    (by rw [duties_send]; exact Finset.mem_singleton_self _) (by rw [duties_recv]; exact Finset.mem_singleton_self _)
    () () (amt mst) (by rw [amt_mst]) (amount_send m c mst 0) (amount_recv m (zp c) mst 0) (Ow c (insert mst A)) (Ow_peel c A hA) (W := W)
    (by rw [payload_send]; exact BI.Entails.refl _)
    (by
      rw [payload_recv]
      have hz : zp (zp c) = c := peer_peer 0 c
      show _ ⊢ othPts m (zp c)
      unfold othPts
      rw [hz]
      exact Entails.of_eq (pointsTo_congr (write_landed othM.view fd (sumC m c) _ rfl)))) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hback Hcr]; · iapply Hback $$ Hcr
  iexists _; iexact HO

end StatRule

/-! ## Relays -/

section Relay
variable (K : Dev nD × CI → ℕ) (c : Dev nD) (k : Msg)

/-- The transfer of a chunk received before, from the slice it landed in. -/
theorem wp_relay (A : Finset Msg) (hA : k ∉ A) (hk : k.val < 32) (hk8 : 8 ≤ k.val) {n : Dev nD} (hn : n = tgt c k) {sS sem : DmaSem sig}
    (hsS : sS = sendSem k) (hsem : sem = recvSem k) (h : Fin 32) (hh : H (tgt c k) k = h)
    {src : Memref sig .tc .hbm S1024x512 .bf16} {dst : Memref sig (Dev.tc n : Thread nD τ).2.kind .hbm S1024x512 .bf16}
    (hs : src = rowOf recvM h) (hd : dst = rowOf recvM h)
    {hsc : dst.view.ref.isScScratch = false} {hsrc : src.view.WordExact} {hdst : dst.view.WordExact}
    {hsm : DmaTarget.Typed .hbm (.dma sem) (.remote (Dev.tc n : Thread nD τ) dst (.dma sS) hsc)} {α : Type} {Q : α → sProp 𝕄}
    {kk : PUnit → Prog (TpuEff nD τ sig (Elt F) Λ₀ .tc) α} (q : PosShare TreeShare) :
    iprop(ctx m K ∗ recvPts m c q h ∗ SentSt c A ∗ Owes c A)
      ⊢ iprop((iprop(SentSt c (insert k A) ∗ Owes c (insert k A)) -∗ WP c (kk ⟨⟩) Q)
          -∗ WP c (.op (.enqueueDma src (.remote (Dev.tc n : Thread nD τ) dst (.dma sS) hsc) (.dma sem) hsrc hdst hsm) kk) Q) := by
  subst hs
  have hfs : (rowOf recvM h).view.read (Elt F) (recvC m c) = eb m (srcDev (tgt c k) (H (tgt c k) k)) (H (tgt c k) k) := by
    rw [srcDev_tgt c k hk8 hk, hh]
    exact read_rowOf recvM h (recvC m c) (fun h => eb m (srcDev c h) h) rfl
  have hpay : ((rowOf recvM h).view.loc (c : Thread nD τ) ↦[(rowOf recvM h).view.set]{q} recvC m c : sProp 𝕄) ⊢ sendPay m c k := by
    unfold sendPay
    rw [dif_neg (by omega), if_pos hk]
    iintro -
    iempintro
  unfold recvPts
  have := @wp_sendChunk F _ m K c k A hA hk n hn sS sem hsS hsem .hbm (rowOf recvM h) dst (hd.trans (by rw [hh])) hsc hsrc hdst hsm α Q kk q (recvC m c) hfs hpay
  exact this

end Relay

end Cert.KernelIdeal.Hand
-- ==== Proof.Items.lean ====
/-
# The closing items: four chunks copied in, scaled into an output slot, copied out
-/
module

public import proofs.«01_k».proof.Proof.Em

@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Four slices of a stacked array -/

theorem blk4_inb (g : Fin 8) : ∀ a, (![4 * g.val, 0, 0] : Fin 3 → Nat) a + S4x1024x512.size a ≤ (Stk 32).size a := by
  intro a
  have := g.isLt
  match a with
  | ⟨0, _⟩ => show 4 * g.val + 4 ≤ 32; omega
  | ⟨1, _⟩ => exact Nat.le_refl _
  | ⟨2, _⟩ => exact Nat.le_refl _

/-- The slices `4 g` to `4 g + 3`. -/
abbrev blk4 {sp : Space} {e : EltTy} (M : Memref sig .tc sp (Stk 32) e) (g : Fin 8) : Memref sig .tc sp S4x1024x512 e :=
  M.slice (Rect.unit (s := Stk 32) ![4 * g.val, 0, 0] S4x1024x512.size (blk4_inb g)) (fun _ => rfl)

/-- Slice `r` of them. -/
def row4 (g : Fin 8) (r : Fin 4) : Fin 32 := ⟨4 * g.val + r.val, by have := g.isLt; have := r.isLt; omega⟩

section Blk
variable {sp : Space} {e : EltTy} (M : Memref sig .tc sp (Stk 32) e) (g : Fin 8)

theorem blk4_emb (y : S4x1024x512.Idx) :
    (blk4 M g).view.emb y = M.view.emb (ix3 (n0 := 32) (n1 := 1024) (n2 := 512) (row4 g (y 0)) (y 1) (y 2)) := by
  obtain ⟨r, a, b, rfl⟩ : ∃ (r : Fin 4) (a : Fin 1024) (b : Fin 512), y = ix3 r a b := ⟨y 0, y 1, y 2, eq_ix3 (n0 := 4) (n1 := 1024) (n2 := 512) y⟩
  show M.view.emb ((Rect.unit (s := Stk 32) ![4 * g.val, 0, 0] S4x1024x512.size (blk4_inb g)).emb (ix3 r a b)) = _
  refine congrArg M.view.emb (Shape.idx3_ext ?_ ?_ ?_)
  · show 4 * g.val + 1 * r.val = 4 * g.val + r.val; omega
  · show 0 + 1 * a.val = a.val; omega
  · show 0 + 1 * b.val = b.val; omega

theorem blk4_set : Finset.univ.biUnion (fun r : Fin 4 => (rowOf M (row4 g r)).view.set) = (blk4 M g).view.set := by
  ext i
  rw [Finset.mem_biUnion]
  constructor
  · rintro ⟨r, -, hi⟩
    obtain ⟨y, rfl⟩ := View.exists_emb_of_mem_set _ hi
    rw [rowOf_emb]
    exact (blk4_emb M g (ix3 (n0 := 4) (n1 := 1024) (n2 := 512) r (y 0) (y 1))) ▸ View.emb_mem_set _ _
  · intro hi
    obtain ⟨y, rfl⟩ := View.exists_emb_of_mem_set _ hi
    refine ⟨y 0, Finset.mem_univ _, ?_⟩
    rw [blk4_emb]
    exact (rowOf_emb M (row4 g (y 0)) (ix2 (n0 := 1024) (n1 := 512) (y 1) (y 2))) ▸ View.emb_mem_set _ _

omit [FloatOps F] in
theorem read_blk4 (G : M.view.ty.Contents (Elt F)) (g' : Fin 32 → Vec F S1024x512 e) (hG : M.view.read (Elt F) G = stk g') :
    (blk4 M g).view.read (Elt F) G = fun y => g' (row4 g (y 0)) (ix2 (n0 := 1024) (n1 := 512) (y 1) (y 2)) := by
  funext y
  have h1 := congrFun hG (ix3 (n0 := 32) (n1 := 1024) (n2 := 512) (row4 g (y 0)) (y 1) (y 2))
  rw [View.read_apply] at h1 ⊢
  exact (congrArg (_root_.cast _) (congrArg G (blk4_emb M g y))).trans h1

theorem row4_ne {r r' : Fin 4} (h : r ≠ r') : row4 g r ≠ row4 g r' := fun e => h (Fin.ext (by have := congrArg Fin.val e; simp only [row4] at this; omega))

omit [FloatOps F] in
/-- Four slices held at one share are the block of them. -/
theorem rows4 (c : Dev nD) (q : PosShare TreeShare) (G : M.view.ty.Contents (Elt F)) :
    (bigSep Finset.univ (fun r : Fin 4 => ((rowOf M (row4 g r)).view.loc (c : Thread nD τ) ↦[(rowOf M (row4 g r)).view.set]{q} G)) : sProp 𝕄)
      ⊢ ((blk4 M g).view.loc (c : Thread nD τ) ↦[(blk4 M g).view.set]{q} G) := by
  have h := Ring.pointsTo_sub_blocks (Name := ℕ) (U := UU) (Lvl := ℕ) (nD := nD) (τ := τ) (sig := sig) (Ix := Unit) (Val := Elt F) (ℓ := M.view.loc (c : Thread nD τ)) (q := q)
    (fun r : Fin 4 => (rowOf M (row4 g r)).view.set) (fun r r' h => rowOf_disjoint M (row4_ne g h)) (blk4 M g).view.set (blk4_set M g) G
  exact Entails.of_eq h.symm

end Blk

/-! ## The slots -/

theorem islot_inb (s : Fin 2) : ∀ a, (![s.val, 0, 0, 0] : Fin 4 → Nat) a + S1x4x1024x512.size a ≤ S2x4x1024x512.size a := by
  intro a
  match a with
  | ⟨0, _⟩ => exact s.isLt
  | ⟨1, _⟩ => exact Nat.le_refl _
  | ⟨2, _⟩ => exact Nat.le_refl _
  | ⟨3, _⟩ => exact Nat.le_refl _

/-- An input slot. -/
abbrev islot (s : Fin 2) : Memref sig .tc .vmem S4x1024x512 .bf16 :=
  (istM.slice (Rect.unit (s := S2x4x1024x512) ![s.val, 0, 0, 0] S1x4x1024x512.size (islot_inb s)) (fun _ => rfl)).squeeze S4x1024x512
    squeezes_S1x4x1024x512_S4x1024x512

theorem islot_emb (s : Fin 2) (y : S4x1024x512.Idx) : (islot s).view.emb y = ix4 (n0 := 2) (n1 := 4) (n2 := 1024) (n3 := 512) s (y 0) (y 1) (y 2) := by
  obtain ⟨r, a, b, rfl⟩ : ∃ (r : Fin 4) (a : Fin 1024) (b : Fin 512), y = ix3 r a b := ⟨y 0, y 1, y 2, eq_ix3 (n0 := 4) (n1 := 1024) (n2 := 512) y⟩
  show (Rect.unit (s := S2x4x1024x512) ![s.val, 0, 0, 0] S1x4x1024x512.size (islot_inb s)).emb
    (Shape.reshapeEquiv squeezes_S1x4x1024x512_S4x1024x512.numel_eq (ix3 r a b)) = _
  rw [show Shape.reshapeEquiv squeezes_S1x4x1024x512_S4x1024x512.numel_eq (ix3 r a b) = ix4 ⟨0, Nat.one_pos⟩ r a b from reshapeEquiv_ix3_1abc _ r a b]
  funext x
  match x with
  | ⟨0, _⟩ => exact Fin.ext (show s.val + 1 * 0 = s.val by omega)
  | ⟨1, _⟩ => exact Fin.ext (show 0 + 1 * r.val = r.val by omega)
  | ⟨2, _⟩ => exact Fin.ext (show 0 + 1 * a.val = a.val by omega)
  | ⟨3, _⟩ => exact Fin.ext (show 0 + 1 * b.val = b.val by omega)

theorem oslot_inb (s : Fin 2) : ∀ a, (![s.val, 0, 0] : Fin 3 → Nat) a + S1x1024x2048.size a ≤ S2x1024x2048.size a := by
  intro a
  match a with
  | ⟨0, _⟩ => exact s.isLt
  | ⟨1, _⟩ => exact Nat.le_refl _
  | ⟨2, _⟩ => exact Nat.le_refl _

/-- An output slot. -/
abbrev oslot (s : Fin 2) : Memref sig .tc .vmem S1024x2048 .f32 :=
  (ostM.slice (Rect.unit (s := S2x1024x2048) ![s.val, 0, 0] S1x1024x2048.size (oslot_inb s)) (fun _ => rfl)).squeeze S1024x2048
    squeezes_S1x1024x2048_S1024x2048

theorem oslot_emb (s : Fin 2) (y : S1024x2048.Idx) : (oslot s).view.emb y = ix3 (n0 := 2) (n1 := 1024) (n2 := 2048) s (y 0) (y 1) := by
  obtain ⟨a, b, rfl⟩ : ∃ (a : Fin 1024) (b : Fin 2048), y = ix2 a b := ⟨y 0, y 1, eq_ix2 (n0 := 1024) (n1 := 2048) y⟩
  show (Rect.unit (s := S2x1024x2048) ![s.val, 0, 0] S1x1024x2048.size (oslot_inb s)).emb
    (Shape.reshapeEquiv squeezes_S1x1024x2048_S1024x2048.numel_eq (ix2 a b)) = _
  rw [show Shape.reshapeEquiv squeezes_S1x1024x2048_S1024x2048.numel_eq (ix2 a b) = ix3 ⟨0, Nat.one_pos⟩ a b from reshapeEquiv_ix2_1ab _ a b]
  refine Shape.idx3_ext ?_ ?_ ?_
  · show s.val + 1 * 0 = s.val; omega
  · show 0 + 1 * a.val = a.val; omega
  · show 0 + 1 * b.val = b.val; omega

theorem oblk_inb (b : Fin 16) : ∀ a, (![0, 2048 * b.val] : Fin 2 → Nat) a + S1024x2048.size a ≤ S1024x32768.size a := by
  intro a
  have := b.isLt
  match a with
  | ⟨0, _⟩ => exact Nat.le_refl _
  | ⟨1, _⟩ => show 2048 * b.val + 2048 ≤ 32768; omega

/-- The result's columns `2048 b` and on. -/
abbrev oblk (b : Fin 16) : Memref sig .tc .hbm S1024x2048 .f32 :=
  outM.slice (Rect.unit (s := S1024x32768) ![0, 2048 * b.val] S1024x2048.size (oblk_inb b)) (fun _ => rfl)

/-- Any spelling of the block's offsets gives the block. -/
theorem oblk_of (b : Fin 16) {off : Fin 2 → Nat} (hoff : off = ![0, 2048 * b.val]) (inb : ∀ a, off a + S1024x2048.size a ≤ S1024x32768.size a) :
    outM.slice (Rect.unit (s := S1024x32768) off S1024x2048.size inb) (fun _ => rfl) = oblk b := by
  subst hoff; rfl

theorem oblk_emb (b : Fin 16) (y : S1024x2048.Idx) :
    (oblk b).view.emb y = ix2 (n0 := 1024) (n1 := 32768) (y 0) ⟨2048 * b.val + (y 1).val, by have := b.isLt; have : (y 1).val < 2048 := (y 1).isLt; omega⟩ := by
  obtain ⟨a, x, rfl⟩ : ∃ (a : Fin 1024) (b : Fin 2048), y = ix2 a b := ⟨y 0, y 1, eq_ix2 (n0 := 1024) (n1 := 2048) y⟩
  show (Rect.unit (s := S1024x32768) ![0, 2048 * b.val] S1024x2048.size (oblk_inb b)).emb (ix2 a x) = _
  funext z
  match z with
  | ⟨0, _⟩ => exact Fin.ext (show 0 + 1 * a.val = a.val by omega)
  | ⟨1, _⟩ => exact Fin.ext (show 2048 * b.val + 1 * x.val = 2048 * b.val + x.val by omega)

/-! ## The values -/

/-- The item's four chunks. -/
def item4 (c : Dev nD) (i : Fin 16) : Vec F S4x1024x512 .bf16 := fun y => chunk m c i (y 0) (ix2 (n0 := 1024) (n1 := 512) (y 1) (y 2))
/-- A chunk of it, as loaded. -/
def inV (c : Dev nD) (i : Fin 16) (q : Fin 4) : Vec F S1x1x1024x512 .bf16 := shapeCast S1x1x1024x512 (chunk m c i q) (by decide)
/-- The same, scaled, as stored. -/
def outV (c : Dev nD) (i : Fin 16) (q : Fin 4) : Vec F S1x1024x512 .f32 := k0_pay2 (F := F) (invC m c) (inV m c i q)

theorem inV_apply (c : Dev nD) (i : Fin 16) (q : Fin 4) (a : Fin 1024) (b : Fin 512) :
    inV m c i q (ix4 (n0 := 1) (n1 := 1) (n2 := 1024) (n3 := 512) 0 0 a b) = chunk m c i q (ix2 a b) := by
  show chunk m c i q (Shape.reshapeEquiv _ _) = _
  refine congrArg (chunk m c i q) ?_
  refine Shape.reshapeEquiv_eq_of_rowMajor _ ?_
  rw [Shape.rowMajor_val_four, Shape.rowMajor_val_two]
  show a.val * 512 + b.val = ((0 * 1 + 0) * 1024 + a.val) * 512 + b.val
  omega

theorem outV_apply (c : Dev nD) (i : Fin 16) (q : Fin 4) (a : Fin 1024) (b : Fin 512) (x : Fin 2048) (hx : x.val = 512 * q.val + b.val) :
    outV m c i q (ix3 (n0 := 1) (n1 := 1024) (n2 := 512) 0 a b) = itemAt m c i a x := by
  have hb := b.isLt
  have hq := q.isLt
  have e1 : (⟨x.val / 512, by have := x.isLt; omega⟩ : Fin 4) = q := Fin.ext (by show x.val / 512 = q.val; omega)
  have e2 : (⟨x.val % 512, Nat.mod_lt _ (by decide)⟩ : Fin 512) = b := Fin.ext (by show x.val % 512 = b.val; omega)
  unfold itemAt
  rw [e1, e2]
  show _ = outV m c i q (Shape.reshapeEquiv _ (ix2 a b))
  refine congrArg (outV m c i q) ?_
  exact (reshapeEquiv_ix2_1ab _ a b).symm

/-! ## The copies in -/

/-- The slot of an item. -/
def sl (i : Fin 16) : Fin 2 := ⟨i.val % 2, Nat.mod_lt _ (by decide)⟩
abbrev NI : ℕ := (islot 0).view.dmaCredit
abbrev NO : ℕ := (oblk 0).view.dmaCredit

def InFree (c : Dev nD) (s : Fin 2) : sProp 𝕄 :=
  iprop(semVal ((c : Thread nD τ), .dma (inSem s)) 0 ∗ ∃ f, (islot s).view.loc (c : Thread nD τ) ↦[(islot s).view.set]{fullShare} f)
def inPts (c : Dev nD) (i : Fin 16) : sProp 𝕄 := (islot (sl i)).view.loc (c : Thread nD τ) ↦[(islot (sl i)).view.set]{fullShare} istC m c i
def InFly (c : Dev nD) (i : Fin 16) : sProp 𝕄 := Transfers.Flight EC (c : Thread nD τ) (.dma (inSem (sl i))) () NI (inPts m c i)
def InRdy (c : Dev nD) (i : Fin 16) : sProp 𝕄 := iprop(semVal ((c : Thread nD τ), .dma (inSem (sl i))) 0 ∗ inPts m c i)

theorem inRdy_free (c : Dev nD) (i : Fin 16) (s : Fin 2) (h : sl i = s) : InRdy m c i ⊢ InFree c s := by
  subst h
  unfold InRdy InFree inPts
  iintro ⟨Hz, H⟩
  isplitl [Hz]; · iexact Hz
  iexists _; iexact H

omit [FloatOps F] in
theorem read_islot (s : Fin 2) (g : Fin 4 → Vec F S1024x512 .bf16) (G : Vec F S2x4x1024x512 .bf16)
    (hG : G = fun i => g (i 1) (ix2 (n0 := 1024) (n1 := 512) (i 2) (i 3))) :
    (islot s).view.read (Elt F) G = fun y => g (y 0) (ix2 (n0 := 1024) (n1 := 512) (y 1) (y 2)) := by
  funext y
  rw [View.read_apply, hG]
  exact (congrArg (_root_.cast _) (congrArg (fun i : S2x4x1024x512.Idx => g (i 1) (ix2 (n0 := 1024) (n1 := 512) (i 2) (i 3))) (islot_emb s y)))

section InRules
variable (K : Dev nD × CI → ℕ) (c : Dev nD) (i : Fin 16)

/-- The copy of an item into its slot starts. -/
theorem wp_istart {sem : DmaSem sig} (hsem : sem = inSem (sl i))
    {src : Memref sig .tc .hbm S4x1024x512 .bf16} {dst : Memref sig .tc .vmem S4x1024x512 .bf16} (hd : dst = islot (sl i))
    {hsrc : src.view.WordExact} {hdst : dst.view.WordExact} {hsm : DmaTarget.Typed (nD := nD) (p := (c : Thread nD τ).2) .hbm (.dma sem) (.here dst)} {α : Type} {Q : α → sProp 𝕄}
    {kk : PUnit → Prog (TpuEff nD τ sig (Elt F) Λ₀ .tc) α} (q : PosShare TreeShare) (fs : src.view.ty.Contents (Elt F))
    (hfs : src.view.read (Elt F) fs = item4 m c i) :
    iprop((src.view.loc (c : Thread nD τ) ↦[src.view.set]{q} fs) ∗ InFree c (sl i))
      ⊢ iprop((InFly m c i -∗ WP c (kk ⟨⟩) Q) -∗ WP c (.op (.enqueueDma src (.here dst) (.dma sem) hsrc hdst hsm) kk) Q) := by
  subst hsem hd
  unfold InFree
  iintro ⟨Hs, ⟨Hz, ⟨%fd, Hd⟩⟩⟩ Hk
  iapply (Transfers.wp_dmaLocal EC 𝒱₀ (c : Thread nD τ) none () NI rfl (View.dmaCredit_pos _ (by decide)) subset_rfl) $$ [Hs Hd Hz]
  · isplitl [Hs]; · iexact Hs
    isplitl [Hd]; · iexact Hd
    iexact Hz
  iintro HF
  iapply Hk
  have hD : iprop(((islot (sl i)).view.loc (c : Thread nD τ) ↦[(islot (sl i)).view.set]{fullShare}
        ((islot (sl i)).view.write (Elt F) fd (ReadAs.same.apply (src.view.read (Elt F) fs)) Finset.univ))
      ∗ (src.view.loc (c : Thread nD τ) ↦[src.view.set]{q} fs) : sProp 𝕄) ⊢ inPts m c i := by
    unfold inPts
    iintro ⟨H1, -⟩
    iapply (Entails.of_eq (pointsTo_congr (write_landed (islot (sl i)).view fd (istC m c i) _
        ((read_islot (sl i) (chunk m c i) (istC m c i) rfl).trans hfs.symm)))) $$ H1
  unfold InFly
  iapply (Transfers.Flight_mono EC (c : Thread nD τ) hD) $$ HF

/-- A wait for it. -/
theorem wp_iwait (A : Finset Msg) {sem : DmaSem sig} (hsem : sem = inSem (sl i))
    {sp sp' : Space} {s s' : Shape} {e e' : EltTy} {srcw : Memref sig .tc sp' s' e'} {dstw : Memref sig .tc sp s e}
    {hsrc : srcw.view.WordExact} {hdst : dstw.view.WordExact} (hN : dstw.view.dmaCredit = NI) {α : Type} {Q : α → sProp 𝕄}
    {kk : PUnit → Prog (TpuEff nD τ sig (Elt F) Λ₀ .tc) α} :
    iprop(ctx m K ∗ InFly m c i ∗ Owes c A)
      ⊢ iprop((iprop(InRdy m c i ∗ Owes c A) -∗ WP c (kk ⟨⟩) Q) -∗ WP c (.op (.waitDma2 sem srcw dstw hsrc hdst) kk) Q) := by
  subst hsem
  unfold Owes InFly
  iintro ⟨#Hctx, HF, ⟨%W, HO⟩⟩ Hk
  iapply (Transfers.wp_waitLocalO EC 𝒱₀ (c : Thread nD τ) none () hN) $$ [HF HO]
  · isplitl [HF]; · iexact HF
    isplitl [HO]; · iexact HO
    iapply (mayWait_local c _ (dec_inSem (sl i)) A)
    iapply (ctx_lev m K) $$ Hctx
  iintro ⟨Hp, Hz, HO⟩
  iapply Hk
  isplitl [Hp Hz]
  · unfold InRdy
    isplitl [Hz]; · iexact Hz
    iexact Hp
  iexists _; iexact HO

/-- A load of one of its chunks. -/
theorem wp_iload (r : Fin 4) {off : Fin 4 → Nat} (hoff : off = ![(sl i).val, r.val, 0, 0]) {inb : ∀ a, off a + S1x1x1024x512.size a ≤ S2x4x1024x512.size a}
    {hl : istM.view.LoadsAt (Rect.unit (s := S2x4x1024x512) off S1x1x1024x512.size inb).toLoadRect} {α : Type} {Q : α → sProp 𝕄}
    {k : Vec F S1x1x1024x512 .bf16 → Prog (TpuEff nD τ sig (Elt F) Λ₀ .tc) α} :
    InRdy m c i ⊢ iprop((InRdy m c i -∗ WP c (k (inV m c i r)) Q)
        -∗ WP c (.op (.load istM (Rect.unit (s := S2x4x1024x512) off S1x1x1024x512.size inb).toLoadRect hl) k) Q) := by
  subst hoff
  have hemb : ∀ y : S1x1x1024x512.Idx, (istM.access (Rect.unit (s := S2x4x1024x512) ![(sl i).val, r.val, 0, 0] S1x1x1024x512.size inb)).emb y
      = ix4 (n0 := 2) (n1 := 4) (n2 := 1024) (n3 := 512) (sl i) r (y 2) (y 3) := by
    intro y
    obtain ⟨u, v, a, b, rfl⟩ : ∃ (u v : Fin 1) (a : Fin 1024) (b : Fin 512), y = ix4 u v a b := ⟨y 0, y 1, y 2, y 3, eq_ix4 (n0 := 1) (n1 := 1) (n2 := 1024) (n3 := 512) y⟩
    funext x
    match x with
    | ⟨0, _⟩ => exact Fin.ext (show (sl i).val + 1 * u.val = (sl i).val by omega)
    | ⟨1, _⟩ => exact Fin.ext (show r.val + 1 * v.val = r.val by omega)
    | ⟨2, _⟩ => exact Fin.ext (show 0 + 1 * a.val = a.val by omega)
    | ⟨3, _⟩ => exact Fin.ext (show 0 + 1 * b.val = b.val by omega)
  have hset : (istM.access (Rect.unit (s := S2x4x1024x512) ![(sl i).val, r.val, 0, 0] S1x1x1024x512.size inb)).set ⊆ (islot (sl i)).view.set := by
    intro z hz
    obtain ⟨y, rfl⟩ := View.exists_emb_of_mem_set _ hz
    rw [hemb]
    exact (islot_emb (sl i) (ix3 (n0 := 4) (n1 := 1024) (n2 := 512) r (y 2) (y 3))) ▸ View.emb_mem_set _ _
  have hread : (istM.access (Rect.unit (s := S2x4x1024x512) ![(sl i).val, r.val, 0, 0] S1x1x1024x512.size inb)).read (Elt F) (istC m c i) = inV m c i r := by
    funext y
    refine Eq.trans (congrArg (istC m c i) (hemb y)) ?_
    obtain ⟨u, v, a, b, rfl⟩ : ∃ (u v : Fin 1) (a : Fin 1024) (b : Fin 512), y = ix4 u v a b := ⟨y 0, y 1, y 2, y 3, eq_ix4 (n0 := 1) (n1 := 1) (n2 := 1024) (n3 := 512) y⟩
    rw [show u = 0 from Fin.ext (by omega), show v = 0 from Fin.ext (by omega), inV_apply]
    rfl
  have h : (inPts m c i : sProp 𝕄) ⊢ iprop((inPts m c i -∗ WP c (k ((istM.access (Rect.unit (s := S2x4x1024x512) ![(sl i).val, r.val, 0, 0] S1x1x1024x512.size inb)).read (Elt F) (istC m c i))) Q)
        -∗ WP c (.op (.load istM (Rect.unit (s := S2x4x1024x512) ![(sl i).val, r.val, 0, 0] S1x1x1024x512.size inb).toLoadRect hl) k) Q) :=
    wp_load_rect 𝒱₀ (c : Thread nD τ) none Set.univ (m := istM) (r := Rect.unit (s := S2x4x1024x512) ![(sl i).val, r.val, 0, 0] S1x1x1024x512.size inb)
      (S := (islot (sl i)).view.set) hset
  rw [hread] at h
  unfold InRdy
  iintro ⟨Hz, H⟩ Hk
  iapply h $$ H
  iintro H
  iapply Hk
  isplitl [Hz]; · iexact Hz
  iexact H

end InRules

/-! ## The output slots -/

def OutFree (c : Dev nD) (s : Fin 2) : sProp 𝕄 :=
  iprop(semVal ((c : Thread nD τ), .dma (outSem s)) 0 ∗ ∃ f, (oslot s).view.loc (c : Thread nD τ) ↦[(oslot s).view.set]{fullShare} f)

/-- The item's first `q` scaled chunks are in its slot. -/
def OutFil (c : Dev nD) (i : Fin 16) (q : ℕ) : sProp 𝕄 :=
  iprop(semVal ((c : Thread nD τ), .dma (outSem (sl i))) 0
    ∗ ∃ f : Vec F S2x1024x2048 .f32, ⌜∀ (a : Fin 1024) (b : Fin 2048), b.val < 512 * q → f (ix3 (n0 := 2) (n1 := 1024) (n2 := 2048) (sl i) a b) = itemAt m c i a b⌝
      ∗ ((oslot (sl i)).view.loc (c : Thread nD τ) ↦[(oslot (sl i)).view.set]{fullShare} f))

theorem outFil_zero (c : Dev nD) (i : Fin 16) (s : Fin 2) (h : sl i = s) : OutFree c s ⊢ OutFil m c i 0 := by
  subst h
  unfold OutFree OutFil
  iintro ⟨Hz, ⟨%f, H⟩⟩
  isplitl [Hz]; · iexact Hz
  iexists f
  isplitr
  · ipureintro; intro a b hb; omega
  iexact H

/-- The column block of an item. -/
def colOf (c : Dev nD) (i : Fin 16) : Fin 16 :=
  ⟨(if i.val < 8 then 8 * (c.val % 2) + i.val else 8 * (1 - c.val % 2) + (i.val - 8)) % 16, Nat.mod_lt _ (by decide)⟩

theorem colOf_bij (c : Dev nD) : Function.Bijective (colOf c) := by
  revert c; decide +kernel

theorem itemOf_colOf : ∀ (c : Dev nD) (i : Fin 16), (if (colOf c i).val / 8 = c.val % 2 then (colOf c i).val % 8 else 8 + (colOf c i).val % 8) = i.val := by
  decide +kernel

def outPts (c : Dev nD) (i : Fin 16) : sProp 𝕄 :=
  (oblk (colOf c i)).view.loc (c : Thread nD τ) ↦[(oblk (colOf c i)).view.set]{fullShare} outFin m c
def outAny (c : Dev nD) (i : Fin 16) : sProp 𝕄 :=
  iprop(∃ f, (oblk (colOf c i)).view.loc (c : Thread nD τ) ↦[(oblk (colOf c i)).view.set]{fullShare} f)
def oslotAny (c : Dev nD) (s : Fin 2) : sProp 𝕄 :=
  iprop(∃ f, (oslot s).view.loc (c : Thread nD τ) ↦[(oslot s).view.set]{fullShare} f)

def OutFly (c : Dev nD) (i : Fin 16) : sProp 𝕄 :=
  Transfers.Flight EC (c : Thread nD τ) (.dma (outSem (sl i))) () NO iprop(outPts m c i ∗ oslotAny c (sl i))

/-- The result's blocks: those of the items below `w` written, those from `w` to below `n` under way. -/
def OutSt (c : Dev nD) (w n : ℕ) : sProp 𝕄 :=
  bigSep Finset.univ fun i : Fin 16 => if i.val < w then outPts m c i else if i.val < n then iprop(emp) else outAny c i

section OutRules
variable (K : Dev nD × CI → ℕ) (c : Dev nD) (i : Fin 16)

theorem oacc_emb {off : Fin 3 → Nat} (r : Fin 4) (hoff : off = ![(sl i).val, 0, 512 * r.val]) (inb : ∀ a, off a + S1x1024x512.size a ≤ S2x1024x2048.size a)
    (y : S1x1024x512.Idx) : (ostM.access (Rect.unit (s := S2x1024x2048) off S1x1024x512.size inb)).emb y
      = ix3 (n0 := 2) (n1 := 1024) (n2 := 2048) (sl i) (y 1) ⟨512 * r.val + (y 2).val, by have := r.isLt; have : (y 2).val < 512 := (y 2).isLt; omega⟩ := by
  subst hoff
  obtain ⟨u, a, b, rfl⟩ : ∃ (u : Fin 1) (a : Fin 1024) (b : Fin 512), y = ix3 u a b := ⟨y 0, y 1, y 2, eq_ix3 (n0 := 1) (n1 := 1024) (n2 := 512) y⟩
  refine Shape.idx3_ext ?_ ?_ ?_
  · show (sl i).val + 1 * u.val = (sl i).val; omega
  · show 0 + 1 * a.val = a.val; omega
  · show 512 * r.val + 1 * b.val = 512 * r.val + b.val; omega

theorem oacc_set {off : Fin 3 → Nat} (r : Fin 4) (hoff : off = ![(sl i).val, 0, 512 * r.val]) (inb : ∀ a, off a + S1x1024x512.size a ≤ S2x1024x2048.size a) :
    (ostM.access (Rect.unit (s := S2x1024x2048) off S1x1024x512.size inb)).set ⊆ (oslot (sl i)).view.set := by
  intro z hz
  obtain ⟨y, rfl⟩ := View.exists_emb_of_mem_set _ hz
  rw [oacc_emb i r hoff]
  exact (oslot_emb (sl i) (ix2 (n0 := 1024) (n1 := 2048) (y 1) ⟨512 * r.val + (y 2).val, by have := r.isLt; have : (y 2).val < 512 := (y 2).isLt; omega⟩)) ▸ View.emb_mem_set _ _

/-- A load from the output slot, whatever it holds. -/
theorem wp_oload (r : Fin 4) (n : ℕ) {off : Fin 3 → Nat} (hoff : off = ![(sl i).val, 0, 512 * r.val]) {inb : ∀ a, off a + S1x1024x512.size a ≤ S2x1024x2048.size a}
    {hl : ostM.view.LoadsAt (Rect.unit (s := S2x1024x2048) off S1x1024x512.size inb).toLoadRect} {α : Type} {Q : α → sProp 𝕄}
    {k : Vec F S1x1024x512 .f32 → Prog (TpuEff nD τ sig (Elt F) Λ₀ .tc) α} :
    OutFil m c i n ⊢ iprop((∀ v, OutFil m c i n -∗ WP c (k v) Q)
        -∗ WP c (.op (.load ostM (Rect.unit (s := S2x1024x2048) off S1x1024x512.size inb).toLoadRect hl) k) Q) := by
  unfold OutFil
  iintro ⟨Hz, ⟨%f, %hf, H⟩⟩ Hk
  iapply (wp_load_rect 𝒱₀ (c : Thread nD τ) none Set.univ (m := ostM) (r := Rect.unit (s := S2x1024x2048) off S1x1024x512.size inb)
      (S := (oslot (sl i)).view.set) (oacc_set i r hoff inb)) $$ H
  iintro H
  iapply Hk
  isplitl [Hz]; · iexact Hz
  iexists f
  isplitr; · ipureintro; exact hf
  iexact H

theorem ostore_val (r : Fin 4) {off : Fin 3 → Nat} (hoff : off = ![(sl i).val, 0, 512 * r.val]) (inb : ∀ a, off a + S1x1024x512.size a ≤ S2x1024x2048.size a)
    {w : Vec F S1x1024x512 .f32} (hw : w = outV m c i r) (f : Vec F S2x1024x2048 .f32)
    (hf : ∀ (a : Fin 1024) (b : Fin 2048), b.val < 512 * r.val → f (ix3 (n0 := 2) (n1 := 1024) (n2 := 2048) (sl i) a b) = itemAt m c i a b)
    (a : Fin 1024) (b : Fin 2048) (hb : b.val < 512 * (r.val + 1)) :
    (ostM.access (Rect.unit (s := S2x1024x2048) off S1x1024x512.size inb)).write (Elt F) f w Finset.univ (ix3 (n0 := 2) (n1 := 1024) (n2 := 2048) (sl i) a b) = itemAt m c i a b := by
  by_cases h : b.val < 512 * r.val
  · have hn : ix3 (n0 := 2) (n1 := 1024) (n2 := 2048) (sl i) a b ∉ (ostM.access (Rect.unit (s := S2x1024x2048) off S1x1024x512.size inb)).setOn Finset.univ := by
      intro hmem
      rw [View.setOn_univ] at hmem
      obtain ⟨y, hy⟩ := View.exists_emb_of_mem_set _ hmem
      rw [oacc_emb i r hoff] at hy
      have := congrArg Fin.val (congrFun hy 2)
      change 512 * r.val + (y 2).val = b.val at this
      omega
    exact (View.write_of_not_mem (v := ostM.access (Rect.unit (s := S2x1024x2048) off S1x1024x512.size inb)) f w Finset.univ hn).trans (hf a b h)
  · have hlt : b.val - 512 * r.val < 512 := by omega
    have e := oacc_emb i r hoff inb (ix3 (n0 := 1) (n1 := 1024) (n2 := 512) 0 a ⟨b.val - 512 * r.val, hlt⟩)
    have e2 : ix3 (n0 := 2) (n1 := 1024) (n2 := 2048) (sl i) a b
        = (ostM.access (Rect.unit (s := S2x1024x2048) off S1x1024x512.size inb)).emb (ix3 (n0 := 1) (n1 := 1024) (n2 := 512) 0 a ⟨b.val - 512 * r.val, hlt⟩) :=
      Eq.trans (congrArg (ix3 (n0 := 2) (n1 := 1024) (n2 := 2048) (sl i) a) (Fin.ext (show b.val = 512 * r.val + (b.val - 512 * r.val) by omega))) e.symm
    rw [e2]
    refine (View.write_emb_of_mem (v := ostM.access (Rect.unit (s := S2x1024x2048) off S1x1024x512.size inb)) f w (Finset.mem_univ _)).trans ?_
    rw [hw]
    exact outV_apply m c i r a ⟨b.val - 512 * r.val, hlt⟩ b (show b.val = 512 * r.val + (b.val - 512 * r.val) by omega)

/-- The store of a scaled chunk. -/
theorem wp_ostore (r : Fin 4) {off : Fin 3 → Nat} (hoff : off = ![(sl i).val, 0, 512 * r.val]) {inb : ∀ a, off a + S1x1024x512.size a ≤ S2x1024x2048.size a}
    {w : Vec F S1x1024x512 .f32} (hw : w = outV m c i r)
    {hx : (ostM.access (Rect.unit (s := S2x1024x2048) off S1x1024x512.size inb)).Stores Finset.univ}
    {hm : (Finset.univ : Finset S1x1024x512.Idx) = Finset.univ ∨ ∀ a, (Rect.unit (s := S2x1024x2048) off S1x1024x512.size inb).stride a = 1} {α : Type} {Q : α → sProp 𝕄}
    {k : PUnit → Prog (TpuEff nD τ sig (Elt F) Λ₀ .tc) α} :
    OutFil m c i r.val ⊢ iprop((OutFil m c i (r.val + 1) -∗ WP c (k ⟨⟩) Q)
        -∗ WP c (.op (.store ostM (Rect.unit (s := S2x1024x2048) off S1x1024x512.size inb) w Finset.univ hx hm) k) Q) := by
  unfold OutFil
  iintro ⟨Hz, ⟨%f, %hf, H⟩⟩ Hk
  iapply (wp_store 𝒱₀ (c : Thread nD τ) none Set.univ (m := ostM) (r := Rect.unit (s := S2x1024x2048) off S1x1024x512.size inb)
      (Mk := Finset.univ) (S := (oslot (sl i)).view.set) (oacc_set i r hoff inb)) $$ H
  iintro H
  iapply Hk
  isplitl [Hz]; · iexact Hz
  iexists _
  isplitr
  · ipureintro
    intro a b hb
    have hr := r.isLt
    exact ostore_val m c i r hoff inb hw f hf a b hb
  iexact H

/-- What the output slot holds is what the result has in the item's block. -/
theorem read_outFin : (oblk (colOf c i)).view.read (Elt F) (outFin m c) = fun y => itemAt m c i (y 0) (y 1) := by
  funext y
  obtain ⟨a, x, rfl⟩ : ∃ (a : Fin 1024) (b : Fin 2048), y = ix2 a b := ⟨y 0, y 1, eq_ix2 (n0 := 1024) (n1 := 2048) y⟩
  refine Eq.trans (congrArg (outFin m c) (oblk_emb (colOf c i) (ix2 a x))) ?_
  have hx := x.isLt
  have hc := (colOf c i).isLt
  have h := itemOf_colOf c i
  show itemAt m c (itemOf c ⟨2048 * (colOf c i).val + x.val, _⟩) a ⟨(2048 * (colOf c i).val + x.val) % 2048, _⟩ = itemAt m c i a x
  have e1 : itemOf c ⟨2048 * (colOf c i).val + x.val, by omega⟩ = i := by
    refine Fin.ext ?_
    show (if (2048 * (colOf c i).val + x.val) / 16384 = c.val % 2 then (2048 * (colOf c i).val + x.val) % 16384 / 2048
      else 8 + (2048 * (colOf c i).val + x.val) % 16384 / 2048) % 16 = i.val
    rw [show (2048 * (colOf c i).val + x.val) / 16384 = (colOf c i).val / 8 by omega,
      show (2048 * (colOf c i).val + x.val) % 16384 / 2048 = (colOf c i).val % 8 by omega, h]
    exact Nat.mod_eq_of_lt i.isLt
  have e2 : (⟨(2048 * (colOf c i).val + x.val) % 2048, Nat.mod_lt _ (by decide)⟩ : Fin 2048) = x := Fin.ext (by show _ % 2048 = x.val; omega)
  rw [e1, e2]

/-- The copy of an item out of its slot starts. -/
theorem wp_ostart (w : ℕ) (hw : w ≤ i.val) {sem : DmaSem sig} (hsem : sem = outSem (sl i))
    {src : Memref sig .tc .vmem S1024x2048 .f32} {dst : Memref sig .tc .hbm S1024x2048 .f32} (hs : src = oslot (sl i)) (hd : dst = oblk (colOf c i))
    {hsrc : src.view.WordExact} {hdst : dst.view.WordExact} {hsm : DmaTarget.Typed (nD := nD) (p := (c : Thread nD τ).2) .vmem (.dma sem) (.here dst)} {α : Type} {Q : α → sProp 𝕄}
    {kk : PUnit → Prog (TpuEff nD τ sig (Elt F) Λ₀ .tc) α} :
    iprop(OutFil m c i 4 ∗ OutSt m c w i.val)
      ⊢ iprop((iprop(OutFly m c i ∗ OutSt m c w (i.val + 1)) -∗ WP c (kk ⟨⟩) Q)
          -∗ WP c (.op (.enqueueDma src (.here dst) (.dma sem) hsrc hdst hsm) kk) Q) := by
  subst hsem hs hd
  unfold OutFil OutSt
  iintro ⟨⟨Hz, ⟨%f, %hf, Hs⟩⟩, HR⟩ Hk
  ihave HR := (bigSep_upd i (fun i' : Fin 16 => if i'.val < w then outPts m c i' else if i'.val < i.val then iprop(emp) else outAny c i')
    (fun i' : Fin 16 => if i'.val < w then outPts m c i' else if i'.val < i.val + 1 then iprop(emp) else outAny c i')
    (fun x hx => by
      have : x.val ≠ i.val := fun e => hx (Fin.ext e)
      by_cases h1 : x.val < w
      · rw [if_pos h1, if_pos h1]
      · rw [if_neg h1, if_neg h1]
        by_cases h2 : x.val < i.val
        · rw [if_pos h2, if_pos (by omega)]
        · rw [if_neg h2, if_neg (by omega)])) $$ HR
  rw [if_neg (Nat.not_lt.mpr hw), if_neg (lt_irrefl _), if_neg (Nat.not_lt.mpr hw), if_pos (Nat.lt_succ_self _)]
  icases HR with ⟨Hd, Hback⟩
  unfold outAny
  icases Hd with ⟨%fd, Hd⟩
  iapply (Transfers.wp_dmaLocal EC 𝒱₀ (c : Thread nD τ) none () NO rfl (View.dmaCredit_pos _ (by decide)) subset_rfl) $$ [Hs Hd Hz]
  · isplitl [Hs]; · iexact Hs
    isplitl [Hd]; · iexact Hd
    iexact Hz
  iintro HF
  iapply Hk
  have hread : (oslot (sl i)).view.read (Elt F) f = fun y => itemAt m c i (y 0) (y 1) := by
    funext y
    refine Eq.trans (congrArg f (oslot_emb (sl i) y)) ?_
    exact hf (y 0) (y 1) (by have : (y 1).val < 2048 := (y 1).isLt; omega)
  have hD : iprop(((oblk (colOf c i)).view.loc (c : Thread nD τ) ↦[(oblk (colOf c i)).view.set]{fullShare}
        ((oblk (colOf c i)).view.write (Elt F) fd (ReadAs.same.apply ((oslot (sl i)).view.read (Elt F) f)) Finset.univ))
      ∗ ((oslot (sl i)).view.loc (c : Thread nD τ) ↦[(oslot (sl i)).view.set]{fullShare} f) : sProp 𝕄) ⊢ iprop(outPts m c i ∗ oslotAny c (sl i)) := by
    unfold outPts oslotAny
    iintro ⟨H1, H2⟩
    isplitl [H1]
    · iapply (Entails.of_eq (pointsTo_congr (write_landed (oblk (colOf c i)).view fd (outFin m c) _
        ((read_outFin m c i).trans hread.symm)))) $$ H1
    · iexists _; iexact H2
  isplitl [HF]
  · unfold OutFly
    iapply (Transfers.Flight_mono EC (c : Thread nD τ) hD) $$ HF
  iapply Hback
  iempintro

/-- A wait for it. -/
theorem wp_owait (n : ℕ) (hn : i.val < n) (A : Finset Msg) {sem : DmaSem sig} (hsem : sem = outSem (sl i))
    {sp sp' : Space} {s s' : Shape} {e e' : EltTy} {srcw : Memref sig .tc sp' s' e'} {dstw : Memref sig .tc sp s e}
    {hsrc : srcw.view.WordExact} {hdst : dstw.view.WordExact} (hN : dstw.view.dmaCredit = NO) {α : Type} {Q : α → sProp 𝕄}
    {kk : PUnit → Prog (TpuEff nD τ sig (Elt F) Λ₀ .tc) α} :
    iprop(ctx m K ∗ OutFly m c i ∗ OutSt m c i.val n ∗ Owes c A)
      ⊢ iprop((iprop(OutFree c (sl i) ∗ OutSt m c (i.val + 1) n ∗ Owes c A) -∗ WP c (kk ⟨⟩) Q)
          -∗ WP c (.op (.waitDma2 sem srcw dstw hsrc hdst) kk) Q) := by
  subst hsem
  unfold Owes OutFly OutSt
  iintro ⟨#Hctx, HF, HR, ⟨%W, HO⟩⟩ Hk
  iapply (Transfers.wp_waitLocalO EC 𝒱₀ (c : Thread nD τ) none () hN) $$ [HF HO]
  · isplitl [HF]; · iexact HF
    isplitl [HO]; · iexact HO
    iapply (mayWait_local c _ (dec_outSem (sl i)) A)
    iapply (ctx_lev m K) $$ Hctx
  iintro ⟨⟨Hp, Hs⟩, Hz, HO⟩
  ihave HR := (bigSep_upd i (fun i' : Fin 16 => if i'.val < i.val then outPts m c i' else if i'.val < n then iprop(emp) else outAny c i')
    (fun i' : Fin 16 => if i'.val < i.val + 1 then outPts m c i' else if i'.val < n then iprop(emp) else outAny c i')
    (fun x hx => by
      have : x.val ≠ i.val := fun e => hx (Fin.ext e)
      by_cases h1 : x.val < i.val
      · rw [if_pos h1, if_pos (by omega)]
      · rw [if_neg h1, if_neg (by omega)])) $$ HR
  rw [if_neg (lt_irrefl _), if_pos hn, if_pos (Nat.lt_succ_self _)]
  icases HR with ⟨-, Hback⟩
  iapply Hk
  isplitl [Hs Hz]
  · unfold OutFree oslotAny
    isplitl [Hz]; · iexact Hz
    iexact Hs
  isplitl [Hback Hp]; · iapply Hback $$ Hp
  iexists _; iexact HO

end OutRules

end Cert.KernelIdeal.Hand
-- ==== Proof.Points.lean ====
/-
# What each grid point sends and receives
-/
module

public import proofs.«01_k».proof.Proof.Em

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which messages a point sends and receives -/

theorem tlt (t : Fin grid0.N) : t.val < 32 := t.isLt.trans_eq N_0

/-- The chunk of a point, the message sent across `z`, the one relayed first, the one relayed twice. -/
def hh (t : Fin grid0.N) : Fin 32 := ⟨t.val, tlt t⟩
def j0 (t : Fin grid0.N) : Fin 8 := ⟨t.val / 4, by have := tlt t; omega⟩
def j1 (t : Fin grid0.N) : Fin 8 := ⟨t.val / 4 - 1, by have := tlt t; omega⟩
def j2 (t : Fin grid0.N) : Fin 4 := ⟨(t.val - 20) / 3, by have := tlt t; omega⟩

abbrev c6 (t : Fin grid0.N) : Prop := 4 ≤ t.val ∧ t.val % 4 = 0
abbrev c7 (t : Fin grid0.N) : Prop := 20 ≤ t.val ∧ t.val < 32 ∧ (t.val - 20) % 3 = 0

/-- The messages sent after the first, the second, the third sending of a point. -/
def A1 (c : Dev nD) (t : Fin grid0.N) : Finset Msg := Finset.univ.filter fun k => sTime (qd c) k < t.val ∨ (t.val % 4 = qd c ∧ k = mz (j0 t))
def A2 (c : Dev nD) (t : Fin grid0.N) : Finset Msg := Finset.univ.filter fun k => (sTime (qd c) k < t.val ∨ (t.val % 4 = qd c ∧ k = mz (j0 t)))
  ∨ (c6 t ∧ (k = mxd (j1 t) ∨ k = myd (j1 t)))
def B1 (t : Fin grid0.N) : Finset Msg := Finset.univ.filter fun k => rTime k < t.val ∨ (c6 t ∧ k = mz (j1 t))

theorem A1_pos (c : Dev nD) (t : Fin grid0.N) (h : t.val % 4 = qd c) : A1 c t = insert (mz (j0 t)) (sent c t.val) := by
  ext k; simp [A1, sent, h, or_comm]
theorem A1_neg (c : Dev nD) (t : Fin grid0.N) (h : ¬ t.val % 4 = qd c) : A1 c t = sent c t.val := by
  ext k; simp [A1, sent, h]
theorem A2_pos (c : Dev nD) (t : Fin grid0.N) (h : c6 t) : A2 c t = insert (myd (j1 t)) (insert (mxd (j1 t)) (A1 c t)) := by
  ext k; simp only [A1, A2, h, Finset.mem_insert, Finset.mem_filter, Finset.mem_univ, true_and]; tauto
theorem A2_neg (c : Dev nD) (t : Fin grid0.N) (h : ¬ c6 t) : A2 c t = A1 c t := by
  ext k; simp only [A1, A2, h, Finset.mem_filter, Finset.mem_univ, true_and, false_and, or_false]
theorem B1_pos (t : Fin grid0.N) (h : c6 t) : B1 t = insert (mz (j1 t)) (recvd t.val) := by
  ext k; simp only [B1, recvd, h, Finset.mem_insert, Finset.mem_filter, Finset.mem_univ, true_and]; tauto
theorem B1_neg (t : Fin grid0.N) (h : ¬ c6 t) : B1 t = recvd t.val := by
  ext k; simp only [B1, recvd, h, Finset.mem_filter, Finset.mem_univ, true_and, false_and, or_false]

theorem sent_succ_pos (c : Dev nD) (t : Fin grid0.N) (h : c7 t) : sent c (t.val + 1) = insert (myt (j2 t)) (A2 c t) := by
  have key : ∀ (c : Dev nD) (t : Fin grid0.N) (k : Fin 33), c7 t → (sTime (qd c) k < t.val + 1 ↔ (k = myt (j2 t)) ∨ ((sTime (qd c) k < t.val
    ∨ (t.val % 4 = qd c ∧ k = mz (j0 t))) ∨ (c6 t ∧ (k = mxd (j1 t) ∨ k = myd (j1 t))))) := by decide +kernel
  ext k
  simp only [sent, A2, Finset.mem_insert, Finset.mem_filter, Finset.mem_univ, true_and]
  exact key c t k h
theorem sent_succ_neg (c : Dev nD) (t : Fin grid0.N) (h : ¬ c7 t) : sent c (t.val + 1) = A2 c t := by
  have key : ∀ (c : Dev nD) (t : Fin grid0.N) (k : Fin 33), ¬ c7 t → (sTime (qd c) k < t.val + 1 ↔ ((sTime (qd c) k < t.val
    ∨ (t.val % 4 = qd c ∧ k = mz (j0 t))) ∨ (c6 t ∧ (k = mxd (j1 t) ∨ k = myd (j1 t))))) := by decide +kernel
  ext k
  simp only [sent, A2, Finset.mem_filter, Finset.mem_univ, true_and]
  exact key c t k h
theorem recvd_succ_pos (t : Fin grid0.N) (h : c7 t) : recvd (t.val + 1) = insert (mxd ((j2 t).castLE (by decide))) (B1 t) := by
  have key : ∀ (t : Fin grid0.N) (k : Fin 33), c7 t → (rTime k < t.val + 1 ↔ (k = mxd ((j2 t).castLE (by decide))) ∨ (rTime k < t.val
    ∨ (c6 t ∧ k = mz (j1 t)))) := by decide +kernel
  ext k
  simp only [recvd, B1, Finset.mem_insert, Finset.mem_filter, Finset.mem_univ, true_and]
  exact key t k h
theorem recvd_succ_neg (t : Fin grid0.N) (h : ¬ c7 t) : recvd (t.val + 1) = B1 t := by
  have key : ∀ (t : Fin grid0.N) (k : Fin 33), ¬ c7 t → (rTime k < t.val + 1 ↔ (rTime k < t.val ∨ (c6 t ∧ k = mz (j1 t)))) := by decide +kernel
  ext k
  simp only [recvd, B1, Finset.mem_filter, Finset.mem_univ, true_and]
  exact key t k h

/-- Each is sent once, received once, and waited for below what is still to be sent. -/
theorem z_new (c : Dev nD) (t : Fin grid0.N) (h : t.val % 4 = qd c) : mz (j0 t) ∉ sent c t.val := by
  have key : ∀ (c : Dev nD) (t : Fin grid0.N), t.val % 4 = qd c → ¬ sTime (qd c) (mz (j0 t)) < t.val := by decide +kernel
  simp only [sent, Finset.mem_filter, Finset.mem_univ, true_and]; exact key c t h
theorem xd_new (c : Dev nD) (t : Fin grid0.N) (h : c6 t) : mxd (j1 t) ∉ A1 c t := by
  have key : ∀ (c : Dev nD) (t : Fin grid0.N), c6 t → ¬ (sTime (qd c) (mxd (j1 t)) < t.val ∨ (t.val % 4 = qd c ∧ mxd (j1 t) = mz (j0 t))) := by decide +kernel
  simp only [A1, Finset.mem_filter, Finset.mem_univ, true_and]; exact key c t h
theorem yd_new (c : Dev nD) (t : Fin grid0.N) (h : c6 t) : myd (j1 t) ∉ insert (mxd (j1 t)) (A1 c t) := by
  have key : ∀ (c : Dev nD) (t : Fin grid0.N), c6 t → ¬ (myd (j1 t) = mxd (j1 t) ∨ sTime (qd c) (myd (j1 t)) < t.val ∨ (t.val % 4 = qd c ∧ myd (j1 t) = mz (j0 t))) := by decide +kernel
  simp only [A1, Finset.mem_insert, Finset.mem_filter, Finset.mem_univ, true_and]; exact key c t h
theorem yt_new (c : Dev nD) (t : Fin grid0.N) (h : c7 t) : myt (j2 t) ∉ A2 c t := by
  have key : ∀ (c : Dev nD) (t : Fin grid0.N), c7 t → ¬ ((sTime (qd c) (myt (j2 t)) < t.val ∨ (t.val % 4 = qd c ∧ myt (j2 t) = mz (j0 t)))
    ∨ (c6 t ∧ (myt (j2 t) = mxd (j1 t) ∨ myt (j2 t) = myd (j1 t)))) := by decide +kernel
  simp only [A2, Finset.mem_filter, Finset.mem_univ, true_and]; exact key c t h
theorem zr_new (t : Fin grid0.N) (h : c6 t) : mz (j1 t) ∉ recvd t.val := by
  have key : ∀ (t : Fin grid0.N), c6 t → ¬ rTime (mz (j1 t)) < t.val := by decide +kernel
  simp only [recvd, Finset.mem_filter, Finset.mem_univ, true_and]; exact key t h
theorem xr_new (t : Fin grid0.N) (h : c7 t) : mxd ((j2 t).castLE (by decide)) ∉ B1 t := by
  have key : ∀ (t : Fin grid0.N), c7 t → ¬ (rTime (mxd ((j2 t).castLE (by decide))) < t.val ∨ (c6 t ∧ mxd ((j2 t).castLE (by decide)) = mz (j1 t))) := by decide +kernel
  simp only [B1, Finset.mem_filter, Finset.mem_univ, true_and]; exact key t h
theorem zr_lev (c : Dev nD) (t : Fin grid0.N) (h : c6 t) : ∀ k, k ∉ A1 c t → mlev (mz (j1 t)) < mlev k := by
  have key : ∀ (c : Dev nD) (t : Fin grid0.N) (k : Fin 33), c6 t → ¬ (sTime (qd c) k < t.val ∨ (t.val % 4 = qd c ∧ k = mz (j0 t))) → mlev (mz (j1 t)) < mlev k := by decide +kernel
  intro k hk
  simp only [A1, Finset.mem_filter, Finset.mem_univ, true_and] at hk; exact key c t k h hk
theorem xr_lev (c : Dev nD) (t : Fin grid0.N) (h : c7 t) : ∀ k, k ∉ A2 c t → mlev (mxd ((j2 t).castLE (by decide))) < mlev k := by
  have key : ∀ (c : Dev nD) (t : Fin grid0.N) (k : Fin 33), c7 t → ¬ ((sTime (qd c) k < t.val ∨ (t.val % 4 = qd c ∧ k = mz (j0 t)))
    ∨ (c6 t ∧ (k = mxd (j1 t) ∨ k = myd (j1 t)))) → mlev (mxd ((j2 t).castLE (by decide))) < mlev k := by decide +kernel
  intro k hk
  simp only [A2, Finset.mem_filter, Finset.mem_univ, true_and] at hk; exact key c t k h hk

/-! ## The messages' numbers -/

theorem tgt_mz : ∀ (c : Dev nD) (j : Fin 8), tgt c (mz j) = zp c := by decide +kernel
theorem tgt_mxd : ∀ (c : Dev nD) (j : Fin 8), tgt c (mxd j) = xp c := by decide +kernel
theorem tgt_myd : ∀ (c : Dev nD) (j : Fin 8), tgt c (myd j) = yp c := by decide +kernel
theorem tgt_myt : ∀ (c : Dev nD) (j : Fin 4), tgt c (myt j) = yp c := by decide +kernel
theorem tgt_mxt : ∀ (c : Dev nD) (j : Fin 4), tgt c (mxt j) = xp c := by decide +kernel

theorem H_mz_val : ∀ (c : Dev nD) (j : Fin 8), (H c (mz j)).val = 4 * j.val + qd c := by decide +kernel
theorem H_mxd_val : ∀ (c : Dev nD) (j : Fin 8), (H c (mxd j)).val = 4 * j.val + qd (xp c) := by decide +kernel
theorem H_myd_val : ∀ (c : Dev nD) (j : Fin 8), (H c (myd j)).val = 4 * j.val + qd (yp c) := by decide +kernel
theorem H_mt_val : ∀ (c : Dev nD) (j : Fin 4), (H c (myt j)).val = 4 * j.val + qd (xp (yp c)) ∧ (H c (mxt j)).val = 4 * (4 + j.val) + qd (xp (yp c)) := by decide +kernel

theorem sendSem_mz : ∀ j : Fin 8, (sendSem (mz j)).val = 3 + j.val := by decide +kernel
theorem recvSem_mz : ∀ j : Fin 8, (recvSem (mz j)).val = 11 + j.val := by decide +kernel
theorem sendSem_mxd : ∀ j : Fin 8, (sendSem (mxd j)).val = 19 + j.val := by decide +kernel
theorem recvSem_mxd : ∀ j : Fin 8, (recvSem (mxd j)).val = 27 + j.val := by decide +kernel
theorem sendSem_myd : ∀ j : Fin 8, (sendSem (myd j)).val = 35 + j.val := by decide +kernel
theorem recvSem_myd : ∀ j : Fin 8, (recvSem (myd j)).val = 43 + j.val := by decide +kernel
theorem sendSem_myt : ∀ j : Fin 4, (sendSem (myt j)).val = 51 + j.val := by decide +kernel
theorem recvSem_myt : ∀ j : Fin 4, (recvSem (myt j)).val = 55 + j.val := by decide +kernel
theorem sendSem_mxt : ∀ j : Fin 4, (sendSem (mxt j)).val = 59 + j.val := by decide +kernel
theorem recvSem_mxt : ∀ j : Fin 4, (recvSem (mxt j)).val = 63 + j.val := by decide +kernel

theorem mz_lt : ∀ j : Fin 8, (mz j).val < 32 := by decide +kernel
theorem mxd_lt : ∀ j : Fin 8, (mxd j).val < 32 ∧ 8 ≤ (mxd j).val := by decide +kernel
theorem myd_lt : ∀ j : Fin 8, (myd j).val < 32 ∧ 8 ≤ (myd j).val := by decide +kernel
theorem myt_lt : ∀ j : Fin 4, (myt j).val < 32 ∧ 8 ≤ (myt j).val := by decide +kernel
theorem mxt_lt : ∀ j : Fin 4, (mxt j).val < 32 ∧ 8 ≤ (mxt j).val := by decide +kernel

end Cert.KernelIdeal.Hand
-- ==== Proof.Blocks.lean ====
/-
# The parts of a grid point before its last guarded pieces
-/
module

public import proofs.«01_k».proof.Proof.Points

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem emSt_idle [FloatOps F] (c : Dev nD) (n : ℕ) (h : n < 2) : EmSt m c (n - 2) n = EmSt m c (n - 1) n := by
  have e1 : n - 2 = 0 := by omega
  have e2 : n - 1 = 0 := by omega
  rw [e1, e2]

/-- A guarded piece before the rest `R`: with the guard it leads from `S` to `X`, and without it `S` is `X`. -/
theorem wp_dite {c : Dev nD} {cnd : Prop} [Decidable cnd] {α : Type} {a : cnd → Prog (TpuEff nD τ sig (Elt F) Λ₀ .tc) α}
    {R : Prog (TpuEff nD τ sig (Elt F) Λ₀ .tc) α} {Q : α → sProp 𝕄} {S : sProp 𝕄} (X : sProp 𝕄)
    (hpos : ∀ h, S ⊢ iprop((X -∗ WP c R Q) -∗ WP c (a h) Q)) (hneg : ¬ cnd → S ⊢ X) (hrest : X ⊢ WP c R Q) :
    S ⊢ WP c (dite cnd a fun _ => R) Q := by
  by_cases h : cnd
  · rw [dif_pos h]
    iintro H
    iapply (hpos h) $$ H
    iintro HX
    iapply hrest $$ HX
  · rw [dif_neg h]
    exact (hneg h).trans hrest

omit [FloatOps F] in
/-- A chunk laid under a leading axis of one, read back. -/
theorem cast_row {e : EltTy} (v : Vec F S1024x512 e) (h : S1024x512.ShapeCasts S1x1024x512) (y : S1024x512.Idx) :
    shapeCast S1x1024x512 v h (Shape.reshapeEquiv squeezes_S1x1024x512_S1024x512.numel_eq y) = v y := by
  show v (Shape.reshapeEquiv _ (Shape.reshapeEquiv _ y)) = v y
  rw [Shape.reshapeEquiv_reshapeEquiv, Shape.reshapeEquiv_self]

section Parts
variable (K : Dev nD × CI → ℕ) (c : Dev nD) (t : Fin grid0.N)
variable (arg1 : Memref sig .tc .vmem S1024x2048 .bf16) (harg1 : arg1.IsWhole) (arg2 : Memref sig .tc .vmem S2048x512 .bf16) (harg2 : arg2.IsWhole)

theorem part57 (A : Finset Msg) (arg0 : BitVec 32) (Q) :
    iprop((ctx m K ∗ EmSt m c (t.val - 2) t.val ∗ EsSt (F := F) c t.val ∗ Owes c A)
      ∗ (iprop(EmSt m c (t.val - 1) (t.val + 1) ∗ EsSt (F := F) c (t.val + 1) ∗ Owes c A)
          -∗ Q ⟨eb m c (hh t), rsum m c (hh t)⟩))
      ⊢ WP c (k0_part57 (grid0.coords t) arg1 harg1 arg2 harg2 (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 arg0 (eE m c (hh t))) Q := by
  have hs4 : slotOf (hh t) = (⟨t.val % 2, Nat.mod_lt _ (by decide)⟩ : Fin 2) := rfl
  simp only [k0_part57_eq_skeleton]
  unfold k0_part57_skel
  refine wp_dite iprop((ctx m K ∗ EmSt m c (t.val - 1) t.val ∗ (semVal ((c : Thread nD τ), .dma (eSem (slotOf (hh t)))) 0
      ∗ estAny c (slotOf (hh t))) ∗ EsSt (F := F) c (t.val + 1) ∗ Owes c A)
      ∗ (iprop(EmSt m c (t.val - 1) (t.val + 1) ∗ EsSt (F := F) c (t.val + 1) ∗ Owes c A)
          -∗ Q ⟨eb m c (hh t), rsum m c (hh t)⟩)) (fun h => ?_) (fun h => ?_) ?_
  · have h2 := (cond2_iff t).mp h
    have hlt := tlt t
    have hsl : slotOf ⟨t.val - 2, by omega⟩ = slotOf (hh t) := Fin.ext (by show (t.val - 2) % 2 = t.val % 2; omega)
    simp only [Prog.lift, Prog.bind_op, Prog.bind_ret, Prog.pure_eq_ret]
    iintro ⟨⟨#Hctx, Hem, Hes, HO⟩, Hk⟩ Hr
    iapply (wp_ewait m K c ⟨t.val - 2, by omega⟩ A t.val (by show t.val - 2 < t.val; omega)
      (by rw [hsl]; exact sem_at 73 _ (t.val % 2) (off1_eq t) _ _ rfl) (by rfl)) $$ [Hem HO]
    · isplitr; · iexact Hctx
      isplitl [Hem]; · iexact Hem
      iexact HO
    rw [hsl]
    iintro ⟨Hem, Hs, HO⟩
    iapply Hr
    isplitr [Hk]
    · isplitr; · iexact Hctx
      isplitl [Hem]; · rw [show t.val - 1 = t.val - 2 + 1 by omega]; iexact Hem
      isplitl [Hs]; · iexact Hs
      isplitl [Hes]; · rw [esSt_late c (t.val + 1) (by omega), ← esSt_late c t.val h2]; iexact Hes
      iexact HO
    iexact Hk
  · have h2 : t.val < 2 := by
      by_contra hc
      exact h ((cond2_iff t).mpr (by omega))
    have hsl : slotOf (hh t) = ⟨t.val, h2⟩ := Fin.ext (by show t.val % 2 = t.val; omega)
    rw [hsl, emSt_idle m c t.val h2]
    iintro ⟨⟨#Hctx, Hem, Hes, HO⟩, Hk⟩
    ihave Hes := (esSt_take c t.val h2) $$ Hes
    icases Hes with ⟨Hs, Hes⟩
    isplitr [Hk]
    · isplitr; · iexact Hctx
      isplitl [Hem]; · iexact Hem
      isplitl [Hs]; · iexact Hs
      isplitl [Hes]; · iexact Hes
      iexact HO
    iexact Hk
  · simp only [Prog.lift, Prog.bind_op, Prog.bind_ret, Prog.pure_eq_ret]
    unfold estAny
    iintro ⟨⟨#Hctx, Hem, ⟨Hz, ⟨%f, Hs⟩⟩, Hes, HO⟩, Hk⟩
    iapply (wp_rowload estM (slotOf (hh t)) c (off4_eq t) _ fullShare f) $$ Hs
    iintro Hs
    iapply (wp_rowstore estM (slotOf (hh t)) c (off4_eq t) _ f (estC m c (hh t)) ?_) $$ Hs
    · intro y
      rw [read_rowOf estM (slotOf (hh t)) (estC m c (hh t)) (fun _ => eb m c (hh t)) rfl]
      show k0_pay79 (eE m c (hh t)) y = k0_pay81 (eE m c (hh t)) _
      exact (cast_row (F := F) (e := .bf16) (k0_pay79 (eE m c (hh t))) shapeCasts_S1024x512_S1x1024x512 y).symm
    iintro Hs
    iapply (wp_estart m c (hh t) (t.val - 1) (Nat.sub_le _ _) (sem_at 73 _ (t.val % 2) (off5_eq t) _ _ rfl)
      (rowOf_of estM (slotOf (hh t)) (off7_eq t) _) (rowOf_of emM (hh t) (off6_eq t) _)) $$ [Hs Hz Hem]
    · isplitl [Hs]; · iexact Hs
      isplitl [Hz]; · iexact Hz
      iexact Hem
    iintro Hem
    iapply (le_wp_ret _ _)
    rw [show k0_pay79 (eE m c (hh t)) = eb m c (hh t) from rfl, show k0_pay80 (eE m c (hh t)) = rsum m c (hh t) from rfl]
    iapply Hk
    isplitl [Hem]; · iexact Hem
    isplitl [Hes]; · iexact Hes
    iexact HO

theorem spare_lt (c : Dev nD) (k : Msg) (h : k.val < 32) : spare m c k ⊢ iprop(recvPts m c sL (H c k) ∗ recvPts m c sR (H c k)) := by
  unfold spare; rw [if_pos h]

/-- The transfer of a chunk across `z`. -/
theorem wp_sendZ (K : Dev nD × CI → ℕ) (c : Dev nD) (j : Fin 8) (A : Finset Msg) (hA : mz j ∉ A) {n : Dev nD} (hn : n = tgt c (mz j)) {sS sem : DmaSem sig}
    (hsS : sS = sendSem (mz j)) (hsem : sem = recvSem (mz j))
    {src : Memref sig .tc .vmem S1024x512 .bf16} {dst : Memref sig (Dev.tc n : Thread nD τ).2.kind .hbm S1024x512 .bf16}
    (hs : src = rowOf commM j) (hd : dst = rowOf recvM (H (tgt c (mz j)) (mz j)))
    (hrd : (rowOf commM j).view.read (Elt F) (commC m c) = eb m c (H (tgt c (mz j)) (mz j)))
    {hsc : dst.view.ref.isScScratch = false} {hsrc : src.view.WordExact} {hdst : dst.view.WordExact}
    {hsm : DmaTarget.Typed .vmem (.dma sem) (.remote (Dev.tc n : Thread nD τ) dst (.dma sS) hsc)} {α : Type} {Q : α → sProp 𝕄}
    {kk : PUnit → Prog (TpuEff nD τ sig (Elt F) Λ₀ .tc) α} :
    iprop(ctx m K ∗ ((rowOf commM j).view.loc (c : Thread nD τ) ↦[(rowOf commM j).view.set]{fullShare} commC m c) ∗ SentSt c A ∗ Owes c A)
      ⊢ iprop((iprop(SentSt c (insert (mz j) A) ∗ Owes c (insert (mz j) A)) -∗ WP c (kk ⟨⟩) Q)
          -∗ WP c (.op (.enqueueDma src (.remote (Dev.tc n : Thread nD τ) dst (.dma sS) hsc) (.dma sem) hsrc hdst hsm) kk) Q) := by
  subst hs
  have hpay : ((rowOf commM j).view.loc (c : Thread nD τ) ↦[(rowOf commM j).view.set]{fullShare} commC m c : sProp 𝕄) ⊢ sendPay m c (mz j) := by
    unfold sendPay commAny
    rw [dif_pos (show (mz j).val < 8 from j.isLt)]
    iintro H
    iexists _; iexact H
  have := @wp_sendChunk F _ m K c (mz j) A hA (mz_lt j) n hn sS sem hsS hsem .vmem (rowOf commM j) dst hd hsc hsrc hdst hsm α Q kk fullShare (commC m c)
    (by rw [srcDev_z]; exact hrd) hpay
  exact this

/-- The row sums read whole. -/
theorem wp_accload (c : Dev nD) {off : Fin 2 → Nat} (hz : off = fun _ => 0) {inb : ∀ a, off a + S1024x1.size a ≤ S1024x1.size a}
    {hl : accM.view.LoadsAt (Rect.unit (s := S1024x1) off S1024x1.size inb).toLoadRect} {α : Type} {Q : α → sProp 𝕄}
    {k : Vec F S1024x1 .f32 → Prog (TpuEff nD τ sig (Elt F) Λ₀ .tc) α} (q : PosShare TreeShare) (f : Vec F S1024x1 .f32) :
    accPts c q f ⊢ iprop((accPts c q f -∗ WP c (k f) Q)
        -∗ WP c (.op (.load accM (Rect.unit (s := S1024x1) off S1024x1.size inb).toLoadRect hl) k) Q) := by
  have h : accPts c q f ⊢ iprop((accPts c q f -∗ WP c (k (accM.view.readAt (Elt F) (Rect.unit (s := S1024x1) off S1024x1.size inb).toLoadRect f)) Q)
        -∗ WP c (.op (.load accM (Rect.unit (s := S1024x1) off S1024x1.size inb).toLoadRect hl) k) Q) :=
    wp_load 𝒱₀ (c : Thread nD τ) none Set.univ (m := accM) (S := accM.view.set)
      (by rw [show accM.view.set = Finset.univ from View.set_whole _]; exact Finset.subset_univ _)
  rw [show accM.view.readAt (Elt F) (Rect.unit (s := S1024x1) off S1024x1.size inb).toLoadRect f = f from
    Memref.readAt_unit_zero (Elt F) cc0_scratch2 hz inb f] at h
  exact h

/-- The row sums written whole. -/
theorem wp_accstore (c : Dev nD) {off : Fin 2 → Nat} (hz : off = fun _ => 0) {inb : ∀ a, off a + S1024x1.size a ≤ S1024x1.size a}
    {w : Vec F S1024x1 .f32} {hx : (accM.access (Rect.unit (s := S1024x1) off S1024x1.size inb)).Stores Finset.univ}
    {hm : (Finset.univ : Finset S1024x1.Idx) = Finset.univ ∨ ∀ a, (Rect.unit (s := S1024x1) off S1024x1.size inb).stride a = 1} {α : Type} {Q : α → sProp 𝕄}
    {k : PUnit → Prog (TpuEff nD τ sig (Elt F) Λ₀ .tc) α} (f : Vec F S1024x1 .f32) :
    accPts c fullShare f ⊢ iprop((accPts c fullShare w -∗ WP c (k ⟨⟩) Q)
        -∗ WP c (.op (.store accM (Rect.unit (s := S1024x1) off S1024x1.size inb) w Finset.univ hx hm) k) Q) := by
  unfold accPts
  rw [show accM.view.set = (Finset.univ : Finset S1024x1.Idx) from View.set_whole _]
  have h : (accM.view.loc (c : Thread nD τ) ↦[(Finset.univ : Finset S1024x1.Idx)]{fullShare} f : sProp 𝕄)
      ⊢ iprop(((accM.view.loc (c : Thread nD τ) ↦[(Finset.univ : Finset S1024x1.Idx)]{fullShare}
          ((accM.access (Rect.unit (s := S1024x1) off S1024x1.size inb)).write (Elt F) f w Finset.univ)) -∗ WP c (k ⟨⟩) Q)
        -∗ WP c (.op (.store accM (Rect.unit (s := S1024x1) off S1024x1.size inb) w Finset.univ hx hm) k) Q) :=
    wp_store 𝒱₀ (c : Thread nD τ) none Set.univ (m := accM) (r := Rect.unit (s := S1024x1) off S1024x1.size inb) (Mk := Finset.univ) (S := (Finset.univ : Finset S1024x1.Idx)) (Finset.subset_univ _)
  rw [show (accM.access (Rect.unit (s := S1024x1) off S1024x1.size inb)).write (Elt F) f w Finset.univ = w from
    Memref.write_access_unit_zero_univ (Elt F) cc0_scratch2 hz inb f w] at h
  exact h

/-- The row sums after the first guarded piece. -/
def AccMid (c : Dev nD) (n : ℕ) : sProp 𝕄 := if n = 0 then AccSt m c 1 else AccSt m c n

omit [FloatOps F] in
theorem commSt_congr (c : Dev nD) (A B : Finset Msg) (h : ∀ j, mz j ∈ A ↔ mz j ∈ B) : CommSt (F := F) c A = CommSt (F := F) c B := by
  unfold CommSt
  refine BI.bigSep_congr fun j _ => ?_
  by_cases hj : mz j ∈ A
  · rw [if_pos hj, if_pos ((h j).mp hj)]
  · rw [if_neg hj, if_neg fun h' => hj ((h j).mpr h')]

omit [FloatOps F] in
theorem commSt_take (c : Dev nD) (A : Finset Msg) (j : Fin 8) (h : mz j ∉ A) : CommSt (F := F) c A ⊢ iprop(commAny c j ∗ CommSt (F := F) c (insert (mz j) A)) := by
  unfold CommSt
  refine (bigSep_upd j _ (fun j' : Fin 8 => if mz j' ∈ insert (mz j) A then iprop(emp) else commAny c j') ?_).trans ?_
  · intro x hx
    have hne : mz x ≠ mz j := fun e => hx (Fin.ext (show (mz x).val = (mz j).val from congrArg Fin.val e))
    simp only [Finset.mem_insert, hne, _root_.false_or]
  · rw [if_neg h, if_pos (Finset.mem_insert_self _ _)]
    iintro ⟨H, Hb⟩
    isplitl [H]; · iexact H
    iapply Hb
    iempintro

theorem c3_iff : ∀ t : Fin grid0.N, Scalar.cmpi .ne (Scalar.extui (Scalar.cmpi .eq (BitVec.ofNat 32 ((grid0.coords t) 0).val) 0#32)) 0#32 = 1#1 ↔ t.val = 0 := by decide +kernel
theorem c4_iff : ∀ t : Fin grid0.N, Scalar.cmpi .ne (Scalar.extui (Scalar.cmpi .sgt (BitVec.ofNat 32 ((grid0.coords t) 0).val) 0#32)) 0#32 = 1#1 ↔ 0 < t.val := by decide +kernel

/-- What moves in the second half of a point before the last: the messages' families. -/
def MsgSt (c : Dev nD) (A B : Finset Msg) : sProp 𝕄 := iprop(SentSt (F := F) c A ∗ CommSt (F := F) c A ∗ RecvSt m c B ∗ Owes (F := F) c A)

/-- The chunk is added to the row sums, sent on across `z` where it is this device's turn, and a received chunk is relayed. -/
theorem part58 (v2 v5 v8 v9 v10 v11 v13 : BitVec 32) (Q) :
    iprop((ctx m K ∗ AccSt m c t.val ∗ MsgSt m c (sent c t.val) (recvd t.val))
      ∗ (∀ v, iprop(AccSt m c (t.val + 1) ∗ MsgSt m c (A2 c t) (B1 t)) -∗ Q v))
      ⊢ WP c (k0_part58 (grid0.coords t) arg1 harg1 arg2 harg2 (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 (BitVec.ofNat 32 ((grid0.coords t) 0).val) c v2 v5 v8 v9 v10 v11 v13 (eb m c (hh t)) (rsum m c (hh t))) Q := by
  simp only [k0_part58_eq_skeleton]
  unfold k0_part58_skel
  have hz2 : (![0, 0] : Fin S1024x1.rank → Nat) = fun _ => 0 := by decide
  refine wp_dite iprop((ctx m K ∗ AccMid m c t.val ∗ MsgSt m c (sent c t.val) (recvd t.val))
      ∗ (∀ v, iprop(AccSt m c (t.val + 1) ∗ MsgSt m c (A2 c t) (B1 t)) -∗ Q v)) (fun h => ?_) (fun h => ?_) ?_
  · have h0 := (c3_iff t).mp h
    simp only [Prog.lift, Prog.bind_op, Prog.bind_ret, Prog.pure_eq_ret]
    unfold AccMid AccSt
    rw [if_pos h0, if_pos h0, if_neg Nat.one_ne_zero]
    iintro ⟨⟨#Hctx, ⟨%f, Ha⟩, Hm⟩, Hk⟩ Hr
    iapply (wp_accload c hz2 fullShare _) $$ Ha
    iintro Ha
    iapply (wp_accstore c hz2 _) $$ Ha
    iintro Ha
    iapply Hr
    isplitr [Hk]
    · isplitr; · iexact Hctx
      isplitl [Ha]
      · rw [show accS m c (1 - 1) = k0_pay82 (rsum m c (hh t)) by
          show k0_pay82 (rsum m c 0) = _
          rw [show hh t = 0 from Fin.ext h0]]
        iexact Ha
      iexact Hm
    iexact Hk
  · have h0 : ¬ t.val = 0 := fun e => h ((c3_iff t).mpr e)
    unfold AccMid
    rw [if_neg h0]
  refine wp_dite iprop((ctx m K ∗ AccSt m c (t.val + 1) ∗ MsgSt m c (sent c t.val) (recvd t.val))
      ∗ (∀ v, iprop(AccSt m c (t.val + 1) ∗ MsgSt m c (A2 c t) (B1 t)) -∗ Q v)) (fun h => ?_) (fun h => ?_) ?_
  · have h0 := (c4_iff t).mp h
    simp only [Prog.lift, Prog.bind_op, Prog.bind_ret, Prog.pure_eq_ret]
    unfold AccMid AccSt
    rw [if_neg (by omega), if_neg (by omega), if_neg (by omega)]
    iintro ⟨⟨#Hctx, Ha, Hm⟩, Hk⟩ Hr
    iapply (wp_accload c hz2 fullShare _) $$ Ha
    iintro Ha
    iapply (wp_accload c hz2 fullShare _) $$ Ha
    iintro Ha
    iapply (wp_accstore c hz2 _) $$ Ha
    iintro Ha
    iapply Hr
    isplitr [Hk]
    · isplitr; · iexact Hctx
      isplitl [Ha]
      · rw [show accS m c (t.val + 1 - 1) = k0_pay83 (rsum m c (hh t)) (accS m c (t.val - 1)) by
          obtain ⟨n, hn⟩ : ∃ n, t.val = n + 1 := ⟨t.val - 1, by omega⟩
          have hlt := tlt t
          rw [hn]
          show k0_pay83 (rsum m c ⟨(n + 1) % 32, _⟩) (accS m c n) = _
          rw [show hh t = ⟨(n + 1) % 32, Nat.mod_lt _ (by decide)⟩ from Fin.ext (by show t.val = (n + 1) % 32; omega)]
          rfl]
        iexact Ha
      iexact Hm
    iexact Hk
  · have h0 : t.val = 0 := by
      by_contra e
      exact h ((c4_iff t).mpr (by omega))
    unfold AccMid
    rw [if_pos h0, h0]
  refine wp_dite iprop((ctx m K ∗ AccSt m c (t.val + 1) ∗ MsgSt m c (A1 c t) (recvd t.val))
      ∗ (∀ v, iprop(AccSt m c (t.val + 1) ∗ MsgSt m c (A2 c t) (B1 t)) -∗ Q v)) (fun h => ?_) (fun h => ?_) ?_
  · have h5 := (cond5_iff t c).mp h
    have hlt := tlt t
    have hzn := z_new c t h5
    rw [A1_pos c t h5]
    simp only [Prog.lift, Prog.bind_op, Prog.bind_ret, Prog.pure_eq_ret]
    unfold MsgSt
    iintro ⟨⟨#Hctx, Ha, HS, HC, HR, HO⟩, Hk⟩ Hr
    ihave HC := (commSt_take c _ (j0 t) hzn) $$ HC
    icases HC with ⟨Hrow, HC⟩
    unfold commAny
    icases Hrow with ⟨%f, Hrow⟩
    have hval : (H (tgt c (mz (j0 t))) (mz (j0 t))) = hh t := Fin.ext ((H_z c (j0 t)).trans (by show 4 * (t.val / 4) + qd c = t.val; omega))
    have hch : (⟨(4 * (j0 t).val + qd c) % 32, Nat.mod_lt _ (by decide)⟩ : Fin 32) = hh t := Fin.ext (by show (4 * (t.val / 4) + qd c) % 32 = t.val; omega)
    have hrd : (rowOf commM (j0 t)).view.read (Elt F) (commC m c) = eb m c (hh t) :=
      (read_rowOf commM (j0 t) (commC m c) (fun k => eb m c ⟨(4 * k.val + qd c) % 32, Nat.mod_lt _ (by decide)⟩) rfl).trans (congrArg (eb m c) hch)
    iapply (wp_rowload commM (j0 t) c (off8_eq t) _ fullShare f) $$ Hrow
    iintro Hrow
    iapply (wp_rowstore commM (j0 t) c (off8_eq t) _ f (commC m c) ?_) $$ Hrow
    · intro y
      rw [hrd]
      exact (cast_row _ _ y).symm
    iintro Hrow
    iapply (wp_sendZ m K c (j0 t) (sent c t.val) hzn ((dev4_eq c _).trans (tgt_mz c _).symm)
      (sem_at 3 _ (t.val / 4) (off9_eq t) _ _ (sendSem_mz _)) (sem_at 11 _ (t.val / 4) (off9_eq t) _ _ (recvSem_mz _))
      (rowOf_of commM (j0 t) (off11_eq t) _) (rowOf_of recvM (H (tgt c (mz (j0 t))) (mz (j0 t))) ((off10_eq t c).trans (by rw [H_z]; rfl)) _)
      (by rw [hval]; exact hrd)) $$ [Hrow HS HO]
    · isplitr; · iexact Hctx
      isplitl [Hrow]; · iexact Hrow
      isplitl [HS]; · iexact HS
      iexact HO
    iintro ⟨HS, HO⟩
    iapply Hr
    isplitr [Hk]
    · isplitr; · iexact Hctx
      isplitl [Ha]; · iexact Ha
      isplitl [HS]; · iexact HS
      isplitl [HC]; · iexact HC
      isplitl [HR]; · iexact HR
      iexact HO
    iexact Hk
  · rw [A1_neg c t fun e => h ((cond5_iff t c).mpr e)]
  refine wp_dite iprop((AccSt m c (t.val + 1) ∗ MsgSt m c (A2 c t) (B1 t))
      ∗ (∀ v, iprop(AccSt m c (t.val + 1) ∗ MsgSt m c (A2 c t) (B1 t)) -∗ Q v)) (fun h => ?_) (fun h => ?_) ?_
  · have h6 := (cond6_iff t).mp h
    rw [A2_pos c t h6, B1_pos t h6]
    simp only [k0_part1_eq_skeleton]
    unfold k0_part1_skel
    simp only [Prog.lift, Prog.bind_op, Prog.bind_ret, Prog.pure_eq_ret]
    unfold MsgSt
    have hoff := (off13_eq t c h6.1).trans (show _ = ![(H c (mz (j1 t))).val, 0, 0] by rw [H_mz_val]; rfl)
    iintro ⟨⟨#Hctx, Ha, HS, HC, HR, HO⟩, Hk⟩ Hr
    iapply (wp_recv m K c (mz (j1 t)) (A1 c t) (recvd t.val) (zr_new t h6) (zr_lev c t h6)
      (sem_at 11 _ (t.val / 4 - 1) (off12_eq t h6.1) _ _ (recvSem_mz _)) (by rw [amt_lt (mz_lt _)])) $$ [HR HO]
    · isplitr; · iexact Hctx
      isplitl [HR]; · iexact HR
      iexact HO
    iintro ⟨HR, Hsp, HO⟩
    ihave Hsp := (spare_lt m c (mz (j1 t)) (mz_lt _)) $$ Hsp
    icases Hsp with ⟨Hl, Hr2⟩
    iapply (wp_relay m K c (mxd (j1 t)) (A1 c t) (xd_new c t h6) (mxd_lt _).1 (mxd_lt _).2 ((dev5_eq c _).trans (tgt_mxd c _).symm)
      (sem_at 19 _ (t.val / 4 - 1) (off12_eq t h6.1) _ _ (sendSem_mxd _)) (sem_at 27 _ (t.val / 4 - 1) (off12_eq t h6.1) _ _ (recvSem_mxd _))
      (H c (mz (j1 t))) (H_relay_x c _) (rowOf_of recvM _ hoff _) (rowOf_of recvM _ hoff _) sL) $$ [Hl HS HO]
    · isplitr; · iexact Hctx
      isplitl [Hl]; · iexact Hl
      isplitl [HS]; · iexact HS
      iexact HO
    iintro ⟨HS, HO⟩
    iapply (wp_relay m K c (myd (j1 t)) (insert (mxd (j1 t)) (A1 c t)) (yd_new c t h6) (myd_lt _).1 (myd_lt _).2 ((dev6_eq c _).trans (tgt_myd c _).symm)
      (sem_at 35 _ (t.val / 4 - 1) (off12_eq t h6.1) _ _ (sendSem_myd _)) (sem_at 43 _ (t.val / 4 - 1) (off12_eq t h6.1) _ _ (recvSem_myd _))
      (H c (mz (j1 t))) (H_relay_y c _) (rowOf_of recvM _ hoff _) (rowOf_of recvM _ hoff _) sR) $$ [Hr2 HS HO]
    · isplitr; · iexact Hctx
      isplitl [Hr2]; · iexact Hr2
      isplitl [HS]; · iexact HS
      iexact HO
    iintro ⟨HS, HO⟩
    iapply Hr
    isplitr [Hk]
    · isplitl [Ha]; · iexact Ha
      isplitl [HS]; · iexact HS
      isplitl [HC]
      · rw [commSt_congr c (insert (myd (j1 t)) (insert (mxd (j1 t)) (A1 c t))) (A1 c t) (fun j => by
          have h1 : ∀ i j : Fin 8, mz j ≠ myd i ∧ mz j ≠ mxd i := by decide +kernel
          simp only [Finset.mem_insert, h1 (j1 t) j, _root_.false_or])]
        iexact HC
      isplitl [HR]; · iexact HR
      iexact HO
    iexact Hk
  · have h6 : ¬ c6 t := fun e => h ((cond6_iff t).mpr e)
    rw [A2_neg c t h6, B1_neg t h6]
    iintro ⟨⟨-, H⟩, Hk⟩
    isplitl [H]; · iexact H
    iexact Hk
  · simp only [Prog.pure_eq_ret]
    iintro ⟨H, Hk⟩
    iapply (le_wp_ret _ _)
    iapply Hk
    iexact H

end Parts
end Cert.KernelIdeal.Hand
-- ==== Proof.Ops.lean ====
/-
# The last grid point: the order of its waits, and its operations' rules in the form the parts use them in
-/
module

public import proofs.«01_k».proof.Proof.Items
public import proofs.«01_k».proof.Proof.Blocks

@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The order of the waits -/

/-- The place of a message among the last grid point's waits for messages. -/
def rOrd (k : Msg) : ℕ :=
  if k.val = 7 then 0 else if k.val = 32 then 5
  else if 20 ≤ k.val ∧ k.val < 24 then k.val - 19
  else if 16 ≤ k.val ∧ k.val < 20 then 6 + 2 * (k.val - 16) else if 24 ≤ k.val ∧ k.val < 28 then 7 + 2 * (k.val - 24)
  else if 12 ≤ k.val ∧ k.val < 16 then 14 + 2 * (k.val - 12) else if 28 ≤ k.val then 15 + 2 * (k.val - 28) else 0
/-- The messages waited for when `n` of these waits are done. -/
def LB (n : ℕ) : Finset Msg := Finset.univ.filter fun k => rTime k < 32 ∨ rOrd k < n
/-- The place of a message among the waits for the sends. -/
def eOrd (k : Msg) : ℕ :=
  if k.val < 8 then 3 * k.val else if k.val < 16 then 3 * (k.val - 8) + 1 else if k.val < 24 then 3 * (k.val - 16) + 2 else k.val
def ED (n : ℕ) : Finset Msg := Finset.univ.filter fun k => eOrd k < n
/-- The place of a message among the last grid point's sends. -/
def sOrd (k : Msg) : ℕ := if k.val = 32 then 0 else if k.val = 15 then 1 else if k.val = 23 then 2 else if 28 ≤ k.val then 3 + (k.val - 28) else 0
def LA (c : Dev nD) (n : ℕ) : Finset Msg := Finset.univ.filter fun k => sTime (qd c) k < 32 ∨ sOrd k < n

theorem LB_zero : LB 0 = recvd 32 := by decide +kernel
theorem LB_all : LB 22 = Finset.univ := by decide +kernel
theorem LB_step : ∀ k : Msg, rTime k = 32 → k ∉ LB (rOrd k) ∧ insert k (LB (rOrd k)) = LB (rOrd k + 1) := by decide +kernel
theorem ED_zero : ED 0 = ∅ := by decide +kernel
theorem ED_all : ED 33 = Finset.univ := by decide +kernel
theorem ED_step : ∀ k : Msg, k ∉ ED (eOrd k) ∧ insert k (ED (eOrd k)) = ED (eOrd k + 1) := by decide +kernel
theorem LA_zero : ∀ c : Dev nD, LA c 0 = sent c 32 := by decide +kernel
theorem LA_all : ∀ c : Dev nD, LA c 7 = Finset.univ := by decide +kernel
theorem LA_step : ∀ (c : Dev nD) (k : Msg), sTime (qd c) k = 32 → k ∉ LA c (sOrd k) ∧ insert k (LA c (sOrd k)) = LA c (sOrd k + 1) := by decide +kernel
/-- At each of these waits the messages still to be sent stand above. -/
theorem LA_lev : ∀ (c : Dev nD) (k : Msg), rTime k = 32 → ∀ k', k' ∉ LA c (if rOrd k = 0 then 1 else if rOrd k < 5 then rOrd k + 2 else 7) → mlev k < mlev k' := by
  decide +kernel

/-! ## What is kept of the messages received before the items -/

/-- The fourth chunk of a block. -/
def mt (g : Fin 8) : Msg := if g.val < 4 then ⟨24 + g.val, by omega⟩ else ⟨28 + (g.val - 4), by have := g.isLt; omega⟩
/-- The chunk of a block received before the items, besides the one received across `z`; and that received among them. -/
def mk1 (g : Fin 8) : Msg := if g.val < 4 then mxd g else myd g
def mk2 (g : Fin 8) : Msg := if g.val < 4 then myd g else mxd g
def KB (n : ℕ) : Finset Msg := (LB 5).filter fun k => n ≤ k.val % 8

theorem KB_zero : KB 0 = LB 5 := by decide +kernel
theorem KB_step : ∀ g : Fin 8, mz g ∈ KB g.val ∧ mk1 g ∈ (KB g.val).erase (mz g) ∧ ((KB g.val).erase (mz g)).erase (mk1 g) = KB (g.val + 1) := by decide +kernel

theorem keptSt_g (c : Dev nD) (g : Fin 8) : KeptSt m c (KB g.val) ⊢ iprop((kept m c (mz g) ∗ kept m c (mk1 g)) ∗ KeptSt m c (KB (g.val + 1))) := by
  have h := KB_step g
  iintro H
  ihave H := (keptSt_take m c _ _ h.1) $$ H
  icases H with ⟨H1, H⟩
  ihave H := (keptSt_take m c _ _ h.2.1) $$ H
  icases H with ⟨H2, H⟩
  rw [h.2.2]
  isplitl [H1 H2]
  · isplitl [H1]; · iexact H1
    iexact H2
  iexact H

/-- A block of four received chunks. -/
def rcBlk (c : Dev nD) (g : Fin 8) : sProp 𝕄 := (blk4 recvM g).view.loc (c : Thread nD τ) ↦[(blk4 recvM g).view.set]{sK} recvC m c
/-- A block of four of the device's own chunks. -/
def emBlk (c : Dev nD) (g : Fin 8) : sProp 𝕄 := (blk4 emM g).view.loc (c : Thread nD τ) ↦[(blk4 emM g).view.set]{fullShare} emC m c

/-- The four messages of a block, and where they lie in it. -/
def kk (g : Fin 8) : Fin 4 → Msg := ![mz g, mk1 g, mk2 g, mt g]
def prm (c : Dev nD) (g : Fin 8) (j : Fin 4) : Fin 4 := ⟨(H c (kk g j)).val % 4, Nat.mod_lt _ (by decide)⟩
theorem prm_bij : ∀ (c : Dev nD) (g : Fin 8), Function.Bijective (prm c g) := by decide +kernel
theorem prm_eq : ∀ (c : Dev nD) (g : Fin 8) (j : Fin 4), H c (kk g j) = row4 g (prm c g j) := by decide +kernel
theorem kk_lt : ∀ (g : Fin 8) (j : Fin 4), (kk g j).val < 32 := by decide +kernel

theorem rcBlk_intro (c : Dev nD) (g : Fin 8) :
    iprop(kept m c (mz g) ∗ kept m c (mk1 g) ∗ kept m c (mk2 g) ∗ kept m c (mt g)) ⊢ rcBlk m c g := by
  have h1 : (bigSep Finset.univ (fun j : Fin 4 => kept m c (kk g j)) : sProp 𝕄) ⊢ rcBlk m c g := by
    refine BIBase.Entails.trans (Entails.of_eq ?_) (rows4 recvM g c sK (recvC m c))
    rw [bigSep_univ_equiv (Equiv.ofBijective _ (prm_bij c g)) (fun r : Fin 4 => ((rowOf recvM (row4 g r)).view.loc (c : Thread nD τ) ↦[(rowOf recvM (row4 g r)).view.set]{sK} recvC m c : sProp 𝕄))]
    refine BI.bigSep_congr fun j _ => ?_
    unfold kept recvPts
    rw [if_pos (kk_lt g j), prm_eq c g j]
    rfl
  refine BIBase.Entails.trans ?_ h1
  rw [bigSep_univ_eq_bigSepL [0, 1, 2, 3] (by decide) (by decide)]
  show _ ⊢ iprop(kept m c (kk g 0) ∗ kept m c (kk g 1) ∗ kept m c (kk g 2) ∗ kept m c (kk g 3))
  exact BIBase.Entails.rfl

/-- The own chunks, all copied, block by block. -/
def EbSt (c : Dev nD) (n : ℕ) : sProp 𝕄 := bigSep Finset.univ fun g : Fin 8 => if g.val < n then iprop(emp) else emBlk m c g

theorem ebSt_intro (c : Dev nD) : EmSt m c 32 32 ⊢ EbSt m c 0 := by
  unfold EmSt EbSt
  rw [bigSep_univ_equiv (finProdFinEquiv (m := 8) (n := 4)) (fun h : Fin 32 => if h.val < 32 then emPts m c h
    else if h.val < 32 then Transfers.Flight EC (c : Thread nD τ) (.dma (eSem (slotOf h))) () NE iprop(emPts m c h ∗ estAny c (slotOf h))
    else emAny c h), bigSep_univ_prod]
  refine BI.bigSep_mono fun g _ => ?_
  rw [if_neg (Nat.not_lt_zero _)]
  refine BIBase.Entails.trans (Entails.of_eq (BI.bigSep_congr fun r _ => ?_)) (rows4 emM g c fullShare (emC m c))
  have e : (finProdFinEquiv (g, r) : Fin 32) = row4 g r := Fin.ext (by show r.val + 4 * g.val = 4 * g.val + r.val; omega)
  rw [e, if_pos (row4 g r).isLt]
  rfl

theorem ebSt_take (c : Dev nD) (g : Fin 8) : EbSt m c g.val ⊢ iprop(emBlk m c g ∗ EbSt m c (g.val + 1)) := by
  unfold EbSt
  refine (bigSep_upd g _ (fun g' : Fin 8 => if g'.val < g.val + 1 then iprop(emp) else emBlk m c g') fun x hx => ?_).trans ?_
  · have : x.val ≠ g.val := fun e => hx (Fin.ext e)
    by_cases h : x.val < g.val
    · rw [if_pos h, if_pos (by omega)]
    · rw [if_neg h, if_neg (by omega)]
  · rw [if_neg (lt_irrefl _), if_pos (Nat.lt_succ_self _)]
    iintro ⟨H, Hb⟩
    isplitl [H]; · iexact H
    iapply Hb
    iempintro

/-! ## The operations -/

theorem em_read (c : Dev nD) (i : Fin 16) (g : Fin 8) (h : i.val = g.val) : (blk4 emM g).view.read (Elt F) (emC m c) = item4 m c i := by
  rw [read_blk4 emM g (emC m c) (fun h => eb m c h) rfl]
  funext y
  have hg := g.isLt
  have hy : (y 0).val < 4 := (y 0).isLt
  have e : row4 g (y 0) = ⟨(4 * i.val + (y 0).val) % 32, Nat.mod_lt _ (by decide)⟩ :=
    Fin.ext (by show 4 * g.val + (y 0).val = (4 * i.val + (y 0).val) % 32; omega)
  unfold item4 chunk
  rw [if_pos (by omega), e]

theorem rc_read (c : Dev nD) (i : Fin 16) (g : Fin 8) (h : i.val = 8 + g.val) : (blk4 recvM g).view.read (Elt F) (recvC m c) = item4 m c i := by
  rw [read_blk4 recvM g (recvC m c) (fun h => eb m (srcDev c h) h) rfl]
  funext y
  have hg := g.isLt
  have hy : (y 0).val < 4 := (y 0).isLt
  have e : row4 g (y 0) = ⟨(4 * (i.val - 8) + (y 0).val) % 32, Nat.mod_lt _ (by decide)⟩ :=
    Fin.ext (by show 4 * g.val + (y 0).val = (4 * (i.val - 8) + (y 0).val) % 32; omega)
  unfold item4 chunk
  rw [if_neg (by omega), e]

theorem oblk_lo (c : Dev nD) (r : Fin 8) (inb : ∀ a, k0_off20 c (BitVec.ofNat 32 (2048 * r.val)) a + S1024x2048.size a ≤ S1024x32768.size a) :
    outM.slice (Rect.unit (s := S1024x32768) (k0_off20 c (BitVec.ofNat 32 (2048 * r.val))) S1024x2048.size inb) (fun _ => rfl)
      = oblk (colOf c ⟨r.val, by have := r.isLt; omega⟩) :=
  oblk_of _ ((off20_eq c r).trans (by
    have : ∀ (c : Dev nD) (r : Fin 8), 16384 * (c.val % 2) + 2048 * r.val = 2048 * (colOf c ⟨r.val, by have := r.isLt; omega⟩).val := by decide +kernel
    rw [this])) inb

theorem oblk_hi (c : Dev nD) (r : Fin 8) (inb : ∀ a, k0_off22 c (BitVec.ofNat 32 (2048 * r.val)) a + S1024x2048.size a ≤ S1024x32768.size a) :
    outM.slice (Rect.unit (s := S1024x32768) (k0_off22 c (BitVec.ofNat 32 (2048 * r.val))) S1024x2048.size inb) (fun _ => rfl)
      = oblk (colOf c ⟨8 + r.val, by have := r.isLt; omega⟩) :=
  oblk_of _ ((off22_eq c r).trans (by
    have : ∀ (c : Dev nD) (r : Fin 8), 16384 * (1 - c.val % 2) + 2048 * r.val = 2048 * (colOf c ⟨8 + r.val, by have := r.isLt; omega⟩).val := by decide +kernel
    rw [this])) inb

section Ops
variable (K : Dev nD × CI → ℕ) (c : Dev nD)

/-- The first copies in: the slot is free. -/
theorem op_in0 (i : Fin 16) (g : Fin 8) (s : Fin 2) (n : ℕ) (hg : i.val = g.val) (hn : g.val = n) (hsl : sl i = s) {sem : DmaSem sig}
    {src : Memref sig .tc .hbm S4x1024x512 .bf16} {dst : Memref sig .tc .vmem S4x1024x512 .bf16}
    (hsem : sem = inSem (sl i)) (hs : src = blk4 emM g) (hd : dst = islot (sl i))
    {hsrc : src.view.WordExact} {hdst : dst.view.WordExact} {hsm : DmaTarget.Typed (nD := nD) (p := (c : Thread nD τ).2) .hbm (.dma sem) (.here dst)} {α : Type} {Q : α → sProp 𝕄}
    {kk : PUnit → Prog (TpuEff nD τ sig (Elt F) Λ₀ .tc) α} :
    InFree (F := F) c s ⊢ iprop(EbSt m c n -∗ (InFly m c i -∗ EbSt m c (n + 1) -∗ WP c (kk ⟨⟩) Q)
      -∗ WP c (.op (.enqueueDma src (.here dst) (.dma sem) hsrc hdst hsm) kk) Q) := by
  subst hs hsl hn
  iintro HF HE Hk
  ihave HE := (ebSt_take m c g) $$ HE
  icases HE with ⟨Hb, HE⟩
  unfold emBlk
  iapply (wp_istart m c i hsem hd fullShare (emC m c) (em_read m c i g hg)) $$ [Hb HF]
  · isplitl [Hb]; · iexact Hb
    iexact HF
  iintro H
  iapply Hk $$ H HE

/-- A copy in of own chunks, into the slot of an item done with. -/
theorem op_inE (i j : Fin 16) (g : Fin 8) (n : ℕ) (hg : i.val = g.val) (hn : g.val = n) (hj : sl j = sl i) {sem : DmaSem sig}
    {src : Memref sig .tc .hbm S4x1024x512 .bf16} {dst : Memref sig .tc .vmem S4x1024x512 .bf16}
    (hsem : sem = inSem (sl i)) (hs : src = blk4 emM g) (hd : dst = islot (sl i))
    {hsrc : src.view.WordExact} {hdst : dst.view.WordExact} {hsm : DmaTarget.Typed (nD := nD) (p := (c : Thread nD τ).2) .hbm (.dma sem) (.here dst)} {α : Type} {Q : α → sProp 𝕄}
    {kk : PUnit → Prog (TpuEff nD τ sig (Elt F) Λ₀ .tc) α} :
    InRdy m c j ⊢ iprop(EbSt m c n -∗ (InFly m c i -∗ EbSt m c (n + 1) -∗ WP c (kk ⟨⟩) Q)
      -∗ WP c (.op (.enqueueDma src (.here dst) (.dma sem) hsrc hdst hsm) kk) Q) :=
  (inRdy_free m c j (sl i) hj).trans (op_in0 m c i g (sl i) n hg hn rfl hsem hs hd)

/-- Two messages awaited, and the copy in of the block of received chunks that they complete. -/
theorem op_inR (i j : Fin 16) (g : Fin 8) (n r : ℕ) (k2 k3 : Msg) (hg : i.val = 8 + g.val) (hn : g.val = n) (hj : sl j = sl i)
    (hk2 : k2 = mk2 g) (hk3 : k3 = mt g) (hr2 : rTime k2 = 32 ∧ rOrd k2 = r) (hr3 : rTime k3 = 32 ∧ rOrd k3 = r + 1)
    {s2 s3 sem : DmaSem sig} {src : Memref sig .tc .hbm S4x1024x512 .bf16} {dst : Memref sig .tc .vmem S4x1024x512 .bf16}
    (hs2 : s2 = recvSem k2) (hs3 : s3 = recvSem k3) (hsem : sem = inSem (sl i)) (hs : src = blk4 recvM g) (hd : dst = islot (sl i))
    {w2 d2 w3 d3 : Memref sig .tc .hbm S1024x512 .bf16} {hw2 : w2.view.WordExact} {hd2 : d2.view.WordExact} {hw3 : w3.view.WordExact} {hd3 : d3.view.WordExact}
    (hN2 : d2.view.dmaCredit = amt k2) (hN3 : d3.view.dmaCredit = amt k3)
    {hsrc : src.view.WordExact} {hdst : dst.view.WordExact} {hsm : DmaTarget.Typed (nD := nD) (p := (c : Thread nD τ).2) .hbm (.dma sem) (.here dst)} {α : Type} {Q : α → sProp 𝕄}
    {kk : PUnit → Prog (TpuEff nD τ sig (Elt F) Λ₀ .tc) α} :
    ctx m K ⊢ iprop(InRdy m c j -∗ RecvSm (F := F) c (LB r) -∗ KeptSt m c (KB n) -∗ Owes c Finset.univ
      -∗ (InFly m c i -∗ RecvSm (F := F) c (LB (r + 1 + 1)) -∗ KeptSt m c (KB (n + 1)) -∗ Owes c Finset.univ -∗ WP c (kk ⟨⟩) Q)
      -∗ WP c (.op (.waitDma2 s2 w2 d2 hw2 hd2) fun _ => .op (.waitDma2 s3 w3 d3 hw3 hd3) fun _ => .op (.enqueueDma src (.here dst) (.dma sem) hsrc hdst hsm) kk) Q) := by
  subst hs hn
  have h2 := LB_step k2 hr2.1
  have h3 := LB_step k3 hr3.1
  rw [hr2.2] at h2
  rw [hr3.2] at h3
  iintro #Hctx Hj HR HK HO Hk
  iapply (wp_recvS m K c k2 Finset.univ (LB r) h2.1 (fun k' h => absurd (Finset.mem_univ _) h) hs2 hN2) $$ [HR HO]
  · isplitr; · iexact Hctx
    isplitl [HR]; · iexact HR
    iexact HO
  rw [h2.2]
  iintro ⟨HR, Hp2, HO⟩
  ihave Hp2 := (recvPay_split m c k2) $$ Hp2
  icases Hp2 with ⟨Hp2, -⟩
  iapply (wp_recvS m K c k3 Finset.univ (LB (r + 1)) h3.1 (fun k' h => absurd (Finset.mem_univ _) h) hs3 hN3) $$ [HR HO]
  · isplitr; · iexact Hctx
    isplitl [HR]; · iexact HR
    iexact HO
  rw [h3.2]
  iintro ⟨HR, Hp3, HO⟩
  ihave Hp3 := (recvPay_split m c k3) $$ Hp3
  icases Hp3 with ⟨Hp3, -⟩
  ihave HK := (keptSt_g m c g) $$ HK
  icases HK with ⟨⟨Hp0, Hp1⟩, HK⟩
  ihave Hb := (rcBlk_intro m c g) $$ [Hp0 Hp1 Hp2 Hp3]
  · isplitl [Hp0]; · iexact Hp0
    isplitl [Hp1]; · iexact Hp1
    isplitl [Hp2]; · rw [← hk2]; iexact Hp2
    rw [← hk3]; iexact Hp3
  ihave HF := (inRdy_free m c j (sl i) hj) $$ Hj
  unfold rcBlk
  iapply (wp_istart m c i hsem hd sK (recvC m c) (rc_read m c i g hg)) $$ [Hb HF]
  · isplitl [Hb]; · iexact Hb
    iexact HF
  iintro H
  iapply Hk $$ H HR HK HO

theorem op_iwait (i : Fin 16) {sem : DmaSem sig} (hsem : sem = inSem (sl i))
    {sp sp' : Space} {s s' : Shape} {e e' : EltTy} {srcw : Memref sig .tc sp' s' e'} {dstw : Memref sig .tc sp s e}
    {hsrc : srcw.view.WordExact} {hdst : dstw.view.WordExact} (hN : dstw.view.dmaCredit = NI) {α : Type} {Q : α → sProp 𝕄}
    {kk : PUnit → Prog (TpuEff nD τ sig (Elt F) Λ₀ .tc) α} :
    ctx m K ⊢ iprop(InFly m c i -∗ Owes c Finset.univ -∗ (InRdy m c i -∗ Owes c Finset.univ -∗ WP c (kk ⟨⟩) Q)
      -∗ WP c (.op (.waitDma2 sem srcw dstw hsrc hdst) kk) Q) := by
  iintro #Hctx HF HO Hk
  iapply (wp_iwait m K c i Finset.univ hsem hN) $$ [HF HO]
  · isplitr; · iexact Hctx
    isplitl [HF]; · iexact HF
    iexact HO
  iintro ⟨H, HO⟩
  iapply Hk $$ H HO

/-- A chunk loaded, scaled and stored. -/
theorem op_chunk (i : Fin 16) (r : Fin 4) (n : ℕ) (hn : r.val = n) {offi : Fin 4 → Nat} {offo offs : Fin 3 → Nat}
    {inbi : ∀ a, offi a + S1x1x1024x512.size a ≤ S2x4x1024x512.size a} {inbo : ∀ a, offo a + S1x1024x512.size a ≤ S2x1024x2048.size a}
    {inbs : ∀ a, offs a + S1x1024x512.size a ≤ S2x1024x2048.size a}
    {w : Vec F S1x1x1024x512 .bf16 → Vec F S1x1024x512 .f32}
    (hi : offi = ![(sl i).val, r.val, 0, 0]) (ho : offo = ![(sl i).val, 0, 512 * r.val]) (hs : offs = ![(sl i).val, 0, 512 * r.val])
    (hw : ∀ v, w v = k0_pay2 (F := F) (invC m c) v)
    {hli : istM.view.LoadsAt (Rect.unit (s := S2x4x1024x512) offi S1x1x1024x512.size inbi).toLoadRect}
    {hlo : ostM.view.LoadsAt (Rect.unit (s := S2x1024x2048) offo S1x1024x512.size inbo).toLoadRect}
    {hx : (ostM.access (Rect.unit (s := S2x1024x2048) offs S1x1024x512.size inbs)).Stores Finset.univ}
    {hm : (Finset.univ : Finset S1x1024x512.Idx) = Finset.univ ∨ ∀ a, (Rect.unit (s := S2x1024x2048) offs S1x1024x512.size inbs).stride a = 1} {α : Type} {Q : α → sProp 𝕄}
    {k : PUnit → Prog (TpuEff nD τ sig (Elt F) Λ₀ .tc) α} :
    InRdy m c i ⊢ iprop(OutFil m c i n -∗ (InRdy m c i -∗ OutFil m c i (n + 1) -∗ WP c (k ⟨⟩) Q)
      -∗ WP c (.op (.load istM (Rect.unit (s := S2x4x1024x512) offi S1x1x1024x512.size inbi).toLoadRect hli) fun v =>
          .op (.load ostM (Rect.unit (s := S2x1024x2048) offo S1x1024x512.size inbo).toLoadRect hlo) fun _ =>
          .op (.store ostM (Rect.unit (s := S2x1024x2048) offs S1x1024x512.size inbs) (w v) Finset.univ hx hm) k) Q) := by
  subst hn
  iintro HI HF Hk
  iapply (wp_iload m c i r hi) $$ HI
  iintro HI
  iapply (wp_oload m c i r r.val ho) $$ HF
  iintro %v HF
  iapply (wp_ostore m c i r hs (hw (inV m c i r))) $$ HF
  iintro HF
  iapply Hk $$ HI HF

/-- The four chunks of an item. -/
theorem op_item (i : Fin 16) {w0 w1 w2 w3 : Vec F S1x1x1024x512 .bf16 → Vec F S1x1024x512 .f32}
    (hw0 : ∀ v, w0 v = k0_pay2 (F := F) (invC m c) v) (hw1 : ∀ v, w1 v = k0_pay2 (F := F) (invC m c) v)
    (hw2 : ∀ v, w2 v = k0_pay2 (F := F) (invC m c) v) (hw3 : ∀ v, w3 v = k0_pay2 (F := F) (invC m c) v)
    {i0 i1 i2 i3 : Fin 4 → Nat} {o0 s0 o1 s1 o2 s2 o3 s3 : Fin 3 → Nat}
    {bi0 : ∀ a, i0 a + S1x1x1024x512.size a ≤ S2x4x1024x512.size a} {bi1 : ∀ a, i1 a + S1x1x1024x512.size a ≤ S2x4x1024x512.size a}
    {bi2 : ∀ a, i2 a + S1x1x1024x512.size a ≤ S2x4x1024x512.size a} {bi3 : ∀ a, i3 a + S1x1x1024x512.size a ≤ S2x4x1024x512.size a}
    {bo0 : ∀ a, o0 a + S1x1024x512.size a ≤ S2x1024x2048.size a} {bo1 : ∀ a, o1 a + S1x1024x512.size a ≤ S2x1024x2048.size a}
    {bo2 : ∀ a, o2 a + S1x1024x512.size a ≤ S2x1024x2048.size a} {bo3 : ∀ a, o3 a + S1x1024x512.size a ≤ S2x1024x2048.size a}
    {bs0 : ∀ a, s0 a + S1x1024x512.size a ≤ S2x1024x2048.size a} {bs1 : ∀ a, s1 a + S1x1024x512.size a ≤ S2x1024x2048.size a}
    {bs2 : ∀ a, s2 a + S1x1024x512.size a ≤ S2x1024x2048.size a} {bs3 : ∀ a, s3 a + S1x1024x512.size a ≤ S2x1024x2048.size a}
    (hi : i0 = ![(sl i).val, 0, 0, 0] ∧ i1 = ![(sl i).val, 1, 0, 0] ∧ i2 = ![(sl i).val, 2, 0, 0] ∧ i3 = ![(sl i).val, 3, 0, 0])
    (ho : o0 = ![(sl i).val, 0, 0] ∧ o1 = ![(sl i).val, 0, 512] ∧ o2 = ![(sl i).val, 0, 1024] ∧ o3 = ![(sl i).val, 0, 1536])
    (hs : s0 = ![(sl i).val, 0, 0] ∧ s1 = ![(sl i).val, 0, 512] ∧ s2 = ![(sl i).val, 0, 1024] ∧ s3 = ![(sl i).val, 0, 1536])
    {hli0 hlo0 hx0 hm0 hli1 hlo1 hx1 hm1 hli2 hlo2 hx2 hm2 hli3 hlo3 hx3 hm3} {α : Type} {Q : α → sProp 𝕄}
    {k : PUnit → Prog (TpuEff nD τ sig (Elt F) Λ₀ .tc) α} :
    InRdy m c i ⊢ iprop(OutFil m c i 0 -∗ (InRdy m c i -∗ OutFil m c i 4 -∗ WP c (k ⟨⟩) Q)
      -∗ WP c (.op (.load istM (Rect.unit (s := S2x4x1024x512) i0 S1x1x1024x512.size bi0).toLoadRect hli0) fun v0 =>
          .op (.load ostM (Rect.unit (s := S2x1024x2048) o0 S1x1024x512.size bo0).toLoadRect hlo0) fun _ =>
          .op (.store ostM (Rect.unit (s := S2x1024x2048) s0 S1x1024x512.size bs0) (w0 v0) Finset.univ hx0 hm0) fun _ =>
          .op (.load istM (Rect.unit (s := S2x4x1024x512) i1 S1x1x1024x512.size bi1).toLoadRect hli1) fun v1 =>
          .op (.load ostM (Rect.unit (s := S2x1024x2048) o1 S1x1024x512.size bo1).toLoadRect hlo1) fun _ =>
          .op (.store ostM (Rect.unit (s := S2x1024x2048) s1 S1x1024x512.size bs1) (w1 v1) Finset.univ hx1 hm1) fun _ =>
          .op (.load istM (Rect.unit (s := S2x4x1024x512) i2 S1x1x1024x512.size bi2).toLoadRect hli2) fun v2 =>
          .op (.load ostM (Rect.unit (s := S2x1024x2048) o2 S1x1024x512.size bo2).toLoadRect hlo2) fun _ =>
          .op (.store ostM (Rect.unit (s := S2x1024x2048) s2 S1x1024x512.size bs2) (w2 v2) Finset.univ hx2 hm2) fun _ =>
          .op (.load istM (Rect.unit (s := S2x4x1024x512) i3 S1x1x1024x512.size bi3).toLoadRect hli3) fun v3 =>
          .op (.load ostM (Rect.unit (s := S2x1024x2048) o3 S1x1024x512.size bo3).toLoadRect hlo3) fun _ =>
          .op (.store ostM (Rect.unit (s := S2x1024x2048) s3 S1x1024x512.size bs3) (w3 v3) Finset.univ hx3 hm3) k) Q) := by
  iintro HI HF Hk
  iapply (op_chunk m c i 0 0 rfl hi.1 ho.1 hs.1 hw0) $$ HI HF
  iintro HI HF
  iapply (op_chunk m c i 1 1 rfl hi.2.1 ho.2.1 hs.2.1 hw1) $$ HI HF
  iintro HI HF
  iapply (op_chunk m c i 2 2 rfl hi.2.2.1 ho.2.2.1 hs.2.2.1 hw2) $$ HI HF
  iintro HI HF
  iapply (op_chunk m c i 3 3 rfl hi.2.2.2 ho.2.2.2 hs.2.2.2 hw3) $$ HI HF
  iintro HI HF
  iapply Hk $$ HI HF

theorem op_ostart (i : Fin 16) (w n : ℕ) (hn : i.val = n) (hw : w ≤ i.val) {sem : DmaSem sig} {src : Memref sig .tc .vmem S1024x2048 .f32} {dst : Memref sig .tc .hbm S1024x2048 .f32}
    (hd : dst = oblk (colOf c i)) (hsem : sem = outSem (sl i)) (hs : src = oslot (sl i))
    {hsrc : src.view.WordExact} {hdst : dst.view.WordExact} {hsm : DmaTarget.Typed (nD := nD) (p := (c : Thread nD τ).2) .vmem (.dma sem) (.here dst)} {α : Type} {Q : α → sProp 𝕄}
    {kk : PUnit → Prog (TpuEff nD τ sig (Elt F) Λ₀ .tc) α} :
    OutFil m c i 4 ⊢ iprop(OutSt m c w n -∗ (OutFly m c i -∗ OutSt m c w (n + 1) -∗ WP c (kk ⟨⟩) Q)
      -∗ WP c (.op (.enqueueDma src (.here dst) (.dma sem) hsrc hdst hsm) kk) Q) := by
  subst hn
  iintro HF HT Hk
  iapply (wp_ostart m c i w hw hsem hs hd) $$ [HF HT]
  · isplitl [HF]; · iexact HF
    iexact HT
  iintro ⟨H, HT⟩
  iapply Hk $$ H HT

theorem op_owait (i : Fin 16) (s₀ : Fin 2) (w n : ℕ) (hw : i.val = w) (hn : i.val < n) (hsl : sl i = s₀) {sem : DmaSem sig} (hsem : sem = outSem (sl i))
    {sp sp' : Space} {s s' : Shape} {e e' : EltTy} {srcw : Memref sig .tc sp' s' e'} {dstw : Memref sig .tc sp s e}
    {hsrc : srcw.view.WordExact} {hdst : dstw.view.WordExact} (hN : dstw.view.dmaCredit = NO) {α : Type} {Q : α → sProp 𝕄}
    {kk : PUnit → Prog (TpuEff nD τ sig (Elt F) Λ₀ .tc) α} :
    ctx m K ⊢ iprop(OutFly m c i -∗ OutSt m c w n -∗ Owes c Finset.univ -∗ (OutFree (F := F) c s₀ -∗ OutSt m c (w + 1) n -∗ Owes c Finset.univ -∗ WP c (kk ⟨⟩) Q)
      -∗ WP c (.op (.waitDma2 sem srcw dstw hsrc hdst) kk) Q) := by
  subst hw hsl
  iintro #Hctx HF HT HO Hk
  iapply (wp_owait m K c i n hn Finset.univ hsem hN) $$ [HF HT HO]
  · isplitr; · iexact Hctx
    isplitl [HF]; · iexact HF
    isplitl [HT]; · iexact HT
    iexact HO
  iintro ⟨H, HT, HO⟩
  iapply Hk $$ H HT HO

/-- The same, the slot then filled for the item `j`. -/
theorem op_owaitF (i j : Fin 16) (w n : ℕ) (hw : i.val = w) (hn : i.val < n) (hj : sl j = sl i) {sem : DmaSem sig} (hsem : sem = outSem (sl i))
    {sp sp' : Space} {s s' : Shape} {e e' : EltTy} {srcw : Memref sig .tc sp' s' e'} {dstw : Memref sig .tc sp s e}
    {hsrc : srcw.view.WordExact} {hdst : dstw.view.WordExact} (hN : dstw.view.dmaCredit = NO) {α : Type} {Q : α → sProp 𝕄}
    {kk : PUnit → Prog (TpuEff nD τ sig (Elt F) Λ₀ .tc) α} :
    ctx m K ⊢ iprop(OutFly m c i -∗ OutSt m c w n -∗ Owes c Finset.univ -∗ (OutFil m c j 0 -∗ OutSt m c (w + 1) n -∗ Owes c Finset.univ -∗ WP c (kk ⟨⟩) Q)
      -∗ WP c (.op (.waitDma2 sem srcw dstw hsrc hdst) kk) Q) := by
  iintro #Hctx HF HT HO Hk
  iapply (op_owait m K c i (sl i) w n hw hn rfl hsem hN) $$ Hctx HF HT HO
  iintro HF HT HO
  ihave HF := (outFil_zero m c j (sl i) hj) $$ HF
  iapply Hk $$ HF HT HO

/-- A wait for the send of the message `k`, in their order. -/
theorem op_sent (k : Msg) (n : ℕ) (hk : eOrd k = n) {sem : DmaSem sig} (hsem : sem = sendSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k) {α : Type} {Q : α → sProp 𝕄}
    {kk : PUnit → Prog (TpuEff nD τ sig (Elt F) Λ₀ .tc) α} :
    ctx m K ⊢ iprop(EndSt m c (ED n) -∗ Owes c Finset.univ -∗ (EndSt m c (ED (n + 1)) -∗ Owes c Finset.univ -∗ WP c (kk ⟨⟩) Q)
      -∗ WP c (.op (.waitDma2 sem srcw dstw hsrc hdst) kk) Q) := by
  subst hk
  have h := ED_step k
  iintro #Hctx HE HO Hk
  iapply (wp_sent m K c k Finset.univ (ED (eOrd k)) h.1 hsem hN) $$ [HE HO]
  · isplitr; · iexact Hctx
    isplitl [HE]; · iexact HE
    iexact HO
  rw [h.2]
  iintro ⟨HE, HO⟩
  iapply Hk $$ HE HO

/-- A wait for the message `k`, among the last grid point's first ones. -/
theorem op_recv (k : Msg) (n a : ℕ) (hk : rTime k = 32 ∧ rOrd k = n) (ha : (if rOrd k = 0 then 1 else if rOrd k < 5 then rOrd k + 2 else 7) = a)
    {sem : DmaSem sig} (hsem : sem = recvSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k) {α : Type} {Q : α → sProp 𝕄}
    {kk : PUnit → Prog (TpuEff nD τ sig (Elt F) Λ₀ .tc) α} :
    ctx m K ⊢ iprop(RecvSt m c (LB n) -∗ Owes c (LA c a) -∗ (RecvSt m c (LB (n + 1)) -∗ spare m c k -∗ Owes c (LA c a) -∗ WP c (kk ⟨⟩) Q)
      -∗ WP c (.op (.waitDma2 sem srcw dstw hsrc hdst) kk) Q) := by
  have h := LB_step k hk.1
  have hl := LA_lev c k hk.1
  rw [ha] at hl
  rw [hk.2] at h
  iintro #Hctx HR HO Hk
  iapply (wp_recv m K c k (LA c a) (LB n) h.1 hl hsem hN) $$ [HR HO]
  · isplitr; · iexact Hctx
    isplitl [HR]; · iexact HR
    iexact HO
  rw [h.2]
  iintro ⟨HR, Hs, HO⟩
  iapply Hk $$ HR Hs HO

/-- A relay among the last grid point's. -/
theorem op_relay (k : Msg) (a : ℕ) (hk : ∀ c : Dev nD, sTime (qd c) k = 32) (ha : sOrd k = a) (hk' : k.val < 32 ∧ 8 ≤ k.val) (q : PosShare TreeShare) (h : Fin 32) (hh : H (tgt c k) k = h)
    {n : Dev nD} (hn : n = tgt c k) {sS sem : DmaSem sig} (hsS : sS = sendSem k) (hsem : sem = recvSem k)
    {src : Memref sig .tc .hbm S1024x512 .bf16} {dst : Memref sig (Dev.tc n : Thread nD τ).2.kind .hbm S1024x512 .bf16}
    (hs : src = rowOf recvM h) (hd : dst = rowOf recvM h)
    {hsc : dst.view.ref.isScScratch = false} {hsrc : src.view.WordExact} {hdst : dst.view.WordExact}
    {hsm : DmaTarget.Typed .hbm (.dma sem) (.remote (Dev.tc n : Thread nD τ) dst (.dma sS) hsc)} {α : Type} {Q : α → sProp 𝕄}
    {kk : PUnit → Prog (TpuEff nD τ sig (Elt F) Λ₀ .tc) α} :
    ctx m K ⊢ iprop(recvPts m c q h -∗ SentSt c (LA c a) -∗ Owes c (LA c a)
      -∗ (SentSt c (LA c (a + 1)) -∗ Owes c (LA c (a + 1)) -∗ WP c (kk ⟨⟩) Q)
      -∗ WP c (.op (.enqueueDma src (.remote (Dev.tc n : Thread nD τ) dst (.dma sS) hsc) (.dma sem) hsrc hdst hsm) kk) Q) := by
  have hA := LA_step c k (hk c)
  rw [ha] at hA
  iintro #Hctx Hp HS HO Hk
  have hr := @wp_relay F _ m K c k (LA c a) hA.1 hk'.1 hk'.2 n hn sS sem hsS hsem h hh src dst hs hd hsc hsrc hdst hsm α Q kk q
  rw [hA.2] at hr
  iapply hr $$ [Hp HS HO]
  · isplitr; · iexact Hctx
    isplitl [Hp]; · iexact Hp
    isplitl [HS]; · iexact HS
    iexact HO
  iintro ⟨HS, HO⟩
  iapply Hk $$ HS HO

end Ops

end Cert.KernelIdeal.Hand
-- ==== Proof.Loop1.lean ====
/-
# The last grid point: the first items
-/
module

public import proofs.«01_k».proof.Proof.Ops
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A part of the body, given its buffers and semaphores. -/
abbrev App {β : grid0.Coords → Type*} (X : (i : grid0.Coords) → (arg1 : Memref sig .tc .vmem S1024x2048 .bf16) → arg1.IsWhole → (arg2 : Memref sig .tc .vmem S2048x512 .bf16) → arg2.IsWhole
    → (arg3 : Memref sig .tc .hbm S1024x32768 .f32) → arg3.IsWhole → (arg4 : Memref sig .tc .hbm S32x1024x512 .bf16) → arg4.IsWhole
    → (arg5 : Memref sig .tc .hbm S32x1024x512 .bf16) → arg5.IsWhole → (arg6 : Memref sig .tc .vmem S8x1024x512 .bf16) → arg6.IsWhole
    → (arg7 : Memref sig .tc .vmem S2x1024x512 .bf16) → arg7.IsWhole → (arg8 : Memref sig .tc .vmem S1024x1 .f32) → arg8.IsWhole
    → (arg9 : Memref sig .tc .vmem S1024x1 .f32) → arg9.IsWhole → (arg10 : Memref sig .tc .vmem S2x1024x2048 .f32) → arg10.IsWhole
    → (arg11 : Memref sig .tc .vmem S2x4x1024x512 .bf16) → arg11.IsWhole
    → DmaSems sig S8 → DmaSems sig S8 → DmaSems sig S8 → DmaSems sig S8 → DmaSems sig S8 → DmaSems sig S8 → DmaSems sig S4 → DmaSems sig S4
    → DmaSems sig S4 → DmaSems sig S4 → DmaSems sig S_ → DmaSems sig S_ → DmaSems sig S2 → DmaSems sig S2 → DmaSems sig S2 → β i)
    (t : Fin grid0.N) (a1 : Memref sig .tc .vmem S1024x2048 .bf16) (h1 : a1.IsWhole) (a2 : Memref sig .tc .vmem S2048x512 .bf16) (h2 : a2.IsWhole) : β (grid0.coords t) :=
  X (grid0.coords t) a1 h1 a2 h2 (Memref.whole main_v1_0) (Memref.isWhole_whole _) (Memref.whole main_v1_1) (Memref.isWhole_whole _) (Memref.whole main_v1_2) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20

section Groups
variable (K : Dev nD × CI → ℕ) (c : Dev nD) (t : Fin grid0.N) (a1 : Memref sig .tc .vmem S1024x2048 .bf16) (h1 : a1.IsWhole) (a2 : Memref sig .tc .vmem S2048x512 .bf16) (h2 : a2.IsWhole)
variable (v2 v5 v8 v10 v11 v13 v16 v19 v23 : BitVec 32) (h8 : k0_cond8 (grid0.coords t) = 1#1)

/-- The first two items. -/
theorem grp1 {α : Type} (Q : α → sProp 𝕄) (k : PUnit → Prog (TpuEff nD τ sig (Elt F) Λ₀ .tc) α) :
    ctx m K ⊢ iprop(InFree (F := F) c 0 -∗ InFree (F := F) c 1 -∗ OutFree (F := F) c 0 -∗ OutFree (F := F) c 1 -∗ EbSt m c 0 -∗ OutSt m c 0 0 -∗ Owes c Finset.univ
      -∗ (InRdy m c 2 -∗ InFly m c 3 -∗ OutFil m c 2 0 -∗ OutFly m c 1 -∗ EbSt m c 4 -∗ OutSt m c 1 2 -∗ Owes c Finset.univ -∗ WP c (k ⟨⟩) Q)
      -∗ WP c (App k0_part9 t a1 h1 a2 h2 v8 v19 v23 >>= fun _ => App k0_part10 t a1 h1 a2 h2 v8 v16 v23 >>= fun _ => App k0_part11 t a1 h1 a2 h2 (invC m c) >>= fun v396 => App k0_part12 t a1 h1 a2 h2 c h8 (invC m c) v396 >>= fun _ => App k0_part13 t a1 h1 a2 h2 (invC m c) >>= fun v452 => App k0_part14 t a1 h1 a2 h2 c h8 (invC m c) v452 >>= k) Q) := by
  simp only [App, k0_part9_eq_skeleton, k0_part10_eq_skeleton, k0_part11_eq_skeleton, k0_part12_eq_skeleton, k0_part13_eq_skeleton, k0_part14_eq_skeleton]
  unfold k0_part9_skel k0_part10_skel k0_part11_skel k0_part12_skel k0_part13_skel k0_part14_skel
  simp only [Prog.lift, Prog.bind_op, Prog.bind_ret, Prog.pure_eq_ret]
  iintro #Hctx Ha Hb Hu Hv HE HT HO Hk
  iapply (op_in0 m c 0 0 0 0 rfl rfl rfl (by rfl) (by rfl) (by rfl)) $$ Ha HE
  iintro Ha HE
  iapply (op_in0 m c 1 1 1 1 rfl rfl rfl (by rfl) (by rfl) (by rfl)) $$ Hb HE
  iintro Hb HE
  ihave Hu := (outFil_zero m c 0 0 rfl) $$ Hu
  ihave Hv := (outFil_zero m c 1 1 rfl) $$ Hv
  iapply (op_iwait m K c 0 (by rfl) (by rfl)) $$ Hctx Ha HO
  iintro Ha HO
  iapply (op_item m c 0 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 0 0 0 rfl (by decide) (oblk_lo c 0 _) (by rfl) (by rfl)) $$ Hu HT
  iintro Hu HT
  iapply (op_inE m c 2 0 2 2 rfl rfl rfl (by rfl) (by rfl) (by rfl)) $$ Ha HE
  iintro Ha HE
  iapply (op_iwait m K c 1 (by rfl) (by rfl)) $$ Hctx Hb HO
  iintro Hb HO
  iapply (op_item m c 1 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 1 0 1 rfl (by decide) (oblk_lo c 1 _) (by rfl) (by rfl)) $$ Hv HT
  iintro Hv HT
  iapply (op_inE m c 3 1 3 3 rfl rfl rfl (by rfl) (by rfl) (by rfl)) $$ Hb HE
  iintro Hb HE
  iapply (op_iwait m K c 2 (by rfl) (by rfl)) $$ Hctx Ha HO
  iintro Ha HO
  iapply (op_owaitF m K c 0 2 0 2 rfl (by decide) rfl (by rfl) (by rfl)) $$ Hctx Hu HT HO
  iintro Hu HT HO
  iapply Hk $$ Ha Hb Hu Hv HE HT HO

/-- The items of the device's own chunks. -/
theorem grp2 {α : Type} (Q : α → sProp 𝕄) (k : PUnit → Prog (TpuEff nD τ sig (Elt F) Λ₀ .tc) α) :
    ctx m K ⊢ iprop(InRdy m c 2 -∗ InFly m c 3 -∗ OutFil m c 2 0 -∗ OutFly m c 1 -∗ EbSt m c 4 -∗ OutSt m c 1 2 -∗ Owes c Finset.univ
      -∗ (InFly m c 6 -∗ InRdy m c 5 -∗ OutFly m c 4 -∗ OutFly m c 5 -∗ EbSt m c 7 -∗ OutSt m c 4 6 -∗ Owes c Finset.univ -∗ WP c (k ⟨⟩) Q)
      -∗ WP c (App k0_part15 t a1 h1 a2 h2 (invC m c) >>= fun p15 => App k0_part16 t a1 h1 a2 h2 c h8 p15.1 p15.2 >>= fun v532 => App k0_part17 t a1 h1 a2 h2 (invC m c) v532 >>= fun _ => App k0_part18 t a1 h1 a2 h2 c h8 (invC m c) >>= fun p18 => App k0_part19 t a1 h1 a2 h2 c h8 (invC m c) p18.1 p18.2 >>= fun _ => App k0_part20 t a1 h1 a2 h2 c h8 (invC m c) >>= fun _ => App k0_part21 t a1 h1 a2 h2 c h8 (invC m c) >>= k) Q) := by
  simp only [App, k0_part15_eq_skeleton, k0_part16_eq_skeleton, k0_part17_eq_skeleton, k0_part18_eq_skeleton, k0_part19_eq_skeleton, k0_part20_eq_skeleton, k0_part21_eq_skeleton]
  unfold k0_part15_skel k0_part16_skel k0_part17_skel k0_part18_skel k0_part19_skel k0_part20_skel k0_part21_skel
  simp only [Prog.lift, Prog.bind_op, Prog.bind_ret, Prog.pure_eq_ret]
  iintro #Hctx Ha Hb Hu Hv HE HT HO Hk
  iapply (op_item m c 2 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 2 1 2 rfl (by decide) (oblk_lo c 2 _) (by rfl) (by rfl)) $$ Hu HT
  iintro Hu HT
  iapply (op_inE m c 4 2 4 4 rfl rfl rfl (by rfl) (by rfl) (by rfl)) $$ Ha HE
  iintro Ha HE
  iapply (op_iwait m K c 3 (by rfl) (by rfl)) $$ Hctx Hb HO
  iintro Hb HO
  iapply (op_owaitF m K c 1 3 1 3 rfl (by decide) rfl (by rfl) (by rfl)) $$ Hctx Hv HT HO
  iintro Hv HT HO
  iapply (op_item m c 3 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 3 2 3 rfl (by decide) (oblk_lo c 3 _) (by rfl) (by rfl)) $$ Hv HT
  iintro Hv HT
  iapply (op_inE m c 5 3 5 5 rfl rfl rfl (by rfl) (by rfl) (by rfl)) $$ Hb HE
  iintro Hb HE
  iapply (op_iwait m K c 4 (by rfl) (by rfl)) $$ Hctx Ha HO
  iintro Ha HO
  iapply (op_owaitF m K c 2 4 2 4 rfl (by decide) rfl (by rfl) (by rfl)) $$ Hctx Hu HT HO
  iintro Hu HT HO
  iapply (op_item m c 4 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 4 3 4 rfl (by decide) (oblk_lo c 4 _) (by rfl) (by rfl)) $$ Hu HT
  iintro Hu HT
  iapply (op_inE m c 6 4 6 6 rfl rfl rfl (by rfl) (by rfl) (by rfl)) $$ Ha HE
  iintro Ha HE
  iapply (op_iwait m K c 5 (by rfl) (by rfl)) $$ Hctx Hb HO
  iintro Hb HO
  iapply (op_owaitF m K c 3 5 3 5 rfl (by decide) rfl (by rfl) (by rfl)) $$ Hctx Hv HT HO
  iintro Hv HT HO
  iapply (op_item m c 5 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 5 4 5 rfl (by decide) (oblk_lo c 5 _) (by rfl) (by rfl)) $$ Hv HT
  iintro Hv HT
  iapply Hk $$ Ha Hb Hu Hv HE HT HO

/-- The last of the device's own items, and the first of the received ones. -/
theorem grp3 {α : Type} (Q : α → sProp 𝕄) (k : PUnit → Prog (TpuEff nD τ sig (Elt F) Λ₀ .tc) α) :
    ctx m K ⊢ iprop(InFly m c 6 -∗ InRdy m c 5 -∗ OutFly m c 4 -∗ OutFly m c 5 -∗ EbSt m c 7 -∗ RecvSm (F := F) c (LB 6) -∗ KeptSt m c (KB 0) -∗ OutSt m c 4 6 -∗ Owes c Finset.univ
      -∗ (InRdy m c 8 -∗ InFly m c 9 -∗ OutFil m c 8 4 -∗ OutFly m c 7 -∗ EbSt m c 8 -∗ RecvSm (F := F) c (LB 10) -∗ KeptSt m c (KB 2) -∗ OutSt m c 7 8 -∗ Owes c Finset.univ -∗ WP c (k ⟨⟩) Q)
      -∗ WP c (App k0_part22 t a1 h1 a2 h2 c h8 (invC m c) >>= fun v698 => App k0_part23 t a1 h1 a2 h2 c v2 v11 h8 (invC m c) v698 >>= fun p23 => App k0_part24 t a1 h1 a2 h2 c v2 v8 v11 h8 p23.1 p23.2 >>= fun _ => App k0_part25 t a1 h1 a2 h2 c h8 (invC m c) >>= fun p25 => App k0_part26 t a1 h1 a2 h2 c v2 v8 v11 h8 (invC m c) p25.1 p25.2 >>= fun p26 => App k0_part27 t a1 h1 a2 h2 c v8 v11 h8 p26.1 p26.2 >>= fun v838 => App k0_part28 t a1 h1 a2 h2 (invC m c) v838 >>= k) Q) := by
  simp only [App, k0_part22_eq_skeleton, k0_part23_eq_skeleton, k0_part24_eq_skeleton, k0_part25_eq_skeleton, k0_part26_eq_skeleton, k0_part27_eq_skeleton, k0_part28_eq_skeleton]
  unfold k0_part22_skel k0_part23_skel k0_part24_skel k0_part25_skel k0_part26_skel k0_part27_skel k0_part28_skel
  simp only [Prog.lift, Prog.bind_op, Prog.bind_ret, Prog.pure_eq_ret]
  iintro #Hctx Ha Hb Hu Hv HE HR HG HT HO Hk
  iapply (op_inE m c 7 5 7 7 rfl rfl rfl (by rfl) (by rfl) (by rfl)) $$ Hb HE
  iintro Hb HE
  iapply (op_iwait m K c 6 (by rfl) (by rfl)) $$ Hctx Ha HO
  iintro Ha HO
  iapply (op_owaitF m K c 4 6 4 6 rfl (by decide) rfl (by rfl) (by rfl)) $$ Hctx Hu HT HO
  iintro Hu HT HO
  iapply (op_item m c 6 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 6 5 6 rfl (by decide) (oblk_lo c 6 _) (by rfl) (by rfl)) $$ Hu HT
  iintro Hu HT
  iapply (op_inR m K c 8 6 0 0 6 (myd 0) (myt 0) rfl rfl rfl rfl rfl (by decide) (by decide) (by rfl) (by rfl) (by rfl) (by rfl) (by rfl)
    (by rw [amt_lt (by decide)]) (by rw [amt_lt (by decide)])) $$ Hctx Ha HR HG HO
  iintro Ha HR HG HO
  iapply (op_iwait m K c 7 (by rfl) (by rfl)) $$ Hctx Hb HO
  iintro Hb HO
  iapply (op_owaitF m K c 5 7 5 7 rfl (by decide) rfl (by rfl) (by rfl)) $$ Hctx Hv HT HO
  iintro Hv HT HO
  iapply (op_item m c 7 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 7 6 7 rfl (by decide) (oblk_lo c 7 _) (by rfl) (by rfl)) $$ Hv HT
  iintro Hv HT
  iapply (op_inR m K c 9 7 1 1 8 (myd 1) (myt 1) rfl rfl rfl rfl rfl (by decide) (by decide) (by rfl) (by rfl) (by rfl) (by rfl) (by rfl)
    (by rw [amt_lt (by decide)]) (by rw [amt_lt (by decide)])) $$ Hctx Hb HR HG HO
  iintro Hb HR HG HO
  iapply (op_iwait m K c 8 (by rfl) (by rfl)) $$ Hctx Ha HO
  iintro Ha HO
  iapply (op_owaitF m K c 6 8 6 8 rfl (by decide) rfl (by rfl) (by rfl)) $$ Hctx Hu HT HO
  iintro Hu HT HO
  iapply (op_item m c 8 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply Hk $$ Ha Hb Hu Hv HE HR HG HT HO

end Groups
end Cert.KernelIdeal.Hand
-- ==== Proof.Loop2.lean ====
/-
# The last grid point: the items
-/
module

public import proofs.«01_k».proof.Proof.Loop1
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Groups
variable (K : Dev nD × CI → ℕ) (c : Dev nD) (t : Fin grid0.N) (a1 : Memref sig .tc .vmem S1024x2048 .bf16) (h1 : a1.IsWhole) (a2 : Memref sig .tc .vmem S2048x512 .bf16) (h2 : a2.IsWhole)
variable (v2 v5 v8 v10 v11 v13 v16 v19 v23 : BitVec 32) (h8 : k0_cond8 (grid0.coords t) = 1#1)

/-- The items 8 and 9. -/
theorem grp5 {α : Type} (Q : α → sProp 𝕄) (k : PUnit → Prog (TpuEff nD τ sig (Elt F) Λ₀ .tc) α) :
    ctx m K ⊢ iprop(InRdy m c 8 -∗ InFly m c 9 -∗ OutFil m c 8 4 -∗ OutFly m c 7 -∗ RecvSm (F := F) c (LB 10) -∗ KeptSt m c (KB 2) -∗ OutSt m c 7 8 -∗ Owes c Finset.univ
      -∗ (InFly m c 10 -∗ InFly m c 11 -∗ OutFly m c 8 -∗ OutFly m c 9 -∗ RecvSm (F := F) c (LB 14) -∗ KeptSt m c (KB 4) -∗ OutSt m c 8 10 -∗ Owes c Finset.univ -∗ WP c (k ⟨⟩) Q)
      -∗ WP c (App k0_part29 t a1 h1 a2 h2 c v2 v8 v11 h8 >>= fun _ => App k0_part30 t a1 h1 a2 h2 c h8 (invC m c) >>= fun v926 => App k0_part31 t a1 h1 a2 h2 c v2 v11 h8 (invC m c) v926 >>= fun p31 => App k0_part32 t a1 h1 a2 h2 c v2 v8 v11 h8 p31.1 p31.2 >>= k) Q) := by
  simp only [App, k0_part29_eq_skeleton, k0_part30_eq_skeleton, k0_part31_eq_skeleton, k0_part32_eq_skeleton]
  unfold k0_part29_skel k0_part30_skel k0_part31_skel k0_part32_skel
  simp only [Prog.lift, Prog.bind_op, Prog.bind_ret, Prog.pure_eq_ret]
  iintro #Hctx Ha Hb Hu Hv HR HG HT HO Hk
  iapply (op_ostart m c 8 7 8 rfl (by decide) (oblk_hi c 0 _) (by rfl) (by rfl)) $$ Hu HT
  iintro Hu HT
  iapply (op_inR m K c 10 8 2 2 10 (myd 2) (myt 2) rfl rfl rfl rfl rfl (by decide) (by decide) (by rfl) (by rfl) (by rfl) (by rfl) (by rfl)
    (by rw [amt_lt (by decide)]) (by rw [amt_lt (by decide)])) $$ Hctx Ha HR HG HO
  iintro Ha HR HG HO
  iapply (op_iwait m K c 9 (by rfl) (by rfl)) $$ Hctx Hb HO
  iintro Hb HO
  iapply (op_owaitF m K c 7 9 7 9 rfl (by decide) rfl (by rfl) (by rfl)) $$ Hctx Hv HT HO
  iintro Hv HT HO
  iapply (op_item m c 9 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 9 8 9 rfl (by decide) (oblk_hi c 1 _) (by rfl) (by rfl)) $$ Hv HT
  iintro Hv HT
  iapply (op_inR m K c 11 9 3 3 12 (myd 3) (myt 3) rfl rfl rfl rfl rfl (by decide) (by decide) (by rfl) (by rfl) (by rfl) (by rfl) (by rfl)
    (by rw [amt_lt (by decide)]) (by rw [amt_lt (by decide)])) $$ Hctx Hb HR HG HO
  iintro Hb HR HG HO
  iapply Hk $$ Ha Hb Hu Hv HR HG HT HO

/-- The items 10 and 11, in part. -/
theorem grp6 {α : Type} (Q : α → sProp 𝕄) (k : PUnit → Prog (TpuEff nD τ sig (Elt F) Λ₀ .tc) α) :
    ctx m K ⊢ iprop(InFly m c 10 -∗ InFly m c 11 -∗ OutFly m c 8 -∗ OutFly m c 9 -∗ RecvSm (F := F) c (LB 14) -∗ KeptSt m c (KB 4) -∗ OutSt m c 8 10 -∗ Owes c Finset.univ
      -∗ (InFly m c 12 -∗ InRdy m c 11 -∗ OutFly m c 10 -∗ OutFil m c 11 4 -∗ RecvSm (F := F) c (LB 16) -∗ KeptSt m c (KB 5) -∗ OutSt m c 10 11 -∗ Owes c Finset.univ -∗ WP c (k ⟨⟩) Q)
      -∗ WP c (App k0_part33 t a1 h1 a2 h2 c h8 (invC m c) >>= fun p33 => App k0_part34 t a1 h1 a2 h2 c v5 v8 v10 h8 (invC m c) p33.1 p33.2 >>= fun p34 => App k0_part35 t a1 h1 a2 h2 c v5 v8 h8 p34.1 p34.2 >>= fun v1066 => App k0_part36 t a1 h1 a2 h2 (invC m c) v1066 >>= k) Q) := by
  simp only [App, k0_part33_eq_skeleton, k0_part34_eq_skeleton, k0_part35_eq_skeleton, k0_part36_eq_skeleton]
  unfold k0_part33_skel k0_part34_skel k0_part35_skel k0_part36_skel
  simp only [Prog.lift, Prog.bind_op, Prog.bind_ret, Prog.pure_eq_ret]
  iintro #Hctx Ha Hb Hu Hv HR HG HT HO Hk
  iapply (op_iwait m K c 10 (by rfl) (by rfl)) $$ Hctx Ha HO
  iintro Ha HO
  iapply (op_owaitF m K c 8 10 8 10 rfl (by decide) rfl (by rfl) (by rfl)) $$ Hctx Hu HT HO
  iintro Hu HT HO
  iapply (op_item m c 10 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 10 9 10 rfl (by decide) (oblk_hi c 2 _) (by rfl) (by rfl)) $$ Hu HT
  iintro Hu HT
  iapply (op_inR m K c 12 10 4 4 14 (mxd 4) (mxt 0) rfl rfl rfl rfl rfl (by decide) (by decide) (by rfl) (by rfl) (by rfl) (by rfl) (by rfl)
    (by rw [amt_lt (by decide)]) (by rw [amt_lt (by decide)])) $$ Hctx Ha HR HG HO
  iintro Ha HR HG HO
  iapply (op_iwait m K c 11 (by rfl) (by rfl)) $$ Hctx Hb HO
  iintro Hb HO
  iapply (op_owaitF m K c 9 11 9 11 rfl (by decide) rfl (by rfl) (by rfl)) $$ Hctx Hv HT HO
  iintro Hv HT HO
  iapply (op_item m c 11 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply Hk $$ Ha Hb Hu Hv HR HG HT HO

/-- The items 11 and 12. -/
theorem grp7 {α : Type} (Q : α → sProp 𝕄) (k : PUnit → Prog (TpuEff nD τ sig (Elt F) Λ₀ .tc) α) :
    ctx m K ⊢ iprop(InFly m c 12 -∗ InRdy m c 11 -∗ OutFly m c 10 -∗ OutFil m c 11 4 -∗ RecvSm (F := F) c (LB 16) -∗ KeptSt m c (KB 5) -∗ OutSt m c 10 11 -∗ Owes c Finset.univ
      -∗ (InFly m c 14 -∗ InFly m c 13 -∗ OutFly m c 12 -∗ OutFly m c 11 -∗ RecvSm (F := F) c (LB 20) -∗ KeptSt m c (KB 7) -∗ OutSt m c 11 13 -∗ Owes c Finset.univ -∗ WP c (k ⟨⟩) Q)
      -∗ WP c (App k0_part37 t a1 h1 a2 h2 c v5 v8 v10 h8 >>= fun _ => App k0_part38 t a1 h1 a2 h2 c h8 (invC m c) >>= fun v1154 => App k0_part39 t a1 h1 a2 h2 c v5 v10 h8 (invC m c) v1154 >>= fun p39 => App k0_part40 t a1 h1 a2 h2 c v5 v8 v10 h8 p39.1 p39.2 >>= k) Q) := by
  simp only [App, k0_part37_eq_skeleton, k0_part38_eq_skeleton, k0_part39_eq_skeleton, k0_part40_eq_skeleton]
  unfold k0_part37_skel k0_part38_skel k0_part39_skel k0_part40_skel
  simp only [Prog.lift, Prog.bind_op, Prog.bind_ret, Prog.pure_eq_ret]
  iintro #Hctx Ha Hb Hu Hv HR HG HT HO Hk
  iapply (op_ostart m c 11 10 11 rfl (by decide) (oblk_hi c 3 _) (by rfl) (by rfl)) $$ Hv HT
  iintro Hv HT
  iapply (op_inR m K c 13 11 5 5 16 (mxd 5) (mxt 1) rfl rfl rfl rfl rfl (by decide) (by decide) (by rfl) (by rfl) (by rfl) (by rfl) (by rfl)
    (by rw [amt_lt (by decide)]) (by rw [amt_lt (by decide)])) $$ Hctx Hb HR HG HO
  iintro Hb HR HG HO
  iapply (op_iwait m K c 12 (by rfl) (by rfl)) $$ Hctx Ha HO
  iintro Ha HO
  iapply (op_owaitF m K c 10 12 10 12 rfl (by decide) rfl (by rfl) (by rfl)) $$ Hctx Hu HT HO
  iintro Hu HT HO
  iapply (op_item m c 12 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply (op_ostart m c 12 11 12 rfl (by decide) (oblk_hi c 4 _) (by rfl) (by rfl)) $$ Hu HT
  iintro Hu HT
  iapply (op_inR m K c 14 12 6 6 18 (mxd 6) (mxt 2) rfl rfl rfl rfl rfl (by decide) (by decide) (by rfl) (by rfl) (by rfl) (by rfl) (by rfl)
    (by rw [amt_lt (by decide)]) (by rw [amt_lt (by decide)])) $$ Hctx Ha HR HG HO
  iintro Ha HR HG HO
  iapply Hk $$ Ha Hb Hu Hv HR HG HT HO

/-- The items 13 and 14, in part. -/
theorem grp8 {α : Type} (Q : α → sProp 𝕄) (k : PUnit → Prog (TpuEff nD τ sig (Elt F) Λ₀ .tc) α) :
    ctx m K ⊢ iprop(InFly m c 14 -∗ InFly m c 13 -∗ OutFly m c 12 -∗ OutFly m c 11 -∗ RecvSm (F := F) c (LB 20) -∗ KeptSt m c (KB 7) -∗ OutSt m c 11 13 -∗ Owes c Finset.univ
      -∗ (InRdy m c 14 -∗ InFly m c 15 -∗ OutFil m c 14 4 -∗ OutFly m c 13 -∗ RecvSm (F := F) c (LB 22) -∗ KeptSt m c (KB 8) -∗ OutSt m c 13 14 -∗ Owes c Finset.univ -∗ WP c (k ⟨⟩) Q)
      -∗ WP c (App k0_part41 t a1 h1 a2 h2 c h8 (invC m c) >>= fun p41 => App k0_part42 t a1 h1 a2 h2 c v5 v8 v10 h8 (invC m c) p41.1 p41.2 >>= fun p42 => App k0_part43 t a1 h1 a2 h2 c v5 v8 h8 p42.1 p42.2 >>= fun v1294 => App k0_part44 t a1 h1 a2 h2 (invC m c) v1294 >>= k) Q) := by
  simp only [App, k0_part41_eq_skeleton, k0_part42_eq_skeleton, k0_part43_eq_skeleton, k0_part44_eq_skeleton]
  unfold k0_part41_skel k0_part42_skel k0_part43_skel k0_part44_skel
  simp only [Prog.lift, Prog.bind_op, Prog.bind_ret, Prog.pure_eq_ret]
  iintro #Hctx Ha Hb Hu Hv HR HG HT HO Hk
  iapply (op_iwait m K c 13 (by rfl) (by rfl)) $$ Hctx Hb HO
  iintro Hb HO
  iapply (op_owaitF m K c 11 13 11 13 rfl (by decide) rfl (by rfl) (by rfl)) $$ Hctx Hv HT HO
  iintro Hv HT HO
  iapply (op_item m c 13 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 13 12 13 rfl (by decide) (oblk_hi c 5 _) (by rfl) (by rfl)) $$ Hv HT
  iintro Hv HT
  iapply (op_inR m K c 15 13 7 7 20 (mxd 7) (mxt 3) rfl rfl rfl rfl rfl (by decide) (by decide) (by rfl) (by rfl) (by rfl) (by rfl) (by rfl)
    (by rw [amt_lt (by decide)]) (by rw [amt_lt (by decide)])) $$ Hctx Hb HR HG HO
  iintro Hb HR HG HO
  iapply (op_iwait m K c 14 (by rfl) (by rfl)) $$ Hctx Ha HO
  iintro Ha HO
  iapply (op_owaitF m K c 12 14 12 14 rfl (by decide) rfl (by rfl) (by rfl)) $$ Hctx Hu HT HO
  iintro Hu HT HO
  iapply (op_item m c 14 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Ha Hu
  iintro Ha Hu
  iapply Hk $$ Ha Hb Hu Hv HR HG HT HO

/-- The last item. -/
theorem grp9 {α : Type} (Q : α → sProp 𝕄) (k : PUnit → Prog (TpuEff nD τ sig (Elt F) Λ₀ .tc) α) :
    ctx m K ⊢ iprop(InRdy m c 14 -∗ InFly m c 15 -∗ OutFil m c 14 4 -∗ OutFly m c 13 -∗ OutSt m c 13 14 -∗ Owes c Finset.univ
      -∗ (InRdy m c 14 -∗ InRdy m c 15 -∗ OutFly m c 14 -∗ OutFly m c 15 -∗ OutSt m c 14 16 -∗ Owes c Finset.univ -∗ WP c (k ⟨⟩) Q)
      -∗ WP c (App k0_part45 t a1 h1 a2 h2 c h8 (invC m c) >>= fun v1353 => App k0_part46 t a1 h1 a2 h2 c h8 (invC m c) v1353 >>= k) Q) := by
  simp only [App, k0_part45_eq_skeleton, k0_part46_eq_skeleton]
  unfold k0_part45_skel k0_part46_skel
  simp only [Prog.lift, Prog.bind_op, Prog.bind_ret, Prog.pure_eq_ret]
  iintro #Hctx Ha Hb Hu Hv HT HO Hk
  iapply (op_ostart m c 14 13 14 rfl (by decide) (oblk_hi c 6 _) (by rfl) (by rfl)) $$ Hu HT
  iintro Hu HT
  iapply (op_iwait m K c 15 (by rfl) (by rfl)) $$ Hctx Hb HO
  iintro Hb HO
  iapply (op_owaitF m K c 13 15 13 15 rfl (by decide) rfl (by rfl) (by rfl)) $$ Hctx Hv HT HO
  iintro Hv HT HO
  iapply (op_item m c 15 (fun _ => by rfl) (fun _ => by rfl) (fun _ => by rfl) (fun _ => by rfl) ⟨by rfl, by rfl, by rfl, by rfl⟩ ⟨by rfl, by rfl, by rfl, by rfl⟩ ⟨by rfl, by rfl, by rfl, by rfl⟩) $$ Hb Hv
  iintro Hb Hv
  iapply (op_ostart m c 15 14 15 rfl (by decide) (oblk_hi c 7 _) (by rfl) (by rfl)) $$ Hv HT
  iintro Hv HT
  iapply Hk $$ Ha Hb Hu Hv HT HO

end Groups
end Cert.KernelIdeal.Hand
-- ==== Proof.Msgs.lean ====
/-
# The last grid point: its messages
-/
module

public import proofs.«01_k».proof.Proof.Loop1
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (K : Dev nD × CI → ℕ) (c : Dev nD)

/-- The row sums received from the other half, read whole. -/
theorem op_othload {off : Fin 2 → Nat} (hz : off = fun _ => 0) {inb : ∀ a, off a + S1024x1.size a ≤ S1024x1.size a}
    {hl : othM.view.LoadsAt (Rect.unit (s := S1024x1) off S1024x1.size inb).toLoadRect} {α : Type} {Q : α → sProp 𝕄}
    {k : Vec F S1024x1 .f32 → Prog (TpuEff nD τ sig (Elt F) Λ₀ .tc) α} :
    othPts m c ⊢ iprop((othPts m c -∗ WP c (k (sumC m (zp c))) Q)
        -∗ WP c (.op (.load othM (Rect.unit (s := S1024x1) off S1024x1.size inb).toLoadRect hl) k) Q) := by
  have h : othPts m c ⊢ iprop((othPts m c -∗ WP c (k (othM.view.readAt (Elt F) (Rect.unit (s := S1024x1) off S1024x1.size inb).toLoadRect (sumC m (zp c)))) Q)
        -∗ WP c (.op (.load othM (Rect.unit (s := S1024x1) off S1024x1.size inb).toLoadRect hl) k) Q) :=
    wp_load 𝒱₀ (c : Thread nD τ) none Set.univ (m := othM) (S := othM.view.set)
      (by rw [show othM.view.set = Finset.univ from View.set_whole _]; exact Finset.subset_univ _)
  rw [show othM.view.readAt (Elt F) (Rect.unit (s := S1024x1) off S1024x1.size inb).toLoadRect (sumC m (zp c)) = sumC m (zp c) from
    Memref.readAt_unit_zero (Elt F) cc0_scratch3 hz inb _] at h
  exact h

/-- A wait for the copy of an own chunk. -/
theorem op_ewait (h : Fin 32) (s₀ : Fin 2) (w : ℕ) (hw : h.val = w) (hs₀ : slotOf h = s₀) (A : Finset Msg) {sem : DmaSem sig} (hsem : sem = eSem s₀)
    {sp sp' : Space} {s s' : Shape} {e e' : EltTy} {srcw : Memref sig .tc sp' s' e'} {dstw : Memref sig .tc sp s e}
    {hsrc : srcw.view.WordExact} {hdst : dstw.view.WordExact} (hN : dstw.view.dmaCredit = NE) {α : Type} {Q : α → sProp 𝕄}
    {kk : PUnit → Prog (TpuEff nD τ sig (Elt F) Λ₀ .tc) α} :
    ctx m K ⊢ iprop(EmSt m c w 32 -∗ Owes c A -∗ (EmSt m c (w + 1) 32 -∗ (semVal ((c : Thread nD τ), .dma (eSem s₀)) 0 ∗ estAny (F := F) c s₀) -∗ Owes c A -∗ WP c (kk ⟨⟩) Q)
      -∗ WP c (.op (.waitDma2 sem srcw dstw hsrc hdst) kk) Q) := by
  subst hw hs₀
  iintro #Hctx HE HO Hk
  iapply (wp_ewait m K c h A 32 h.isLt hsem hN) $$ [HE HO]
  · isplitr; · iexact Hctx
    isplitl [HE]; · iexact HE
    iexact HO
  iintro ⟨HE, Hs, HO⟩
  iapply Hk $$ HE Hs HO

/-- The row sums sent across `z`, a share of them kept. -/
theorem op_stat {n : Dev nD} (hn : n = zp c) {sS sem : DmaSem sig} (hsS : sS = sendSem mst) (hsem : sem = recvSem mst)
    {hsc : (Memref.whole cc0_scratch3 : Memref sig (Dev.tc n : Thread nD τ).2.kind .vmem S1024x1 .f32).view.ref.isScScratch = false}
    {hsrc : accM.view.WordExact} {hdst : (Memref.whole cc0_scratch3 : Memref sig (Dev.tc n : Thread nD τ).2.kind .vmem S1024x1 .f32).view.WordExact}
    {hsm : DmaTarget.Typed .vmem (.dma sem) (.remote (Dev.tc n : Thread nD τ) (Memref.whole cc0_scratch3) (.dma sS) hsc)} {α : Type} {Q : α → sProp 𝕄}
    {kk : PUnit → Prog (TpuEff nD τ sig (Elt F) Λ₀ .tc) α} :
    ctx m K ⊢ iprop(accPts c fullShare (sumC m c) -∗ SentSt c (LA c 0) -∗ Owes c (LA c 0)
      -∗ (accPts c fullShare.right (sumC m c) -∗ SentSt c (LA c 1) -∗ Owes c (LA c 1) -∗ WP c (kk ⟨⟩) Q)
          -∗ WP c (.op (.enqueueDma accM (.remote (Dev.tc n : Thread nD τ) (Memref.whole cc0_scratch3) (.dma sS) hsc) (.dma sem) hsrc hdst hsm) kk) Q) := by
  have h := LA_step c mst rfl
  rw [show sOrd mst = 0 from rfl] at h
  have hr := @wp_sendStat F _ m K c (LA c 0) h.1 n hn sS sem hsS hsem hsc hsrc hdst hsm α Q kk
  rw [h.2] at hr
  iintro #Hctx Ha HS HO Hk
  unfold accPts at hr ⊢
  ihave Ha := (pointsTo_share (PosShare.mem_left_op_right fullShare)).1 $$ Ha
  icases Ha with ⟨Hl, Ha⟩
  iapply hr $$ [Hl HS HO]
  · isplitr; · iexact Hctx
    isplitl [Hl]; · iexact Hl
    isplitl [HS]; · iexact HS
    iexact HO
  iintro ⟨HS, HO⟩
  iapply Hk $$ Ha HS HO

/-- A wait for a chunk to be relayed, and one of its shares. -/
theorem op_recvL (k : Msg) (hk0 : k.val < 32) (n a : ℕ) (hk : rTime k = 32 ∧ rOrd k = n) (ha : (if rOrd k = 0 then 1 else if rOrd k < 5 then rOrd k + 2 else 7) = a)
    {sem : DmaSem sig} (hsem : sem = recvSem k)
    {sp sp' : Space} {s s' : Shape} {e e' : EltTy} {srcw : Memref sig .tc sp' s' e'} {dstw : Memref sig .tc sp s e}
    {hsrc : srcw.view.WordExact} {hdst : dstw.view.WordExact} (hN : dstw.view.dmaCredit = NC) {α : Type} {Q : α → sProp 𝕄}
    {kk : PUnit → Prog (TpuEff nD τ sig (Elt F) Λ₀ .tc) α} :
    ctx m K ⊢ iprop(RecvSt m c (LB n) -∗ Owes c (LA c a)
      -∗ (RecvSt m c (LB (n + 1)) -∗ recvPts m c sL (H c k) -∗ recvPts m c sR (H c k) -∗ Owes c (LA c a) -∗ WP c (kk ⟨⟩) Q)
      -∗ WP c (.op (.waitDma2 sem srcw dstw hsrc hdst) kk) Q) := by
  iintro #Hctx HR HO Hk
  iapply (op_recv m K c k n a hk ha hsem (hN.trans (amt_lt hk0).symm)) $$ Hctx HR HO
  iintro HR Hs HO
  ihave Hs := (spare_lt m c k hk0) $$ Hs
  icases Hs with ⟨H1, H2⟩
  iapply Hk $$ HR H1 H2 HO

theorem off18_row (r : Fin 8) : k0_off18 c (BitVec.ofNat 32 (4 * r.val)) = ![(H c (mz r)).val, 0, 0] := (off18_eq c r).trans (by rw [H_mz_val])
theorem off19_row (r : Fin 8) : k0_off19 c (BitVec.ofNat 32 (4 * r.val)) = ![(H c (myd r)).val, 0, 0] := (off19_eq c r).trans (by rw [H_myd_val])

end Ops

section Groups
variable (K : Dev nD × CI → ℕ) (c : Dev nD) (t : Fin grid0.N) (a1 : Memref sig .tc .vmem S1024x2048 .bf16) (h1 : a1.IsWhole) (a2 : Memref sig .tc .vmem S2048x512 .bf16) (h2 : a2.IsWhole)
variable (v2 v5 v8 v9 v10 v11 v13 v16 v19 v23 : BitVec 32) (h8 : k0_cond8 (grid0.coords t) = 1#1)

/-- The row sums sent, the copies of the last own chunks awaited, the last relays, and the other half's row sums received. -/
theorem grpM {α : Type} (Q : α → sProp 𝕄) (k : FVec F S1024x1 .f32 → Prog (TpuEff nD τ sig (Elt F) Λ₀ .tc) α) :
    ctx m K ⊢ iprop(accPts c fullShare (sumC m c) -∗ EmSt m c 30 32 -∗ SentSt (F := F) c (LA c 0) -∗ RecvSt m c (LB 0) -∗ Owes c (LA c 0)
      -∗ (accPts c fullShare.right (sumC m c) -∗ othPts m c -∗ EmSt m c 32 32
          -∗ (semVal ((c : Thread nD τ), .dma (eSem 0)) 0 ∗ estAny (F := F) c 0) -∗ (semVal ((c : Thread nD τ), .dma (eSem 1)) 0 ∗ estAny (F := F) c 1)
          -∗ SentSt (F := F) c Finset.univ -∗ RecvSm (F := F) c (LB 6) -∗ KeptSt m c (KB 0) -∗ Owes c Finset.univ -∗ WP c (k (invC m c)) Q)
      -∗ WP c (App k0_part3 t a1 h1 a2 h2 c v2 v5 v9 v13 h8 >>= fun _ => App k0_part4 t a1 h1 a2 h2 c v2 v5 v8 v10 v11 v13 h8 >>= fun c16 =>
          App k0_part5 t a1 h1 a2 h2 c v2 v5 v8 v10 v11 v19 h8 c16 >>= fun p5 => App k0_part6 t a1 h1 a2 h2 c v2 v5 v8 v10 v11 v19 h8 p5.1 p5.2 >>= fun _ =>
          App k0_part7 t a1 h1 a2 h2 c v2 v5 v8 v10 v11 v19 h8 >>= fun _ => App k0_part8 t a1 h1 a2 h2 c v2 v5 v8 v9 v10 v19 h8 >>= k) Q) := by
  simp only [App, k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  simp only [Prog.lift, Prog.bind_op, Prog.bind_ret, Prog.pure_eq_ret]
  have hz2 : (![0, 0] : Fin S1024x1.rank → Nat) = fun _ => 0 := by decide
  iintro #Hctx Ha HE HS HR HO Hk
  iapply (op_stat m K c (dev8_eq c _) (by rfl) (by rfl)) $$ Hctx Ha HS HO
  iintro Ha HS HO
  iapply (op_ewait m K c 30 0 30 rfl rfl (LA c 1) (by rfl) (by rfl)) $$ Hctx HE HO
  iintro HE He0 HO
  iapply (op_ewait m K c 31 1 31 rfl rfl (LA c 1) (by rfl) (by rfl)) $$ Hctx HE HO
  iintro HE He1 HO
  iapply (op_recvL m K c (mz 7) (by decide) 0 1 (by decide) (by decide) (by rfl) (by rfl)) $$ Hctx HR HO
  iintro HR Hl Hr HO
  iapply (op_relay m K c (mxd 7) 1 (fun _ => rfl) rfl (by decide) sL _ (H_relay_x c 7) ((dev9_eq c _).trans (tgt_mxd c 7).symm) (by rfl) (by rfl)
    (rowOf_of recvM _ (off18_row c 7) _) (rowOf_of recvM _ (off18_row c 7) _)) $$ Hctx Hl HS HO
  iintro HS HO
  iapply (op_relay m K c (myd 7) 2 (fun _ => rfl) rfl (by decide) sR _ (H_relay_y c 7) ((dev10_eq c _).trans (tgt_myd c 7).symm) (by rfl) (by rfl)
    (rowOf_of recvM _ (off18_row c 7) _) (rowOf_of recvM _ (off18_row c 7) _)) $$ Hctx Hr HS HO
  iintro HS HO
  iapply (op_recvL m K c (myd 4) (by decide) 1 3 (by decide) (by decide) (by rfl) (by rfl)) $$ Hctx HR HO
  iintro HR Hl - HO
  iapply (op_relay m K c (mxt 0) 3 (fun _ => rfl) rfl (by decide) sL (H c (myd 4)) (H_relay_xt c 0) ((dev11_eq c _).trans (tgt_mxt c 0).symm) (by rfl) (by rfl)
    (rowOf_of recvM _ (off19_row c 4) _) (rowOf_of recvM _ (off19_row c 4) _)) $$ Hctx Hl HS HO
  iintro HS HO
  iapply (op_recvL m K c (myd 5) (by decide) 2 4 (by decide) (by decide) (by rfl) (by rfl)) $$ Hctx HR HO
  iintro HR Hl - HO
  iapply (op_relay m K c (mxt 1) 4 (fun _ => rfl) rfl (by decide) sL (H c (myd 5)) (H_relay_xt c 1) ((dev12_eq c _).trans (tgt_mxt c 1).symm) (by rfl) (by rfl)
    (rowOf_of recvM _ (off19_row c 5) _) (rowOf_of recvM _ (off19_row c 5) _)) $$ Hctx Hl HS HO
  iintro HS HO
  iapply (op_recvL m K c (myd 6) (by decide) 3 5 (by decide) (by decide) (by rfl) (by rfl)) $$ Hctx HR HO
  iintro HR Hl - HO
  iapply (op_relay m K c (mxt 2) 5 (fun _ => rfl) rfl (by decide) sL (H c (myd 6)) (H_relay_xt c 2) ((dev13_eq c _).trans (tgt_mxt c 2).symm) (by rfl) (by rfl)
    (rowOf_of recvM _ (off19_row c 6) _) (rowOf_of recvM _ (off19_row c 6) _)) $$ Hctx Hl HS HO
  iintro HS HO
  iapply (op_recvL m K c (myd 7) (by decide) 4 6 (by decide) (by decide) (by rfl) (by rfl)) $$ Hctx HR HO
  iintro HR Hl - HO
  iapply (op_relay m K c (mxt 3) 6 (fun _ => rfl) rfl (by decide) sL (H c (myd 7)) (H_relay_xt c 3) ((dev14_eq c _).trans (tgt_mxt c 3).symm) (by rfl) (by rfl)
    (rowOf_of recvM _ (off19_row c 7) _) (rowOf_of recvM _ (off19_row c 7) _)) $$ Hctx Hl HS HO
  rw [LA_all c]
  iintro HS HO
  have h5 := LB_step mst rfl
  rw [show rOrd mst = 5 from rfl] at h5
  unfold RecvSt
  icases HR with ⟨HR, HG⟩
  iapply (wp_recvS m K c mst Finset.univ (LB 5) h5.1 (fun k' h => absurd (Finset.mem_univ _) h) (by rfl) (by rw [amt_mst])) $$ [HR HO]
  · isplitr; · iexact Hctx
    isplitl [HR]; · iexact HR
    iexact HO
  rw [h5.2]
  iintro ⟨HR, Hp, HO⟩
  ihave Hp := (Entails.of_eq (show recvPay m c mst = othPts m c from if_neg (by decide))) $$ Hp
  iapply (wp_accload c hz2 fullShare.right _) $$ Ha
  iintro Ha
  iapply (op_othload m c hz2) $$ Hp
  iintro Hp
  rw [KB_zero]
  iapply Hk $$ Ha Hp HE He0 He1 HS HR HG HO

/-- The last two items' copies out awaited, and the sends of all messages but five. -/
theorem grpE {α : Type} (Q : α → sProp 𝕄) (k : PUnit → Prog (TpuEff nD τ sig (Elt F) Λ₀ .tc) α) :
    ctx m K ⊢ iprop(OutFly m c 14 -∗ OutFly m c 15 -∗ OutSt m c 14 16 -∗ EndSt m c (ED 0) -∗ Owes c Finset.univ
      -∗ (OutFree (F := F) c 0 -∗ OutFree (F := F) c 1 -∗ OutSt m c 16 16 -∗ EndSt m c (ED 28) -∗ Owes c Finset.univ -∗ WP c (k ⟨⟩) Q)
      -∗ WP c (App k0_part47 t a1 h1 a2 h2 c v13 h8 >>= fun _ => App k0_part48 t a1 h1 a2 h2 c v13 h8 >>= fun _ => App k0_part49 t a1 h1 a2 h2 c v13 h8 >>= fun _ =>
          App k0_part50 t a1 h1 a2 h2 c v13 h8 >>= fun _ => App k0_part51 t a1 h1 a2 h2 c v13 h8 >>= fun _ => App k0_part52 t a1 h1 a2 h2 c v13 h8 >>= fun _ =>
          App k0_part53 t a1 h1 a2 h2 c v13 v16 h8 >>= fun _ => App k0_part54 t a1 h1 a2 h2 c v16 v19 h8 >>= k) Q) := by
  simp only [App, k0_part47_eq_skeleton, k0_part48_eq_skeleton, k0_part49_eq_skeleton, k0_part50_eq_skeleton, k0_part51_eq_skeleton, k0_part52_eq_skeleton, k0_part53_eq_skeleton, k0_part54_eq_skeleton]
  unfold k0_part47_skel k0_part48_skel k0_part49_skel k0_part50_skel k0_part51_skel k0_part52_skel k0_part53_skel k0_part54_skel
  simp only [Prog.lift, Prog.bind_op, Prog.bind_ret, Prog.pure_eq_ret]
  iintro #Hctx Hu Hv HT HE HO Hk
  iapply (op_owait m K c 14 0 14 16 rfl (by decide) rfl (by rfl) (by rfl)) $$ Hctx Hu HT HO
  iintro Hu HT HO
  iapply (op_owait m K c 15 1 15 16 rfl (by decide) rfl (by rfl) (by rfl)) $$ Hctx Hv HT HO
  iintro Hv HT HO
  iapply (op_sent m K c (mz 0) 0 rfl (by rfl) (by rw [amt_lt (by decide)])) $$ Hctx HE HO
  iintro HE HO
  iapply (op_sent m K c (mxd 0) 1 rfl (by rfl) (by rw [amt_lt (by decide)])) $$ Hctx HE HO
  iintro HE HO
  iapply (op_sent m K c (myd 0) 2 rfl (by rfl) (by rw [amt_lt (by decide)])) $$ Hctx HE HO
  iintro HE HO
  iapply (op_sent m K c (mz 1) 3 rfl (by rfl) (by rw [amt_lt (by decide)])) $$ Hctx HE HO
  iintro HE HO
  iapply (op_sent m K c (mxd 1) 4 rfl (by rfl) (by rw [amt_lt (by decide)])) $$ Hctx HE HO
  iintro HE HO
  iapply (op_sent m K c (myd 1) 5 rfl (by rfl) (by rw [amt_lt (by decide)])) $$ Hctx HE HO
  iintro HE HO
  iapply (op_sent m K c (mz 2) 6 rfl (by rfl) (by rw [amt_lt (by decide)])) $$ Hctx HE HO
  iintro HE HO
  iapply (op_sent m K c (mxd 2) 7 rfl (by rfl) (by rw [amt_lt (by decide)])) $$ Hctx HE HO
  iintro HE HO
  iapply (op_sent m K c (myd 2) 8 rfl (by rfl) (by rw [amt_lt (by decide)])) $$ Hctx HE HO
  iintro HE HO
  iapply (op_sent m K c (mz 3) 9 rfl (by rfl) (by rw [amt_lt (by decide)])) $$ Hctx HE HO
  iintro HE HO
  iapply (op_sent m K c (mxd 3) 10 rfl (by rfl) (by rw [amt_lt (by decide)])) $$ Hctx HE HO
  iintro HE HO
  iapply (op_sent m K c (myd 3) 11 rfl (by rfl) (by rw [amt_lt (by decide)])) $$ Hctx HE HO
  iintro HE HO
  iapply (op_sent m K c (mz 4) 12 rfl (by rfl) (by rw [amt_lt (by decide)])) $$ Hctx HE HO
  iintro HE HO
  iapply (op_sent m K c (mxd 4) 13 rfl (by rfl) (by rw [amt_lt (by decide)])) $$ Hctx HE HO
  iintro HE HO
  iapply (op_sent m K c (myd 4) 14 rfl (by rfl) (by rw [amt_lt (by decide)])) $$ Hctx HE HO
  iintro HE HO
  iapply (op_sent m K c (mz 5) 15 rfl (by rfl) (by rw [amt_lt (by decide)])) $$ Hctx HE HO
  iintro HE HO
  iapply (op_sent m K c (mxd 5) 16 rfl (by rfl) (by rw [amt_lt (by decide)])) $$ Hctx HE HO
  iintro HE HO
  iapply (op_sent m K c (myd 5) 17 rfl (by rfl) (by rw [amt_lt (by decide)])) $$ Hctx HE HO
  iintro HE HO
  iapply (op_sent m K c (mz 6) 18 rfl (by rfl) (by rw [amt_lt (by decide)])) $$ Hctx HE HO
  iintro HE HO
  iapply (op_sent m K c (mxd 6) 19 rfl (by rfl) (by rw [amt_lt (by decide)])) $$ Hctx HE HO
  iintro HE HO
  iapply (op_sent m K c (myd 6) 20 rfl (by rfl) (by rw [amt_lt (by decide)])) $$ Hctx HE HO
  iintro HE HO
  iapply (op_sent m K c (mz 7) 21 rfl (by rfl) (by rw [amt_lt (by decide)])) $$ Hctx HE HO
  iintro HE HO
  iapply (op_sent m K c (mxd 7) 22 rfl (by rfl) (by rw [amt_lt (by decide)])) $$ Hctx HE HO
  iintro HE HO
  iapply (op_sent m K c (myd 7) 23 rfl (by rfl) (by rw [amt_lt (by decide)])) $$ Hctx HE HO
  iintro HE HO
  iapply (op_sent m K c (myt 0) 24 rfl (by rfl) (by rw [amt_lt (by decide)])) $$ Hctx HE HO
  iintro HE HO
  iapply (op_sent m K c (myt 1) 25 rfl (by rfl) (by rw [amt_lt (by decide)])) $$ Hctx HE HO
  iintro HE HO
  iapply (op_sent m K c (myt 2) 26 rfl (by rfl) (by rw [amt_lt (by decide)])) $$ Hctx HE HO
  iintro HE HO
  iapply (op_sent m K c (myt 3) 27 rfl (by rfl) (by rw [amt_lt (by decide)])) $$ Hctx HE HO
  iintro HE HO
  iapply Hk $$ Hu Hv HT HE HO

end Groups
end Cert.KernelIdeal.Hand
-- ==== Proof.Last.lean ====
/-
# The last grid point, whole
-/
module

public import proofs.«01_k».proof.Proof.Loop2
public import proofs.«01_k».proof.Proof.Msgs
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the closing part of the last grid point starts from. -/
def Pre55 (c : Dev nD) : sProp 𝕄 :=
  iprop(accPts c fullShare (sumC m c) ∗ EmSt m c 30 32 ∗ SentSt (F := F) c (LA c 0) ∗ RecvSt m c (LB 0) ∗ Owes (F := F) c (LA c 0) ∗ SAt (F := F) c
    ∗ InFree (F := F) c 0 ∗ InFree (F := F) c 1 ∗ OutFree (F := F) c 0 ∗ OutFree (F := F) c 1 ∗ OutSt m c 0 0)
/-- What it leaves, `n` of the sends awaited. -/
def Post55 (c : Dev nD) (n : ℕ) : sProp 𝕄 :=
  iprop(accPts c fullShare.right (sumC m c) ∗ othPts m c ∗ (semVal ((c : Thread nD τ), .dma (eSem 0)) 0 ∗ estAny (F := F) c 0) ∗ (semVal ((c : Thread nD τ), .dma (eSem 1)) 0 ∗ estAny (F := F) c 1)
    ∗ RecvSm (F := F) c (LB 22) ∗ InRdy m c 14 ∗ InRdy m c 15 ∗ OutFree (F := F) c 0 ∗ OutFree (F := F) c 1 ∗ OutSt m c 16 16 ∗ EndSt m c (ED n) ∗ Owes (F := F) c Finset.univ)

section Groups
variable (K : Dev nD × CI → ℕ) (c : Dev nD) (t : Fin grid0.N) (a1 : Memref sig .tc .vmem S1024x2048 .bf16) (h1 : a1.IsWhole) (a2 : Memref sig .tc .vmem S2048x512 .bf16) (h2 : a2.IsWhole)
variable (v2 v5 v8 v9 v10 v11 v13 v16 v19 v23 : BitVec 32) (h8 : k0_cond8 (grid0.coords t) = 1#1)

/-- The closing part of the last grid point. -/
theorem part55 (Q : PUnit → sProp 𝕄) :
    ctx m K ⊢ iprop(Pre55 m c -∗ (Post55 m c 29 -∗ Q ⟨⟩) -∗ WP c (App k0_part55 t a1 h1 a2 h2 c v2 v5 v8 v9 v10 v11 v13 v16 v19 v23 h8) Q) := by
  simp only [App, k0_part55_eq_skeleton]
  unfold k0_part55_skel Pre55
  iintro #Hctx ⟨Ha, HE, HS, HR, HO, HA, Hi0, Hi1, Ho0, Ho1, HT⟩ Hk
  iapply (grpM m K c t a1 h1 a2 h2 v2 v5 v8 v9 v10 v11 v13 v19 h8 Q _) $$ Hctx Ha HE HS HR HO
  iintro Ha Hp HE He0 He1 HS HR HG HO
  ihave HE := (ebSt_intro m c) $$ HE
  iapply (grp1 m K c t a1 h1 a2 h2 v8 v16 v19 v23 h8 Q _) $$ Hctx Hi0 Hi1 Ho0 Ho1 HE HT HO
  iintro Hx Hy Hu Hv HE HT HO
  iapply (grp2 m K c t a1 h1 a2 h2 h8 Q _) $$ Hctx Hx Hy Hu Hv HE HT HO
  iintro Hx Hy Hu Hv HE HT HO
  iapply (grp3 m K c t a1 h1 a2 h2 v2 v8 v11 h8 Q _) $$ Hctx Hx Hy Hu Hv HE HR HG HT HO
  iintro Hx Hy Hu Hv HE HR HG HT HO
  iapply (grp5 m K c t a1 h1 a2 h2 v2 v8 v11 h8 Q _) $$ Hctx Hx Hy Hu Hv HR HG HT HO
  iintro Hx Hy Hu Hv HR HG HT HO
  iapply (grp6 m K c t a1 h1 a2 h2 v5 v8 v10 h8 Q _) $$ Hctx Hx Hy Hu Hv HR HG HT HO
  iintro Hx Hy Hu Hv HR HG HT HO
  iapply (grp7 m K c t a1 h1 a2 h2 v5 v8 v10 h8 Q _) $$ Hctx Hx Hy Hu Hv HR HG HT HO
  iintro Hx Hy Hu Hv HR HG HT HO
  iapply (grp8 m K c t a1 h1 a2 h2 v5 v8 v10 h8 Q _) $$ Hctx Hx Hy Hu Hv HR HG HT HO
  iintro Hx Hy Hu Hv HR HG HT HO
  iapply (grp9 m K c t a1 h1 a2 h2 h8 Q _) $$ Hctx Hx Hy Hu Hv HT HO
  iintro Hx Hy Hu Hv HT HO
  ihave HD := (endSt_intro m c) $$ [HA HS]
  · isplitl [HA]; · iexact HA
    iexact HS
  ihave HD := (Entails.of_eq (congrArg (EndSt m c) ED_zero.symm)) $$ HD
  iapply (grpE m K c t a1 h1 a2 h2 v13 v16 v19 h8 Q _) $$ Hctx Hu Hv HT HD HO
  iintro Hu Hv HT HD HO
  simp only [Prog.lift, Prog.bind_op, Prog.bind_ret, Prog.pure_eq_ret]
  iapply (op_sent m K c (mxt 0) 28 rfl (by rfl) (by rw [amt_lt (by decide)])) $$ Hctx HD HO
  iintro HD HO
  iapply (le_wp_ret _ _)
  iapply Hk
  unfold Post55
  isplitl [Ha]; · iexact Ha
  isplitl [Hp]; · iexact Hp
  isplitl [He0]; · iexact He0
  isplitl [He1]; · iexact He1
  isplitl [HR]; · iexact HR
  isplitl [Hx]; · iexact Hx
  isplitl [Hy]; · iexact Hy
  isplitl [Hu]; · iexact Hu
  isplitl [Hv]; · iexact Hv
  isplitl [HT]; · iexact HT
  isplitl [HD]; · iexact HD
  iexact HO

end Groups
end Cert.KernelIdeal.Hand
-- ==== Proof.Body.lean ====
/-
# The body of a grid point
-/
module

public import proofs.«01_k».proof.Proof.Last
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier -/

/-- What `c` has before the barrier: its position and credit there, the duties it pays at its peers', the places its
    messages land in, and the duties of the messages it will send. -/
def BarSt (c : Dev nD) : sProp 𝕄 :=
  iprop(atPos ER (barCell c) 0 (∅ : Finset (Fin 3)) 0 ∗ cred (tallyAt (barCell c) () 3)
    ∗ dutyTok ER (barCell (zp c)) 0 (0 : Fin 3) ∗ dutyTok ER (barCell (xp c)) 0 (1 : Fin 3) ∗ dutyTok ER (barCell (yp c)) 0 (2 : Fin 3)
    ∗ (barPay (F := F) (zp c) 0 ∗ barPay (F := F) (xp c) 1 ∗ barPay (F := F) (yp c) 2)
    ∗ bigSep Finset.univ fun k : Msg => iprop(dutyTok ER (sendCell c k) 0 (0 : Fin 3) ∗ dutyTok ER (recvCell (tgt c k) k) 0 (0 : Fin 3)))

/-- Before the grid point `n`: the barrier still to come at the first, passed and its counter at zero at the others. -/
def PreBar (c : Dev nD) (n : ℕ) : sProp 𝕄 :=
  if n = 0 then iprop(BarSt (F := F) c ∗ ∃ W, owes (c : Thread nD τ) (O₀ c) W)
  else iprop(SentSt (F := F) c (sent c n) ∗ Owes (F := F) c (sent c n) ∗ semVal (barCell c) 0)

omit [FloatOps F] in
/-- With the duties of the messages and the places they land in, nothing is sent yet. -/
theorem sentSt_intro (c : Dev nD) :
    iprop((bigSep Finset.univ fun k : Msg => iprop(dutyTok ER (sendCell c k) 0 (0 : Fin 3) ∗ dutyTok ER (recvCell (tgt c k) k) 0 (0 : Fin 3)))
        ∗ bigSep Finset.univ fun k : Msg => landing (F := F) (tgt c k) k) ⊢ SentSt (F := F) c ∅ := by
  unfold SentSt
  refine (Entails.of_eq (BI.bigSep_sep Finset.univ _ _).symm).trans ?_
  refine BI.bigSep_mono fun k _ => ?_
  rw [if_neg (Finset.notMem_empty k)]
  unfold unsent
  show iprop((dutyTok ER (sendCell c k) 0 (0 : Fin 3) ∗ dutyTok ER (recvCell (tgt c k) k) 0 (0 : Fin 3)) ∗ landing (F := F) (tgt c k) k) ⊢ _
  iintro ⟨⟨Ha, Hb⟩, Hc⟩
  isplitl [Ha]; · iexact Ha
  isplitl [Hb]; · iexact Hb
  iexact Hc

section Parts
variable (K : Dev nD × CI → ℕ) (c : Dev nD) (t : Fin grid0.N)
variable (a1 : Memref sig .tc .vmem S1024x2048 .bf16) (h1 : a1.IsWhole) (a2 : Memref sig .tc .vmem S2048x512 .bf16) (h2 : a2.IsWhole)

/-- A signal of the barrier to the peer `p`, handing over the places its messages land in. -/
theorem wp_barSignal (p n : Dev nD) (d : Fin 3) (hn : n = p) (O : CellTallies nD τ sig Unit) {α : Type} {Q : α → sProp 𝕄}
    {kk : PUnit → Prog (TpuEff nD τ sig (Elt F) Λ₀ .tc) α} {W : Waits sig Unit} :
    ctx m K ⊢ iprop(owes (c : Thread nD τ) (O + tallyAt (barCell p) () 1) W -∗ dutyTok ER (barCell p) 0 d -∗ barPay (F := F) p d
      -∗ (owes (c : Thread nD τ) O W -∗ WP c (kk ⟨⟩) Q)
      -∗ WP c (.op (.semSignal (Dev.tc n : Thread nD τ) barS (1#32).toInt) kk) Q) := by
  subst hn
  iintro #Hctx HO Ht Hp Hk
  ihave HI := (ctx_cell m K n none) $$ Hctx
  icases HI with ⟨#HI, #Hr⟩
  iapply (Rounds.wp_signal 𝒱₀ ER (Rd m) (c : Thread nD τ) none (dst := (n : Thread nD τ)) (κ := K (n, none))
      (d := d) (by rw [duties_bar]; exact Finset.mem_univ _) ((amount_bar m n d).trans (by decide)) () O rfl)
    $$ [HO Ht Hp]
  · isplitr; · iexact HI
    isplitl [HO]; · iexact HO
    isplitl [Ht]; · iexact Ht
    isplitl [Hp]; · rw [payload_bar]; iexact Hp
    iexact Hr
  iexact Hk

/-- A staged block read whole. -/
theorem wp_stageload {s : Shape} {e : EltTy} (a : Memref sig .tc .vmem s e) (ha : a.IsWhole) {off : Fin s.rank → Nat} (hz : off = fun _ => 0)
    {inb : ∀ a, off a + s.size a ≤ s.size a} {hl : a.view.LoadsAt (Rect.unit (s := s) off s.size inb).toLoadRect} {α : Type} {Q : α → sProp 𝕄}
    {k : Vec F s e → Prog (TpuEff nD τ sig (Elt F) Λ₀ .tc) α} (X : Vec F s e) :
    (owns (c : Thread nD τ) a fullShare X : sProp 𝕄) ⊢ iprop((owns (c : Thread nD τ) a fullShare X -∗ WP c (k X) Q)
      -∗ WP c (.op (.load a (Rect.unit (s := s) off s.size inb).toLoadRect hl) k) Q) := by
  unfold owns
  iintro ⟨%f, %hf, H⟩ Hk
  have hS : a.view.setOn (Rect.unit (s := s) off s.size inb).toLoadRect.set ⊆ a.view.set := by
    rw [ha.set_eq_univ]; exact Finset.subset_univ _
  have h : (a.view.loc (c : Thread nD τ) ↦[a.view.set]{fullShare} f)
      ⊢ iprop(((a.view.loc (c : Thread nD τ) ↦[a.view.set]{fullShare} f) -∗ WP c (k (a.view.readAt (Elt F) (Rect.unit (s := s) off s.size inb).toLoadRect f)) Q)
        -∗ WP c (.op (.load a (Rect.unit (s := s) off s.size inb).toLoadRect hl) k) Q) :=
    wp_load 𝒱₀ (c : Thread nD τ) none Set.univ (m := a) (S := a.view.set) hS
  have e : a.view.readAt (Elt F) (Rect.unit (s := s) off s.size inb).toLoadRect f = X := by
    subst hz
    funext x
    rw [← hf]
    exact congrArg (a.view.read (Elt F) f) (Rect.emb_whole_apply _ x)
  rw [e] at h
  iapply h $$ H
  iintro H
  iapply Hk
  iexists f
  isplitr; · ipureintro; exact hf
  iexact H

/-- The first part: the barrier at the first grid point, then the product of the staged blocks, exponentiated. -/
theorem part56 (Q : _ → sProp 𝕄) :
    iprop((ctx m K ∗ PreBar (F := F) c t.val ∗ owns (c : Thread nD τ) a1 fullShare (iblk m c 0 t) ∗ owns (c : Thread nD τ) a2 fullShare (iblk m c 1 t))
      ∗ (∀ w2 w5 w8 w9 w10 w11 w13 w16 w19 w23, iprop(SentSt (F := F) c (sent c t.val) ∗ Owes (F := F) c (sent c t.val) ∗ semVal (barCell c) 0
            ∗ owns (c : Thread nD τ) a1 fullShare (iblk m c 0 t) ∗ owns (c : Thread nD τ) a2 fullShare (iblk m c 1 t))
          -∗ Q ⟨BitVec.ofNat 32 ((grid0.coords t) 0).val, c, w2, w5, w8, w9, w10, w11, w13, w16, w19, w23, eE m c (hh t)⟩))
      ⊢ WP c (App k0_part56 t a1 h1 a2 h2) Q := by
  simp only [App, k0_part56_eq_skeleton]
  unfold k0_part56_skel
  simp only [Prog.lift, Prog.bind_op, Prog.bind_ret, wp_deviceId]
  have hz1 : (![0, 0] : Fin S1024x2048.rank → Nat) = fun _ => 0 := by decide
  have hz2 : (![0, 0] : Fin S2048x512.rank → Nat) = fun _ => 0 := by decide
  refine wp_dite iprop((ctx m K ∗ (SentSt (F := F) c (sent c t.val) ∗ Owes (F := F) c (sent c t.val) ∗ semVal (barCell c) 0)
        ∗ owns (c : Thread nD τ) a1 fullShare (iblk m c 0 t) ∗ owns (c : Thread nD τ) a2 fullShare (iblk m c 1 t))
      ∗ (∀ w2 w5 w8 w9 w10 w11 w13 w16 w19 w23, iprop(SentSt (F := F) c (sent c t.val) ∗ Owes (F := F) c (sent c t.val) ∗ semVal (barCell c) 0
            ∗ owns (c : Thread nD τ) a1 fullShare (iblk m c 0 t) ∗ owns (c : Thread nD τ) a2 fullShare (iblk m c 1 t))
          -∗ Q ⟨BitVec.ofNat 32 ((grid0.coords t) 0).val, c, w2, w5, w8, w9, w10, w11, w13, w16, w19, w23, eE m c (hh t)⟩)) (fun h => ?_) (fun h => ?_) ?_
  · have h0 := (cond1_iff t).mp h
    unfold PreBar
    rw [if_pos h0, h0, sent_zero]
    simp only [semSignalWord, semWaitWord, Prog.lift, Prog.bind_op, Prog.bind_ret, Prog.pure_eq_ret]
    unfold BarSt
    iintro ⟨⟨#Hctx, ⟨⟨Hat, Hcr, Ht1, Ht2, Ht3, ⟨Hp1, Hp2, Hp3⟩, Htk⟩, ⟨%W, HO⟩⟩, Hx, Hw⟩, Hk⟩ Hr
    unfold O₀
    iapply (wp_barSignal m K c (zp c) _ 0 (dev1_eq c _) (O₁ c)) $$ Hctx HO Ht1 Hp1
    iintro HO
    unfold O₁
    iapply (wp_barSignal m K c (xp c) _ 1 (dev2_eq c _) (O₂ c)) $$ Hctx HO Ht2 Hp2
    iintro HO
    unfold O₂
    iapply (wp_barSignal m K c (yp c) _ 2 (dev3_eq c _) (Ow c ∅)) $$ Hctx HO Ht3 Hp3
    iintro HO
    ihave HI := (ctx_cell m K c none) $$ Hctx
    icases HI with ⟨#HI, -⟩
    iapply (Rounds.wp_wait_rest_token 𝒱₀ ER (Rd m) (c : Thread nD τ) none (κ := K (c, none))
        (wpE_semWait_eq 𝒱₀ (c : Thread nD τ) none Set.univ) (Set.mem_univ _) () (O := Ow c ∅) (W := W) (R := 0) (m := 0) (T := ∅)
        (by rw [expect_bar]; decide)) $$ [Hcr HO Hat]
    · isplitr; · iexact HI
      isplitl [Hcr]; · iexact Hcr
      isplitl [HO]; · iexact HO
      isplitr
      · iapply (mayWait_bar c)
        iapply (ctx_lev m K) $$ Hctx
      iexact Hat
    iintro ⟨HO, Hat, -, Hpay⟩
    ihave Hpay := (Entails.of_eq (rest_bar m c)) $$ Hpay
    imod (Rounds.cell_close ER (Rd m) (Set.mem_univ (K (c, none))) (fun h => h) (R := 0 + 1) (duties_later m (barCell c))) $$ [Hat] with Hz
    · isplitr; · iexact HI
      iexact Hat
    iapply Hr
    isplitr [Hk]
    · isplitr; · iexact Hctx
      isplitl [Htk Hpay HO Hz]
      · isplitl [Htk Hpay]
        · iapply (sentSt_intro c)
          isplitl [Htk]; · iexact Htk
          iexact Hpay
        isplitl [HO]; · unfold Owes; iexists _; iexact HO
        iexact Hz
      isplitl [Hx]; · iexact Hx
      iexact Hw
    iexact Hk
  · have h0 : ¬ t.val = 0 := fun e => h ((cond1_iff t).mpr e)
    unfold PreBar
    rw [if_neg h0]
  · simp only [Prog.pure_eq_ret]
    rw [show eE m c (hh t) = k0_pay78 (iblk m c 0 t) (iblk m c 1 t) from rfl]
    iintro ⟨⟨#Hctx, ⟨HS, HO, Hz⟩, Hx, Hw⟩, Hk⟩
    iapply (wp_stageload c a1 h1 hz1 (iblk m c 0 t)) $$ Hx
    iintro Hx
    iapply (wp_stageload c a2 h2 hz2 (iblk m c 1 t)) $$ Hw
    iintro Hw
    iapply (le_wp_ret _ _)
    iapply Hk
    isplitl [HS]; · iexact HS
    isplitl [HO]; · iexact HO
    isplitl [Hz]; · iexact Hz
    isplitl [Hx]; · iexact Hx
    iexact Hw

/-! ## The whole body -/

/-- What rests until the last grid point. -/
def Idle (c : Dev nD) : sProp 𝕄 :=
  iprop(SAt (F := F) c ∗ InFree (F := F) c 0 ∗ InFree (F := F) c 1 ∗ OutFree (F := F) c 0 ∗ OutFree (F := F) c 1 ∗ OutSt m c 0 0)

/-- Before the grid point `n`, but for what stands on the barrier. -/
def Run (c : Dev nD) (n : ℕ) : sProp 𝕄 :=
  iprop(AccSt m c n ∗ CommSt (F := F) c (sent c n) ∗ RecvSt m c (recvd n) ∗ EmSt m c (n - 2) n ∗ EsSt (F := F) c n ∗ Idle m c)

/-- After a grid point. -/
def After (c : Dev nD) (n : ℕ) : sProp 𝕄 :=
  if n = 32 then iprop(Post55 m c 33 ∗ semVal (barCell c) 0)
  else iprop(PreBar (F := F) c n ∗ Run m c n)

/-- A part at the head of a program. -/
theorem wp_head {α β : Type} {p : Prog (TpuEff nD τ sig (Elt F) Λ₀ .tc) α} {k : α → Prog (TpuEff nD τ sig (Elt F) Λ₀ .tc) β} {Q : β → sProp 𝕄}
    {P : sProp 𝕄} (h : P ⊢ WP c p (fun a => WP c (k a) Q)) : P ⊢ WP c (p >>= k) Q :=
  h.trans (Entails.of_eq (wp_bind _ _ _ _ _ _).symm)

/-- The message relayed a second time, among the first relays. -/
abbrev j2' (t : Fin grid0.N) : Fin 8 := (j2 t).castLE (by decide)

/-- What the last two guarded pieces of a point leave alone. -/
def Rest (c : Dev nD) (t : Fin grid0.N) (a1 : Memref sig .tc .vmem S1024x2048 .bf16) (a2 : Memref sig .tc .vmem S2048x512 .bf16) : sProp 𝕄 :=
  iprop(Idle m c ∗ EmSt m c (t.val - 1) (t.val + 1) ∗ EsSt (F := F) c (t.val + 1) ∗ semVal (barCell c) 0
    ∗ owns (c : Thread nD τ) a1 fullShare (iblk m c 0 t) ∗ owns (c : Thread nD τ) a2 fullShare (iblk m c 1 t))

/-- The closing part with what follows it. -/
theorem part55_at (w2 w5 w8 w9 w10 w11 w13 w16 w19 w23 : BitVec 32) (h8 : k0_cond8 (grid0.coords t) = 1#1) (Q : PUnit → sProp 𝕄) :
    iprop((ctx m K ∗ Pre55 m c) ∗ (Post55 m c 29 -∗ Q ⟨⟩)) ⊢ WP c (App k0_part55 t a1 h1 a2 h2 c w2 w5 w8 w9 w10 w11 w13 w16 w19 w23 h8) Q := by
  iintro ⟨⟨#Hctx, Hp⟩, Hk⟩
  iapply (part55 m K c t a1 h1 a2 h2 w2 w5 w8 w9 w10 w11 w13 w16 w19 w23 h8 Q) $$ Hctx Hp Hk

theorem body_run :
    iprop(ctx m K ∗ PreBar (F := F) c t.val ∗ Run m c t.val ∗ owns (c : Thread nD τ) a1 fullShare (iblk m c 0 t) ∗ owns (c : Thread nD τ) a2 fullShare (iblk m c 1 t))
      ⊢ WP c (App cc0_body t a1 h1 a2 h2) (fun _ => iprop(After m c (t.val + 1)
          ∗ owns (c : Thread nD τ) a1 fullShare (iblk m c 0 t) ∗ owns (c : Thread nD τ) a2 fullShare (iblk m c 1 t))) := by
  simp only [App, cc0_body_eq_skeleton]
  unfold cc0_body_skel Run
  iintro ⟨#Hctx, HB, ⟨HA, HC, HR, HE, HEs, HI⟩, Hx, Hw⟩
  iapply (wp_head c (part56 m K c t a1 h1 a2 h2 _))
  isplitl [HB Hx Hw]
  · isplitr; · iexact Hctx
    isplitl [HB]; · iexact HB
    isplitl [Hx]; · iexact Hx
    iexact Hw
  iintro %w2 %w5 %w8 %w9 %w10 %w11 %w13 %w16 %w19 %w23 ⟨HS, HO, Hz, Hx, Hw⟩
  dsimp only
  iapply (wp_head c (part57 m K c t a1 h1 a2 h2 (sent c t.val) _ _))
  isplitl [HE HEs HO]
  · isplitr; · iexact Hctx
    isplitl [HE]; · iexact HE
    isplitl [HEs]; · iexact HEs
    iexact HO
  iintro ⟨HE, HEs, HO⟩
  dsimp only
  iapply (wp_head c (part58 m K c t a1 h1 a2 h2 w2 w5 w8 w9 w10 w11 w13 _))
  isplitl [HA HS HC HR HO]
  · isplitr; · iexact Hctx
    isplitl [HA]; · iexact HA
    unfold MsgSt
    isplitl [HS]; · iexact HS
    isplitl [HC]; · iexact HC
    isplitl [HR]; · iexact HR
    iexact HO
  iintro %v ⟨HA, HM⟩
  iapply (wp_dite (c := c) (S := iprop((ctx m K ∗ MsgSt m c (A2 c t) (B1 t)) ∗ AccSt m c (t.val + 1) ∗ Rest m c t a1 a2))
    iprop((ctx m K ∗ MsgSt m c (sent c (t.val + 1)) (recvd (t.val + 1))) ∗ AccSt m c (t.val + 1) ∗ Rest m c t a1 a2) (fun h => ?_) (fun h => ?_) ?_)
  rotate_left 1
  · have h7 := (cond7_iff t).mp h
    have h20 := h7.1
    rw [sent_succ_pos c t h7, recvd_succ_pos t h7]
    simp only [k0_part2_eq_skeleton]
    unfold k0_part2_skel
    simp only [Prog.lift, Prog.bind_op, Prog.bind_ret, Prog.pure_eq_ret]
    unfold MsgSt
    have hoff := (off16_eq t c h20).trans (show _ = ![(H c (mxd (j2' t))).val, 0, 0] by rw [H_mxd_val]; rfl)
    iintro ⟨⟨#Hctx, HS, HC, HR, HO⟩, Hrest⟩ Hr
    iapply (wp_recv m K c (mxd (j2' t)) (A2 c t) (B1 t) (xr_new t h7) (xr_lev c t h7)
      (sem_at 27 _ ((t.val - 20) / 3) (off15_eq t h20) _ _ (recvSem_mxd _)) (by rw [amt_lt (mxd_lt _).1])) $$ [HR HO]
    · isplitr; · iexact Hctx
      isplitl [HR]; · iexact HR
      iexact HO
    iintro ⟨HR, Hsp, HO⟩
    ihave Hsp := (spare_lt m c (mxd (j2' t)) (mxd_lt _).1) $$ Hsp
    icases Hsp with ⟨Hl, Hr2⟩
    iapply (wp_relay m K c (myt (j2 t)) (A2 c t) (yt_new c t h7) (myt_lt _).1 (myt_lt _).2 ((dev7_eq c _).trans (tgt_myt c _).symm)
      (sem_at 51 _ ((t.val - 20) / 3) (off17_eq t h20) _ _ (sendSem_myt _)) (sem_at 55 _ ((t.val - 20) / 3) (off17_eq t h20) _ _ (recvSem_myt _))
      (H c (mxd (j2' t))) (H_relay_yt c _) (rowOf_of recvM _ hoff _) (rowOf_of recvM _ hoff _) sL) $$ [Hl HS HO]
    · isplitr; · iexact Hctx
      isplitl [Hl]; · iexact Hl
      isplitl [HS]; · iexact HS
      iexact HO
    iintro ⟨HS, HO⟩
    iapply Hr
    isplitr [Hrest]
    · isplitr; · iexact Hctx
      isplitl [HS]; · iexact HS
      isplitl [HC]
      · rw [commSt_congr c (insert (myt (j2 t)) (A2 c t)) (A2 c t) (fun j => by
          have h1 : ∀ (i : Fin 4) (j : Fin 8), mz j ≠ myt i := by decide +kernel
          simp only [Finset.mem_insert, h1 (j2 t) j, _root_.false_or])]
        iexact HC
      isplitl [HR]; · iexact HR
      iexact HO
    iexact Hrest
  · have h7 : ¬ c7 t := fun e => h ((cond7_iff t).mpr e)
    rw [sent_succ_neg c t h7, recvd_succ_neg t h7]
  · unfold Rest
    isplitl [HM]
    · isplitr; · iexact Hctx
      iexact HM
    isplitl [HA]; · iexact HA
    isplitl [HI]; · iexact HI
    isplitl [HE]; · iexact HE
    isplitl [HEs]; · iexact HEs
    isplitl [Hz]; · iexact Hz
    isplitl [Hx]; · iexact Hx
    iexact Hw
  · refine wp_dite (c := c) iprop(After m c (t.val + 1)
          ∗ owns (c : Thread nD τ) a1 fullShare (iblk m c 0 t) ∗ owns (c : Thread nD τ) a2 fullShare (iblk m c 1 t)) (fun h => ?_) (fun h => ?_) ?_
    · have h31 := (cond8_iff t).mp h
      unfold After Rest MsgSt Idle
      rw [if_pos (by rw [h31] : t.val + 1 = 32), h31]
      simp only [Prog.lift, Prog.bind_op, Prog.bind_ret, Prog.pure_eq_ret]
      iintro ⟨⟨#Hctx, HS, HC, HR, HO⟩, HA, ⟨HSA, Hi0, Hi1, Ho0, Ho1, HT⟩, HE, HEs, Hz, Hx, Hw⟩ Hr
      iapply (wp_head c (part55_at m K c t a1 h1 a2 h2 w2 w5 w8 w9 w10 w11 w13 w16 w19 w23 h _))
      isplitl [HS HR HO HA HSA Hi0 Hi1 Ho0 Ho1 HT HE]
      · isplitr; · iexact Hctx
        unfold Pre55
        rw [LA_zero, LB_zero]
        isplitl [HA]; · iapply (show AccSt m c (31 + 1) ⊢ accPts c fullShare (sumC m c) from Entails.of_eq (by unfold AccSt; exact if_neg (by decide))) $$ HA
        isplitl [HE]; · iexact HE
        isplitl [HS]; · iexact HS
        isplitl [HR]; · iexact HR
        isplitl [HO]; · iexact HO
        isplitl [HSA]; · iexact HSA
        isplitl [Hi0]; · iexact Hi0
        isplitl [Hi1]; · iexact Hi1
        isplitl [Ho0]; · iexact Ho0
        isplitl [Ho1]; · iexact Ho1
        iexact HT
      unfold Post55
      iintro ⟨Ha, Hp, He0, He1, HR, Hx0, Hy0, Hu, Hv, HT, HD, HO⟩
      iapply (op_sent m K c (mxt 1) 29 rfl (by rfl) (by rw [amt_lt (by decide)])) $$ Hctx HD HO
      iintro HD HO
      iapply (op_sent m K c (mxt 2) 30 rfl (by rfl) (by rw [amt_lt (by decide)])) $$ Hctx HD HO
      iintro HD HO
      iapply (op_sent m K c (mxt 3) 31 rfl (by rfl) (by rw [amt_lt (by decide)])) $$ Hctx HD HO
      iintro HD HO
      iapply (op_sent m K c mst 32 rfl (by rfl) (by rw [amt_mst])) $$ Hctx HD HO
      iintro HD HO
      iapply Hr
      isplitr [Hx Hw]
      · isplitr [Hz]
        · isplitl [Ha]; · iexact Ha
          isplitl [Hp]; · iexact Hp
          isplitl [He0]; · iexact He0
          isplitl [He1]; · iexact He1
          isplitl [HR]; · iexact HR
          isplitl [Hx0]; · iexact Hx0
          isplitl [Hy0]; · iexact Hy0
          isplitl [Hu]; · iexact Hu
          isplitl [Hv]; · iexact Hv
          isplitl [HT]; · iexact HT
          isplitl [HD]; · iexact HD
          iexact HO
        iexact Hz
      isplitl [Hx]; · iexact Hx
      iexact Hw
    · have h31 : ¬ t.val = 31 := fun e => h ((cond8_iff t).mpr e)
      unfold After Rest MsgSt PreBar Run
      rw [if_neg (by omega : ¬ t.val + 1 = 32), if_neg (by omega : ¬ t.val + 1 = 0), show t.val + 1 - 2 = t.val - 1 by omega]
      iintro ⟨⟨-, HS, HC, HR, HO⟩, HA, HI, HE, HEs, Hz, Hx, Hw⟩
      isplitr [Hx Hw]
      · isplitl [HS HO Hz]
        · isplitl [HS]; · iexact HS
          isplitl [HO]; · iexact HO
          iexact Hz
        isplitl [HA]; · iexact HA
        isplitl [HC]; · iexact HC
        isplitl [HR]; · iexact HR
        isplitl [HE]; · iexact HE
        isplitl [HEs]; · iexact HEs
        iexact HI
      isplitl [Hx]; · iexact Hx
      iexact Hw
    · simp only [Prog.pure_eq_ret]
      iintro H
      iapply (le_wp_ret _ _)
      iexact H

end Parts
end Cert.KernelIdeal.Hand
-- ==== Proof.Start.lean ====
/-
# The buffers of a device cut up for the run, and put back together
-/
module

public import proofs.«01_k».proof.Proof.Body
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families -/

omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_opt {A : Type} [Fintype A] [DecidableEq A] (Φ : Option A → sProp 𝕄) :
    bigSep Finset.univ Φ = iprop(Φ none ∗ bigSep Finset.univ fun a => Φ (some a)) := by
  rw [bigSep_univ_at Φ none, show (Finset.univ : Finset (Option A)).erase none = Finset.univ.map Function.Embedding.some from by
    ext x; cases x <;> simp, BI.bigSep_map]
  rfl
omit [FloatOps F] in
/-- The messages but the row sums, and these. -/
theorem bigSep_msg (Φ : Msg → sProp 𝕄) : bigSep Finset.univ Φ = iprop(Φ mst ∗ bigSep Finset.univ fun k : Fin 32 => Φ k.castSucc) := by
  rw [bigSep_univ_at Φ mst, show (Finset.univ : Finset Msg).erase mst = Finset.univ.map Fin.castSuccEmb from by decide +kernel, BI.bigSep_map]
  rfl
omit [FloatOps F] in
/-- The cells of a device. -/
theorem bigSep_CI (Φ : CI → sProp 𝕄) : bigSep Finset.univ Φ
    = iprop(Φ none ∗ (bigSep Finset.univ fun k : Msg => Φ (some (false, k))) ∗ bigSep Finset.univ fun k : Msg => Φ (some (true, k))) := by
  rw [bigSep_opt, bigSep_univ_prod, bigSep_bool]

/-! ## Blocks of a buffer -/

/-- A buffer of a device at any contents. -/
abbrev WholeAny (c : Dev nD) (b : Ref sig .tc) : sProp 𝕄 := iprop(∃ f : Buf (Elt F) ((c : Thread nD τ).loc b), ((c : Thread nD τ).loc b) ↦{fullShare} f)

omit [FloatOps F] in
theorem rows_whole (b : Ref sig .tc) {n : ℕ} {e : EltTy} {sp : Space} (M : Memref sig .tc sp (Stk n) e) (hM : M.view.set = Finset.univ) (c : Dev nD)
    (f : Buf (Elt F) (M.view.loc (c : Thread nD τ))) :
    (M.view.loc (c : Thread nD τ) ↦{fullShare} f : sProp 𝕄)
      = bigSep Finset.univ fun h : Fin n => ((rowOf M h).view.loc (c : Thread nD τ) ↦[(rowOf M h).view.set]{fullShare} f : sProp 𝕄) :=
  Ring.pointsTo_blocks (Name := ℕ) (U := UU) (Lvl := ℕ) (nD := nD) (τ := τ) (sig := sig) (Ix := Unit) (Val := Elt F) (ℓ := M.view.loc (c : Thread nD τ)) (q := fullShare)
    (fun h : Fin n => (rowOf M h).view.set) (fun h h' hne => rowOf_disjoint M hne) ((rowOf_cover M).trans hM) f

omit [FloatOps F] in
theorem rows_join {n : ℕ} {e : EltTy} {sp : Space} (M : Memref sig .tc sp (Stk n) e) (hM : M.view.set = Finset.univ) (c : Dev nD)
    (f : Buf (Elt F) (M.view.loc (c : Thread nD τ))) :
    (bigSep Finset.univ fun h : Fin n => iprop(∃ f, ((rowOf M h).view.loc (c : Thread nD τ) ↦[(rowOf M h).view.set]{fullShare} f : sProp 𝕄)))
      ⊢ iprop(∃ f, M.view.loc (c : Thread nD τ) ↦{fullShare} f) :=
  Ring.pointsTo_blocks_join_exists (Name := ℕ) (U := UU) (Lvl := ℕ) (nD := nD) (τ := τ) (sig := sig) (Ix := Unit) (Val := Elt F) (ℓ := M.view.loc (c : Thread nD τ)) (q := fullShare)
    (fun h : Fin n => (rowOf M h).view.set) (fun h h' hne => rowOf_disjoint M hne) ((rowOf_cover M).trans hM) f

omit [FloatOps F] in
theorem any_of {X : Type} (P : X → sProp 𝕄) (x : X) : P x ⊢ iprop(∃ y, P y) := by
  iintro H
  iexists x; iexact H

theorem oslot_disjoint {s s' : Fin 2} (hne : s ≠ s') : Disjoint (oslot s).view.set (oslot s').view.set := by
  rw [Finset.disjoint_left]
  intro i hi hi'
  obtain ⟨y, hy⟩ := View.exists_emb_of_mem_set _ hi
  obtain ⟨y', hy'⟩ := View.exists_emb_of_mem_set _ hi'
  rw [oslot_emb] at hy hy'
  exact hne (congrFun (hy.trans hy'.symm) 0)
theorem oslot_cover : Finset.biUnion (β := ostM.view.ty.Idx) Finset.univ (fun s : Fin 2 => (oslot s).view.set) = Finset.univ := by
  refine Finset.eq_univ_iff_forall.mpr fun i => Finset.mem_biUnion.mpr ?_
  obtain ⟨s, a, b, rfl⟩ : ∃ (s : Fin 2) (a : Fin 1024) (b : Fin 2048), i = ix3 s a b := ⟨i 0, i 1, i 2, eq_ix3 (n0 := 2) (n1 := 1024) (n2 := 2048) i⟩
  exact ⟨s, Finset.mem_univ _, (show _ = ix3 s a b from oslot_emb s (ix2 a b)) ▸ View.emb_mem_set _ _⟩

theorem islot_disjoint {s s' : Fin 2} (hne : s ≠ s') : Disjoint (islot s).view.set (islot s').view.set := by
  rw [Finset.disjoint_left]
  intro i hi hi'
  obtain ⟨y, hy⟩ := View.exists_emb_of_mem_set _ hi
  obtain ⟨y', hy'⟩ := View.exists_emb_of_mem_set _ hi'
  rw [islot_emb] at hy hy'
  exact hne (congrFun (hy.trans hy'.symm) 0)
theorem islot_cover : Finset.biUnion (β := istM.view.ty.Idx) Finset.univ (fun s : Fin 2 => (islot s).view.set) = Finset.univ := by
  refine Finset.eq_univ_iff_forall.mpr fun i => Finset.mem_biUnion.mpr ?_
  obtain ⟨s, r, a, b, rfl⟩ : ∃ (s : Fin 2) (r : Fin 4) (a : Fin 1024) (b : Fin 512), i = ix4 s r a b :=
    ⟨i 0, i 1, i 2, i 3, eq_ix4 (n0 := 2) (n1 := 4) (n2 := 1024) (n3 := 512) i⟩
  exact ⟨s, Finset.mem_univ _, (show _ = ix4 s r a b from islot_emb s (ix3 r a b)) ▸ View.emb_mem_set _ _⟩

theorem oblk_disjoint {b b' : Fin 16} (hne : b ≠ b') : Disjoint (oblk b).view.set (oblk b').view.set := by
  rw [Finset.disjoint_left]
  intro i hi hi'
  obtain ⟨y, hy⟩ := View.exists_emb_of_mem_set _ hi
  obtain ⟨y', hy'⟩ := View.exists_emb_of_mem_set _ hi'
  rw [oblk_emb] at hy hy'
  have h : 2048 * b.val + (y 1).val = 2048 * b'.val + (y' 1).val := congrArg Fin.val (congrFun (hy.trans hy'.symm) 1)
  have h1 : (y 1).val < 2048 := (y 1).isLt
  have h2 : (y' 1).val < 2048 := (y' 1).isLt
  exact hne (Fin.ext (by omega))
theorem oblk_cover : Finset.biUnion (β := outM.view.ty.Idx) Finset.univ (fun b : Fin 16 => (oblk b).view.set) = Finset.univ := by
  refine Finset.eq_univ_iff_forall.mpr fun i => Finset.mem_biUnion.mpr ?_
  obtain ⟨a, x, rfl⟩ : ∃ (a : Fin 1024) (x : Fin 32768), i = ix2 a x := ⟨i 0, i 1, eq_ix2 (n0 := 1024) (n1 := 32768) i⟩
  have hx := x.isLt
  refine ⟨⟨x.val / 2048, by omega⟩, Finset.mem_univ _, ?_⟩
  have h : ix2 (n0 := 1024) (n1 := 32768) a ⟨2048 * (x.val / 2048) + x.val % 2048, by omega⟩ = ix2 a x :=
    congrArg (ix2 (n0 := 1024) (n1 := 32768) a) (Fin.ext (by show 2048 * (x.val / 2048) + x.val % 2048 = x.val; omega))
  exact (show _ = ix2 a x from (oblk_emb ⟨x.val / 2048, by omega⟩ (ix2 (n0 := 1024) (n1 := 2048) a ⟨x.val % 2048, Nat.mod_lt _ (by decide)⟩)).trans h) ▸ View.emb_mem_set _ _

/-- The columns' blocks in the order of the items. -/
def colEquiv (c : Dev nD) : Fin 16 ≃ Fin 16 := Equiv.ofBijective (colOf c) (colOf_bij c)

omit [FloatOps F] in
theorem out_blocks (c : Dev nD) (f : Buf (Elt F) ((c : Thread nD τ).loc main_v1_0)) :
    (((c : Thread nD τ).loc main_v1_0) ↦{fullShare} f : sProp 𝕄)
      = bigSep Finset.univ fun i : Fin 16 => ((oblk (colOf c i)).view.loc (c : Thread nD τ) ↦[(oblk (colOf c i)).view.set]{fullShare} f : sProp 𝕄) := by
  have h := Ring.pointsTo_blocks (Name := ℕ) (U := UU) (Lvl := ℕ) (nD := nD) (τ := τ) (sig := sig) (Ix := Unit) (Val := Elt F) (ℓ := (c : Thread nD τ).loc main_v1_0) (q := fullShare)
    (fun b : Fin 16 => (oblk b).view.set) (fun b b' hne => oblk_disjoint hne) oblk_cover f
  exact h.trans (bigSep_univ_equiv (colEquiv c) _)

/-! ## The families at the start -/

omit [FloatOps F] in
theorem comm_start (c : Dev nD) : WholeAny (F := F) c cc0_scratch0 ⊢ CommSt (F := F) c ∅ := by
  iintro ⟨%f, H⟩
  ihave H := (Entails.of_eq (rows_whole cc0_scratch0 commM (View.set_whole _) c f)) $$ H
  unfold CommSt
  iapply (show (bigSep Finset.univ fun h : Fin 8 => ((rowOf commM h).view.loc (c : Thread nD τ) ↦[(rowOf commM h).view.set]{fullShare} f : sProp 𝕄))
    ⊢ bigSep Finset.univ fun j : Fin 8 => if mz j ∈ (∅ : Finset Msg) then iprop(emp) else commAny c j from
      BI.bigSep_mono fun j _ => by
        rw [if_neg (Finset.notMem_empty _)]
        unfold commAny
        exact any_of _ f) $$ H

omit [FloatOps F] in
theorem em_start (c : Dev nD) (f : Buf (Elt F) ((c : Thread nD τ).loc main_v1_2)) :
    (((c : Thread nD τ).loc main_v1_2) ↦{fullShare} f : sProp 𝕄) ⊢ bigSep Finset.univ fun h : Fin 32 => emAny (F := F) c h := by
  refine (Entails.of_eq (rows_whole main_v1_2 emM (View.set_whole _) c f)).trans ?_
  refine BI.bigSep_mono fun j _ => ?_
  unfold emAny
  exact any_of _ f

theorem emSt_start (c : Dev nD) : (bigSep Finset.univ fun h : Fin 32 => emAny (F := F) c h) ⊢ EmSt m c 0 0 := by
  unfold EmSt
  refine BI.bigSep_mono fun j _ => ?_
  rw [if_neg (Nat.not_lt_zero _), if_neg (Nat.not_lt_zero _)]
  exact BI.Entails.refl _

omit [FloatOps F] in
theorem est_start (c : Dev nD) : iprop(WholeAny (F := F) c cc0_scratch1 ∗ semVal ((c : Thread nD τ), .dma (eSem 0)) 0 ∗ semVal ((c : Thread nD τ), .dma (eSem 1)) 0)
    ⊢ EsSt (F := F) c 0 := by
  unfold EsSt
  rw [bigSep_fin2, if_neg (Nat.not_lt_zero _), if_neg (Nat.not_lt_zero _)]
  iintro ⟨⟨%f, H⟩, H0, H1⟩
  ihave H := (Entails.of_eq ((rows_whole cc0_scratch1 estM (View.set_whole _) c f).trans (bigSep_fin2 _))) $$ H
  icases H with ⟨Ha, Hb⟩
  isplitl [H0 Ha]
  · isplitl [H0]; · iexact H0
    unfold estAny
    iexists f; iexact Ha
  · isplitl [H1]; · iexact H1
    unfold estAny
    iexists f; iexact Hb

omit [FloatOps F] in
theorem out_start (c : Dev nD) : iprop(WholeAny (F := F) c cc0_scratch4 ∗ semVal ((c : Thread nD τ), .dma (outSem 0)) 0 ∗ semVal ((c : Thread nD τ), .dma (outSem 1)) 0)
    ⊢ iprop(OutFree (F := F) c 0 ∗ OutFree (F := F) c 1) := by
  unfold OutFree
  iintro ⟨⟨%f, H⟩, H0, H1⟩
  ihave H := (Entails.of_eq ((Ring.pointsTo_blocks (Name := ℕ) (U := UU) (Lvl := ℕ) (nD := nD) (τ := τ) (sig := sig) (Ix := Unit) (Val := Elt F) (ℓ := (c : Thread nD τ).loc cc0_scratch4) (q := fullShare)
    (fun b : Fin 2 => (oslot b).view.set) (fun b b' hne => oslot_disjoint hne) oslot_cover f).trans (bigSep_fin2 _))) $$ H
  icases H with ⟨Ha, Hb⟩
  isplitl [H0 Ha]
  · isplitl [H0]; · iexact H0
    iexists f; iexact Ha
  · isplitl [H1]; · iexact H1
    iexists f; iexact Hb

omit [FloatOps F] in
theorem in_start (c : Dev nD) : iprop(WholeAny (F := F) c cc0_scratch5 ∗ semVal ((c : Thread nD τ), .dma (inSem 0)) 0 ∗ semVal ((c : Thread nD τ), .dma (inSem 1)) 0)
    ⊢ iprop(InFree (F := F) c 0 ∗ InFree (F := F) c 1) := by
  unfold InFree
  iintro ⟨⟨%f, H⟩, H0, H1⟩
  ihave H := (Entails.of_eq ((Ring.pointsTo_blocks (Name := ℕ) (U := UU) (Lvl := ℕ) (nD := nD) (τ := τ) (sig := sig) (Ix := Unit) (Val := Elt F) (ℓ := (c : Thread nD τ).loc cc0_scratch5) (q := fullShare)
    (fun b : Fin 2 => (islot b).view.set) (fun b b' hne => islot_disjoint hne) islot_cover f).trans (bigSep_fin2 _))) $$ H
  icases H with ⟨Ha, Hb⟩
  isplitl [H0 Ha]
  · isplitl [H0]; · iexact H0
    iexists f; iexact Ha
  · isplitl [H1]; · iexact H1
    iexists f; iexact Hb

omit [FloatOps F] in
theorem res_start (c : Dev nD) (f : Buf (Elt F) ((c : Thread nD τ).loc main_v1_0)) :
    (((c : Thread nD τ).loc main_v1_0) ↦{fullShare} f : sProp 𝕄) ⊢ bigSep Finset.univ fun i : Fin 16 => outAny (F := F) c i := by
  refine (Entails.of_eq (out_blocks c f)).trans ?_
  refine BI.bigSep_mono fun j _ => ?_
  unfold outAny
  exact any_of _ f

theorem outSt_start (c : Dev nD) : (bigSep Finset.univ fun i : Fin 16 => outAny (F := F) c i) ⊢ OutSt m c 0 0 := by
  unfold OutSt
  refine BI.bigSep_mono fun j _ => ?_
  rw [if_neg (Nat.not_lt_zero _), if_neg (Nat.not_lt_zero _)]
  exact BI.Entails.refl _

theorem acc_start (c : Dev nD) : WholeAny (F := F) c cc0_scratch2 ⊢ AccSt m c 0 := by
  unfold AccSt accPts
  rw [if_pos rfl, View.set_whole]
  exact BI.Entails.refl _

theorem H_bij : ∀ c : Dev nD, Function.Bijective (fun k : Fin 32 => H c k.castSucc) := by decide +kernel
/-- The landing slices in the order of the messages. -/
def HEquiv (c : Dev nD) : Fin 32 ≃ Fin 32 := Equiv.ofBijective _ (H_bij c)

omit [FloatOps F] in
/-- The receive array and the place of the other half's row sums, as the landing places of the messages. -/
theorem landing_start (c : Dev nD) (f : Buf (Elt F) ((c : Thread nD τ).loc main_v1_1)) :
    iprop((((c : Thread nD τ).loc main_v1_1) ↦{fullShare} f) ∗ WholeAny (F := F) c cc0_scratch3) ⊢ bigSep Finset.univ fun k : Msg => landing (F := F) c k := by
  rw [bigSep_msg]
  iintro ⟨H, Ho⟩
  isplitl [Ho]
  · unfold landing
    rw [if_neg (by decide), View.set_whole]
    iexact Ho
  · iapply (show (((c : Thread nD τ).loc main_v1_1) ↦{fullShare} f : sProp 𝕄) ⊢ bigSep Finset.univ fun k : Fin 32 => landing (F := F) c k.castSucc from by
      refine (Entails.of_eq ((rows_whole main_v1_1 recvM (View.set_whole _) c f).trans (bigSep_univ_equiv (HEquiv c) _))).trans ?_
      refine BI.bigSep_mono fun k _ => ?_
      unfold landing
      rw [if_pos (show (Fin.castSucc k).val < 32 from k.isLt)]
      exact any_of _ f) $$ H

omit [FloatOps F] in
/-- They are what the device hands its peers at the barrier. -/
theorem barPay_start (c : Dev nD) : (bigSep Finset.univ fun k : Msg => landing (F := F) c k)
    ⊢ iprop(barPay (F := F) (zp c) 0 ∗ barPay (F := F) (xp c) 1 ∗ barPay (F := F) (yp c) 2) := by
  have hp (d : Fin 3) : barPay (F := F) (peer d c) d = bigSep (Finset.univ.filter fun k : Msg => cls k = d) fun k => landing (F := F) c k := by
    unfold barPay
    refine BI.bigSep_congr fun k hk => ?_
    have h : cls k = d := (Finset.mem_filter.mp hk).2
    unfold tgt
    rw [h, peer_peer]
  have h : (bigSep Finset.univ fun k : Msg => landing (F := F) c k) = bigSep Finset.univ fun d : Fin 3 => barPay (F := F) (peer d c) d := by
    rw [BI.bigSep_congr fun d _ => hp d, ← bigSep_biUnion_eq Finset.univ (fun d : Fin 3 => Finset.univ.filter fun k : Msg => cls k = d)]
    · congr 1
      ext k; simp
    · intro d _ d' _ hne
      exact Finset.disjoint_filter.mpr fun k _ h h' => hne (h.symm.trans h')
  rw [h, bigSep_fin3]
  exact BI.Entails.refl _

/-! ## The families at the end -/

omit [FloatOps F] in
theorem comm_end (c : Dev nD) [Nonempty (Elt F .bf16)] : (bigSep Finset.univ fun j : Fin 8 => commAny (F := F) c j) ⊢ WholeAny (F := F) c cc0_scratch0 :=
  rows_join commM (View.set_whole _) c (fun _ => Classical.arbitrary _)

omit [FloatOps F] in
theorem est_end (c : Dev nD) [Nonempty (Elt F .bf16)] : iprop(estAny (F := F) c 0 ∗ estAny (F := F) c 1) ⊢ WholeAny (F := F) c cc0_scratch1 :=
  (Entails.of_eq (bigSep_fin2 _).symm).trans (rows_join estM (View.set_whole _) c (fun _ => Classical.arbitrary _))

omit [FloatOps F] in
theorem out_end (c : Dev nD) [Nonempty (Elt F .f32)] : iprop(OutFree (F := F) c 0 ∗ OutFree (F := F) c 1)
    ⊢ iprop(WholeAny (F := F) c cc0_scratch4 ∗ semVal ((c : Thread nD τ), .dma (outSem 0)) 0 ∗ semVal ((c : Thread nD τ), .dma (outSem 1)) 0) := by
  unfold OutFree
  iintro ⟨⟨H0, Ha⟩, H1, Hb⟩
  isplitl [Ha Hb]
  · iapply ((Entails.of_eq (bigSep_fin2 (fun s : Fin 2 => iprop(∃ f, (oslot s).view.loc (c : Thread nD τ) ↦[(oslot s).view.set]{fullShare} f))).symm).trans
      (Ring.pointsTo_blocks_join_exists (Name := ℕ) (U := UU) (Lvl := ℕ) (nD := nD) (τ := τ) (sig := sig) (Ix := Unit) (Val := Elt F) (ℓ := (c : Thread nD τ).loc cc0_scratch4) (q := fullShare)
        (fun b : Fin 2 => (oslot b).view.set) (fun b b' hne => oslot_disjoint hne) oslot_cover (fun _ => Classical.arbitrary _)))
    isplitl [Ha]; · iexact Ha
    iexact Hb
  isplitl [H0]; · iexact H0
  iexact H1

omit [FloatOps F] in
theorem in_end (c : Dev nD) [Nonempty (Elt F .bf16)] : iprop(InFree (F := F) c 0 ∗ InFree (F := F) c 1)
    ⊢ iprop(WholeAny (F := F) c cc0_scratch5 ∗ semVal ((c : Thread nD τ), .dma (inSem 0)) 0 ∗ semVal ((c : Thread nD τ), .dma (inSem 1)) 0) := by
  unfold InFree
  iintro ⟨⟨H0, Ha⟩, H1, Hb⟩
  isplitl [Ha Hb]
  · iapply ((Entails.of_eq (bigSep_fin2 (fun s : Fin 2 => iprop(∃ f, (islot s).view.loc (c : Thread nD τ) ↦[(islot s).view.set]{fullShare} f))).symm).trans
      (Ring.pointsTo_blocks_join_exists (Name := ℕ) (U := UU) (Lvl := ℕ) (nD := nD) (τ := τ) (sig := sig) (Ix := Unit) (Val := Elt F) (ℓ := (c : Thread nD τ).loc cc0_scratch5) (q := fullShare)
        (fun b : Fin 2 => (islot b).view.set) (fun b b' hne => islot_disjoint hne) islot_cover (fun _ => Classical.arbitrary _)))
    isplitl [Ha]; · iexact Ha
    iexact Hb
  isplitl [H0]; · iexact H0
  iexact H1

theorem res_end (c : Dev nD) : OutSt m c 16 16 ⊢ (((c : Thread nD τ).loc main_v1_0) ↦{fullShare} outFin m c : sProp 𝕄) := by
  rw [out_blocks c (outFin m c)]
  unfold OutSt
  refine BI.bigSep_mono fun i _ => ?_
  rw [if_pos i.isLt]
  exact BI.Entails.refl _

/-- The sends all waited for: their cells closed, the slots of the array sent from and the row sums' half returned. -/
theorem endSt_end (c : Dev nD) : EndSt m c Finset.univ
    ⊢ iprop((bigSep Finset.univ fun k : Msg => semVal (sendCell c k) 0) ∗ (bigSep Finset.univ fun j : Fin 8 => commAny (F := F) c j) ∗ accPts c fullShare.left (sumC m c)) := by
  have h : EndSt m c Finset.univ = iprop((bigSep Finset.univ fun k : Msg => semVal (sendCell c k) 0) ∗ bigSep Finset.univ fun k : Msg => sendPay m c k) := by
    unfold EndSt
    rw [← bigSep_sep']
    exact BI.bigSep_congr fun k _ => if_pos (Finset.mem_univ k)
  have h8 : (bigSep Finset.univ fun k : Fin 32 => sendPay m c k.castSucc) ⊢ bigSep Finset.univ fun j : Fin 8 => commAny (F := F) c j := by
    have e := BI.bigSep_sdiff_split (Φ := fun k : Fin 32 => sendPay m c k.castSucc) (Finset.subset_univ (Finset.univ.map (Fin.castLEEmb (show 8 ≤ 32 by decide))))
    rw [e]
    refine (show iprop(_ ∗ _) ⊢ _ from ?_)
    iintro ⟨H, -⟩
    iapply (show bigSep (Finset.univ.map (Fin.castLEEmb (show 8 ≤ 32 by decide))) (fun k : Fin 32 => sendPay m c k.castSucc) ⊢ bigSep Finset.univ fun j : Fin 8 => commAny (F := F) c j from by
      rw [BI.bigSep_map]
      refine BI.bigSep_mono fun j _ => ?_
      unfold sendPay
      rw [dif_pos (show (Fin.castSucc (Fin.castLEEmb (show 8 ≤ 32 by decide) j)).val < 8 from j.isLt)]
      exact BI.Entails.refl _) $$ H
  rw [h, bigSep_msg (fun k => sendPay m c k)]
  iintro ⟨Hz, Hs, Hc⟩
  isplitl [Hz]; · iexact Hz
  isplitl [Hc]; · iapply h8 $$ Hc
  iapply (show sendPay m c mst ⊢ accPts c fullShare.left (sumC m c) from by
    unfold sendPay
    rw [dif_neg (by decide), if_neg (by decide)]) $$ Hs

theorem acc_end (c : Dev nD) : iprop(accPts c fullShare.left (sumC m c) ∗ accPts c fullShare.right (sumC m c)) ⊢ WholeAny (F := F) c cc0_scratch2 := by
  unfold accPts
  rw [View.set_whole]
  iintro ⟨Hl, Hr⟩
  iexists (sumC m c)
  iapply (pointsTo_share (PosShare.mem_left_op_right fullShare)).2
  isplitl [Hl]; · iexact Hl
  iexact Hr

end Cert.KernelIdeal.Hand

end
-- ==== Proof.Step.lean ====
/-
# The proof data and the body obligation
-/
module

public import proofs.«01_k».proof.Proof.Start
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The invariant -/

/-- Where the barrier stands before the grid point `n`, but for what is owed. -/
def PhiBar (c : Dev nD) (n : ℕ) : sProp 𝕄 :=
  if n = 0 then BarSt (F := F) c else iprop(SentSt (F := F) c (sent c n) ∗ semVal (barCell c) 0)

/-- What the device holds after its last grid point: every buffer back, every counter at zero, the result written. -/
def Fin55 (c : Dev nD) : sProp 𝕄 :=
  iprop((accPts c fullShare.right (sumC m c) ∗ othPts m c ∗ (semVal ((c : Thread nD τ), .dma (eSem 0)) 0 ∗ estAny (F := F) c 0) ∗ (semVal ((c : Thread nD τ), .dma (eSem 1)) 0 ∗ estAny (F := F) c 1)
    ∗ RecvSm (F := F) c (LB 22) ∗ InRdy m c 14 ∗ InRdy m c 15 ∗ OutFree (F := F) c 0 ∗ OutFree (F := F) c 1 ∗ OutSt m c 16 16 ∗ EndSt m c (ED 33)) ∗ semVal (barCell c) 0)

/-- Between the grid points. -/
def Phi (c : Dev nD) (n : ℕ) : sProp 𝕄 :=
  if n = 32 then Fin55 m c else iprop((∃ K, ctx m K) ∗ PhiBar (F := F) c n ∗ Run m c n)

/-- What a device owes before the grid point `n`. -/
def owedN (c : Dev nD) (n : ℕ) : CellTallies nD τ sig Unit := if n = 0 then O₀ c else if n = 32 then 0 else Ow c (sent c n)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
  Φ t := Phi m c t.val
  q _ := fullShare
  owed t := owedN c t.val

theorem preBar_intro (c : Dev nD) (n : ℕ) (hn : n ≠ 32) : iprop(PhiBar (F := F) c n ∗ ∃ W, owes (c : Thread nD τ) (owedN c n) W) ⊢ PreBar (F := F) c n := by
  unfold PhiBar PreBar owedN
  by_cases h : n = 0
  · rw [if_pos h, if_pos h, if_pos h]
  · rw [if_neg h, if_neg h, if_neg h, if_neg hn]
    iintro ⟨⟨Ha, Hb⟩, Ho⟩
    isplitl [Ha]; · iexact Ha
    isplitl [Ho]; · unfold Owes; iexact Ho
    iexact Hb

theorem preBar_elim (c : Dev nD) (n : ℕ) (hn : n ≠ 32) : PreBar (F := F) c n ⊢ iprop(PhiBar (F := F) c n ∗ ∃ W, owes (c : Thread nD τ) (owedN c n) W) := by
  unfold PhiBar PreBar owedN
  by_cases h : n = 0
  · rw [if_pos h, if_pos h, if_pos h]
  · rw [if_neg h, if_neg h, if_neg h, if_neg hn]
    iintro ⟨Ha, Ho, Hb⟩
    isplitr [Ho]
    · isplitl [Ha]; · iexact Ha
      iexact Hb
    · unfold Owes; iexact Ho

/-- What a grid point leaves is the invariant before the next. -/
theorem after_elim (K : Dev nD × CI → ℕ) (c : Dev nD) (n : ℕ) : iprop(ctx m K ∗ After m c n) ⊢ iprop(Phi m c n ∗ ∃ W, owes (c : Thread nD τ) (owedN c n) W) := by
  unfold After Phi
  by_cases h : n = 32
  · subst h
    rw [if_pos rfl, if_pos rfl]
    unfold owedN
    rw [if_neg (by decide), if_pos rfl]
    unfold Post55 Fin55
    iintro ⟨-, ⟨H1, H2, H3, H4, H5, H6, H7, H8, H9, H10, H11, HO⟩, Hz⟩
    isplitr [HO]
    · isplitr [Hz]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · iexact Hz
    · unfold Owes
      rw [Ow_univ]
      iexact HO
  · rw [if_neg h, if_neg h]
    iintro ⟨#Hctx, HB, HR⟩
    ihave HB := (preBar_elim c n h) $$ HB
    icases HB with ⟨HB, HO⟩
    isplitr [HO]
    · isplitr; · iexists K; iexact Hctx
      isplitl [HB]; · iexact HB
      iexact HR
    · iexact HO

/-! ## The body obligation -/

theorem after_0 (c : Dev nD) (t : Fin cfg0.N) : (dats m 0 c).after 0 t = iblk m c 0 t := rfl
theorem after_1 (c : Dev nD) (t : Fin cfg0.N) : (dats m 0 c).after 1 t = iblk m c 1 t := rfl
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)

abbrev stA (t : Fin cfg0.N) : Memref sig .tc .vmem S1024x2048 .bf16 := win0_0.stage (cfg0.slots t 0)
abbrev stB (t : Fin cfg0.N) : Memref sig .tc .vmem S2048x512 .bf16 := win0_1.stage (cfg0.slots t 1)

theorem wp_post (c : Dev nD) {α : Type} {p : Prog (TpuEff nD τ sig (Elt F) Λ₀ .tc) α} {Q Q' : α → sProp 𝕄} :
    iprop(WP c p Q ∗ (∀ a, Q a -∗ Q' a)) ⊢ WP c p Q' := wp_wand_r _ _ _

/-- The obligation with the windows named one by one. -/
theorem body_step (c : Dev nD) (t : Fin cfg0.N) :
    iprop(Phi m c t.val ∗ (∃ W, owes (c : Thread nD τ) (owedN c t.val) W)
        ∗ owns (c : Thread nD τ) (stA t) fullShare (iblk m c 0 t) ∗ owns (c : Thread nD τ) (stB t) fullShare (iblk m c 1 t))
      ⊢ WP c (bodyAt0 (F := F) t) (fun _ => iprop(Phi m c (t.val + 1) ∗ (∃ W, owes (c : Thread nD τ) (owedN c (t.val + 1)) W)
        ∗ owns (c : Thread nD τ) (stA t) fullShare (iblk m c 0 t) ∗ owns (c : Thread nD τ) (stB t) fullShare (iblk m c 1 t))) := by
  have ht : t.val ≠ 32 := Nat.ne_of_lt (lt_of_lt_of_eq t.isLt N_0)
  unfold Phi
  rw [if_neg ht]
  iintro ⟨⟨⟨%K, #Hctx⟩, HB, HR⟩, HO, Hx, Hw⟩
  iapply (wp_post c (Q := fun _ => iprop(After m c (t.val + 1)
          ∗ owns (c : Thread nD τ) (stA t) fullShare (iblk m c 0 t) ∗ owns (c : Thread nD τ) (stB t) fullShare (iblk m c 1 t))))
  isplitl [HB HR HO Hx Hw]
  · iapply (body_run m K c t (stA t) (hstage0_0 ((cfg0.slots t 0).cast nbuf0_0)) (stB t) (hstage0_1 ((cfg0.slots t 1).cast nbuf0_1)))
    isplitr; · iexact Hctx
    isplitl [HB HO]
    · iapply (preBar_intro c t.val ht)
      isplitl [HB]; · iexact HB
      iexact HO
    isplitl [HR]; · iexact HR
    isplitl [Hx]; · iexact Hx
    iexact Hw
  · iintro %_ ⟨HA, Hx, Hw⟩
    ihave H := (after_elim m K c (t.val + 1)) $$ [HA]
    · isplitr; · iexact Hctx
      iexact HA
    icases H with ⟨HP, HO⟩
    isplitl [HP]; · unfold Phi; iexact HP
    isplitl [HO]; · iexact HO
    isplitl [Hx]; · iexact Hx
    iexact Hw

/-- The owed tallies, as the pipeline states them. -/
theorem owesAt_elim (c : Dev nD) (t : Fin (cfg0.N + 1)) : (dats m 0 c).owesAt () t ⊢ iprop(∃ W, owes (c : Thread nD τ) (owedN c t.val) W) := by
  unfold Dat.owesAt Pipeline.owesWithin
  iintro ⟨%W, -, H⟩
  iexists W; iexact H
theorem owesAt_intro (c : Dev nD) (t : Fin (cfg0.N + 1)) : iprop(∃ W, owes (c : Thread nD τ) (owedN c t.val) W) ⊢ (dats m 0 c).owesAt () t := by
  unfold Dat.owesAt Pipeline.owesWithin
  iintro ⟨%W, H⟩
  iexists W
  isplitr
  · ipureintro; exact fun _ _ => Or.inl trivial
  · iexact H

set_option maxRecDepth 4000 in
/-- The library's body obligation on core `c`. -/
theorem body_obligation (c : Dev nD) : BodyObligation (dats (F := F) m 0 c) (defs₀ (F := F)) 𝒱₀ () Set.univ := fun t => by
  rw [bigSep_W0, bigSep_W0]
  show iprop(Phi m c t.val ∗ (dats m 0 c).owesAt () t.castSucc
      ∗ (∃ d, owns (c : Thread nD τ) (stA t) fullShare ((dats m 0 c).before 0 t d)) ∗ (∃ d, owns (c : Thread nD τ) (stB t) fullShare ((dats m 0 c).before 1 t d)))
    ⊢ WP c (bodyAt0 (F := F) t) (fun _ => iprop(Phi m c (t.val + 1) ∗ (dats m 0 c).owesAt () t.succ
      ∗ owns (c : Thread nD τ) (stA t) fullShare (iblk m c 0 t) ∗ owns (c : Thread nD τ) (stB t) fullShare (iblk m c 1 t)))
  iintro ⟨HP, HO, ⟨%d0, Hx⟩, ⟨%d1, Hw⟩⟩
  rw [before_0 m c t d0, before_1 m c t d1]
  ihave HO := (owesAt_elim m c t.castSucc) $$ HO
  iapply (wp_post c (Q := fun _ => iprop(Phi m c (t.val + 1) ∗ (∃ W, owes (c : Thread nD τ) (owedN c (t.val + 1)) W)
        ∗ owns (c : Thread nD τ) (stA t) fullShare (iblk m c 0 t) ∗ owns (c : Thread nD τ) (stB t) fullShare (iblk m c 1 t))))
  isplitl
  · iapply (body_step m c t)
    isplitl [HP]; · iexact HP
    isplitl [HO]; · iexact HO
    isplitl [Hx]; · iexact Hx
    iexact Hw
  · iintro %_ ⟨HP, HO, Hx, Hw⟩
    isplitl [HP]; · iexact HP
    isplitl [HO]; · iapply (show iprop(∃ W, owes (c : Thread nD τ) (owedN c (t.val + 1)) W) ⊢ (dats m 0 c).owesAt () t.succ from owesAt_intro m c t.succ) $$ HO
    isplitl [Hx]; · iexact Hx
    iexact Hw

end Cert.KernelIdeal.Hand

end
-- ==== Proof.Ghost.lean ====
/-
# The launch
-/
module

public import proofs.«01_k».proof.Proof.Step
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the kernel -/

/-- The semaphores of the local copies: of the chunks kept, of the input and of the output. -/
def lsem (x : Fin 3 × Fin 2) : SemLoc sig := .dma (if x.1 = 0 then eSem x.2 else if x.1 = 1 then inSem x.2 else outSem x.2)

/-- The kernel's own semaphores. -/
def osem : (Bool × Msg) ⊕ (Fin 3 × Fin 2) → SemLoc sig
  | .inl b => csem (some b)
  | .inr x => lsem x

theorem osem_scoped : ∀ k, (osem k).isScoped .tc = true := by decide +kernel
theorem lsem_inj : Function.Injective lsem := by decide +kernel
theorem dec_lsem : ∀ x, dec (lsem x) = none := by decide +kernel
theorem osem_inj : Function.Injective osem := by
  intro a b h
  have hd := congrArg dec h
  match a, b with
  | .inl a, .inl b =>
    have hd : dec (csem (some a)) = dec (csem (some b)) := hd
    rw [dec_csem, dec_csem] at hd
    rw [Option.some.inj (Option.some.inj hd)]
  | .inl a, .inr b =>
    have hd : dec (csem (some a)) = dec (lsem b) := hd
    rw [dec_csem, dec_lsem] at hd; cases hd
  | .inr a, .inl b =>
    have hd : dec (lsem a) = dec (csem (some b)) := hd
    rw [dec_csem, dec_lsem] at hd; cases hd
  | .inr a, .inr b => rw [lsem_inj h]
theorem osem_disj : ∀ k w s, osem k ≠ .dma ((spec0 w).sem s) := by decide +kernel
theorem ownSemFacts : Pipeline.OwnSemFacts cfg0.spec osem := ⟨osem_scoped, osem_inj, osem_disj⟩

/-- The local copies' counters at zero. -/
def lsems (c : Dev nD) : sProp 𝕄 := bigSep Finset.univ fun x : Fin 3 × Fin 2 => semVal ((c : Thread nD τ), lsem x) 0

omit [FloatOps F] in
theorem lsems_eq (c : Dev nD) : lsems (F := F) c = iprop((semVal ((c : Thread nD τ), .dma (eSem 0)) 0 ∗ semVal ((c : Thread nD τ), .dma (eSem 1)) 0)
    ∗ (semVal ((c : Thread nD τ), .dma (inSem 0)) 0 ∗ semVal ((c : Thread nD τ), .dma (inSem 1)) 0)
    ∗ (semVal ((c : Thread nD τ), .dma (outSem 0)) 0 ∗ semVal ((c : Thread nD τ), .dma (outSem 1)) 0)) := by
  unfold lsems
  rw [bigSep_univ_prod, bigSep_fin3, bigSep_fin2, bigSep_fin2, bigSep_fin2]
  rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun b : Bool × Msg => semVal (kcell (c, some b)) 0) ∗ lsems (F := F) c) := by
  unfold Pipeline.ownSems0
  rw [BI.bigSep_univ_sum]
  rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CI => semVal (kcell (c, k)) 0) ∗ lsems (F := F) c) := by
  rw [ownSems0_eq, unscopedSems0_eq, bigSep_opt]
  iintro ⟨⟨HS, HL⟩, HB⟩
  isplitr [HL]
  · isplitl [HB]; · iexact HB
    iexact HS
  · iexact HL

/-! ## The ghost state -/

def kcells : Finset (GSem nD τ sig) := Finset.univ.map ⟨kcell, kcell_injective⟩

/-- The duty tokens of a device's own cells: the three of its barrier cell, one of each other. -/
abbrev TI : Type := Fin 3 ⊕ (Bool × Msg)
def tokOf (cj : Dev nD × TI) : GSem nD τ sig × ℕ × Fin 3 := match cj.2 with
  | .inl d => (barCell cj.1, 0, d)
  | .inr b => (kcell (cj.1, some b), 0, 0)
theorem tokOf_injective : Function.Injective tokOf := by
  rintro ⟨c, j⟩ ⟨c', j'⟩ h
  have hk : (tokOf (c, j)).1 = (tokOf (c', j')).1 := congrArg Prod.fst h
  have hd : (tokOf (c, j)).2.2 = (tokOf (c', j')).2.2 := congrArg (fun x => x.2.2) h
  match j, j' with
  | .inl d, .inl d' =>
    have e : (c, (none : CI)) = (c', none) := kcell_injective hk
    have hd : d = d' := hd
    rw [show c = c' from congrArg Prod.fst e, hd]
  | .inl d, .inr b =>
    have e : (c, (none : CI)) = (c', some b) := kcell_injective hk
    cases congrArg Prod.snd e
  | .inr b, .inl d =>
    have e : (c, some b) = (c', (none : CI)) := kcell_injective hk
    cases congrArg Prod.snd e
  | .inr b, .inr b' =>
    have e : (c, some b) = (c', some b') := kcell_injective hk
    rw [show c = c' from congrArg Prod.fst e, Option.some.inj (congrArg Prod.snd e)]
def ktoks : Finset (GSem nD τ sig × ℕ × Fin 3) := Finset.univ.map ⟨tokOf, tokOf_injective⟩

def u₀ : UU :=
  (initOf (Pipeline.cells cfgs cellOf_inj) (Pipeline.launchToks cfgs cellOf_inj), (initOf kcells ktoks, (1 : Counters)))

/-- The duty tokens of device `c`'s own cells. -/
def toks (c : Dev nD) : sProp 𝕄 :=
  iprop((bigSep Finset.univ fun d : Fin 3 => dutyTok ER (barCell c) 0 d)
    ∗ (bigSep Finset.univ fun k : Msg => dutyTok ER (sendCell c k) 0 (0 : Fin 3)) ∗ bigSep Finset.univ fun k : Msg => dutyTok ER (recvCell c k) 0 (0 : Fin 3))

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 (∅ : Finset (Fin 3)) 0 ∗ reached ER (kcell (c, k)) 0)) ∗ toks (F := F) c)

theorem fund_ghost : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun k : CI => Φ (kcell (c, k)) := by
    unfold kcells; rw [BI.bigSep_map, bigSep_univ_prod]; rfl
  have hT : bigSep ktoks (fun x => (dutyTok ER x.1 x.2.1 x.2.2 : sProp 𝕄)) = bigSep Finset.univ fun c : Dev nD => toks c := by
    unfold ktoks; rw [BI.bigSep_map, bigSep_univ_prod]
    exact BI.bigSep_congr fun c _ => by unfold toks; rw [BI.bigSep_univ_sum, bigSep_univ_prod, bigSep_bool]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 (∅ : Finset (Fin 3)) 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 (∅ : Finset (Fin 3)) 0 ∗ reached ER (kcell (c, k)) 0)) ∗ toks (F := F) c ∗ lsems (F := F) c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

def records (K : Dev nD × CI → ℕ) : sProp 𝕄 :=
  bigSep Finset.univ fun ci : Dev nD × CI => iprop(cellInv ER (Rd m) (K ci) (kcell ci) ∗ reached ER (kcell ci) 0)

instance records_persistent (K : Dev nD × CI → ℕ) : BI.Persistent (records m K) := by unfold records; infer_instance

/-- The tokens of the duties device `c` pays. -/
def payToks (c : Dev nD) : sProp 𝕄 :=
  iprop((bigSep Finset.univ fun d : Fin 3 => dutyTok ER (barCell (peer d c)) 0 d)
    ∗ (bigSep Finset.univ fun k : Msg => dutyTok ER (sendCell c k) 0 (0 : Fin 3)) ∗ bigSep Finset.univ fun k : Msg => dutyTok ER (recvCell (tgt c k) k) 0 (0 : Fin 3))

/-- What stays with device `c`: its positions, the tokens of its duties and the local copies' counters. -/
def linear (c : Dev nD) : sProp 𝕄 :=
  iprop((bigSep Finset.univ fun k : CI => atPos ER (kcell (c, k)) 0 (∅ : Finset (Fin 3)) 0) ∗ payToks (F := F) c ∗ lsems (F := F) c)

/-- What the global step makes of it. -/
def G' (c : Dev nD) : sProp 𝕄 := iprop((∃ K, records m K) ∗ linear (F := F) c)

omit [FloatOps F] in
/-- A family over the devices and an index, each index's part permuted among the devices. -/
theorem around {I : Type} [Fintype I] [DecidableEq I] (e : I → Dev nD ≃ Dev nD) (Φ : Dev nD → I → sProp 𝕄) :
    (bigSep Finset.univ fun c : Dev nD => bigSep Finset.univ fun i : I => Φ c i)
      = bigSep Finset.univ fun c : Dev nD => bigSep Finset.univ fun i : I => Φ (e i c) i := by
  rw [bigSep_univ_comm, BI.bigSep_congr fun i _ => bigSep_univ_equiv (e i) (fun c => Φ c i), bigSep_univ_comm]

omit [FloatOps F] in
/-- The tokens dealt around: each to the device that pays the duty. -/
theorem toks_around : (bigSep Finset.univ fun c : Dev nD => (toks c : sProp 𝕄)) = bigSep Finset.univ fun c : Dev nD => payToks (F := F) c := by
  unfold toks payToks
  rw [bigSep_sep', bigSep_sep', bigSep_sep', bigSep_sep',
    around (fun d : Fin 3 => peerEquiv d) (fun c d => (dutyTok ER (barCell c) 0 d : sProp 𝕄)),
    around (fun k : Msg => peerEquiv (cls k)) (fun c k => (dutyTok ER (recvCell c k) 0 (0 : Fin 3) : sProp 𝕄))]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 (∅ : Finset (Fin 3)) 0 ∗ reached ER (kcell (c, k)) 0)) ∗ toks (F := F) c ∗ lsems (F := F) c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 (∅ : Finset (Fin 3)) 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok, HL⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) (Φ := fun c => linear (F := F) c) fun c _ => show iprop(records m K ∗ linear (F := F) c) ⊢ G' m c from by
    unfold G'
    iintro ⟨#Hr, Hl⟩
    isplitr; · iexists K; iexact Hr
    iexact Hl)
  isplitr
  · unfold records
    rw [bigSep_sep']
    isplitl; · iexact HI
    iexact HR
  · unfold linear
    rw [bigSep_sep', bigSep_sep']
    isplitl [Hat]; · iexact Hat
    isplitl [Htok]; · iexact Htok
    iexact HL

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end
-- ==== Proof.Launch.lean ====
/-
# The run of the whole mesh
-/
module

public import proofs.«01_k».proof.Proof.Ghost
public import Idealize.ShloMosaic.Lib.Pipeline.CollectiveSegs
@[expose] public section

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem bar_inj {a b : Dev nD} (h : barCell a = barCell b) : a = b :=
  congrArg Prod.fst (kcell_injective (a₁ := (a, none)) (a₂ := (b, none)) h)
theorem recv_inj {a b : Dev nD} {k j : Msg} (h : recvCell a k = recvCell b j) : a = b ∧ k = j := by
  have e := kcell_injective (a₁ := (a, some (true, k))) (a₂ := (b, some (true, j))) h
  exact ⟨congrArg Prod.fst e, congrArg Prod.snd (Option.some.inj (congrArg Prod.snd e))⟩
theorem recv_ne_bar {a b : Dev nD} {k : Msg} (h : recvCell a k = barCell b) : False := by
  have e := kcell_injective (a₁ := (a, some (true, k))) (a₂ := (b, none)) h
  cases congrArg Prod.snd e

/-- A unit owed to the barrier cell of a device's peer. -/
theorem bar_unit (d c : Dev nD) (p : Fin 3) : (tallyAt (barCell (peer p d)) () 1 : CellTallies nD τ sig Unit) (barCell c) () = if d = peer p c then 1 else 0 := by
  rw [tallyAt_apply]
  by_cases h : d = peer p c
  · subst h; rw [peer_peer, if_pos ⟨rfl, rfl⟩, if_pos rfl]
  · rw [if_neg (fun ⟨h1, _⟩ => h (by rw [bar_inj h1, peer_peer])), if_neg h]

theorem Ow_bar (d c : Dev nD) : Ow d ∅ (barCell c) () = 0 := by
  by_contra h
  obtain ⟨k, -, hk⟩ := Ow_pos (Nat.pos_of_ne_zero h)
  exact recv_ne_bar hk.symm

/-- What device `d` owes the barrier cell of `c`: a unit for each axis along which they are peers. -/
theorem owed_bar (d c : Dev nD) :
    O₀ d (barCell c) () = (if d = yp c then 1 else 0) + (if d = xp c then 1 else 0) + (if d = zp c then 1 else 0) := by
  unfold O₀ O₁ O₂
  rw [Pi.add_apply, Finsupp.add_apply, Pi.add_apply, Finsupp.add_apply, Pi.add_apply, Finsupp.add_apply, Ow_bar, Nat.zero_add]
  exact congrArg₂ (· + ·) (congrArg₂ (· + ·) (bar_unit d c 2) (bar_unit d c 1)) (bar_unit d c 0)

theorem bar_recv (d c : Dev nD) (k : Msg) : (tallyAt (barCell d) () 1 : CellTallies nD τ sig Unit) (recvCell c k) () = 0 := by
  rw [tallyAt_apply]; exact if_neg fun h => recv_ne_bar h.1

/-- What device `d` owes a receive cell of `c`: the message, if it is the one that sends it. -/
theorem owed_recv (d c : Dev nD) (k : Msg) : O₀ d (recvCell c k) () = if d = tgt c k then amt k else 0 := by
  unfold O₀ O₁ O₂
  rw [Pi.add_apply, Finsupp.add_apply, Pi.add_apply, Finsupp.add_apply, Pi.add_apply, Finsupp.add_apply, bar_recv, bar_recv, bar_recv]
  unfold Ow
  rw [Finset.sdiff_empty, Finset.sum_apply, Finsupp.finset_sum_apply]
  rw [Finset.sum_eq_single k (fun j _ hj => by rw [tallyAt_apply]; exact if_neg fun h => hj (recv_inj h.1).2.symm) (fun h => absurd (Finset.mem_univ k) h), tallyAt_apply]
  by_cases h : d = tgt c k
  · subst h; rw [tgt_tgt, if_pos ⟨rfl, rfl⟩, if_pos rfl]; rfl
  · rw [if_neg (fun ⟨h1, _⟩ => h (by rw [(recv_inj h1).1, tgt_tgt])), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (yp c) fun _ => 1, Finset.sum_ite_eq' Finset.univ (xp c) fun _ => 1, Finset.sum_ite_eq' Finset.univ (zp c) fun _ => 1,
    if_pos (Finset.mem_univ _), if_pos (Finset.mem_univ _), if_pos (Finset.mem_univ _)]

theorem launch_recv (c : Dev nD) (k : Msg) :
    tallyOn (recvCell c k) (launchCredit (Pipeline.owing O₀) 0 (recvCell c k)) = (tallyAt (recvCell c k) () (amt k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (tgt c k) fun _ => amt k,
    if_pos (Finset.mem_univ _)]

/-- The receive semaphores, one of each message. -/
def recvEmb : Msg ↪ SemLoc sig := ⟨fun k => .dma (recvSem k), fun k j h => (recv_inj (a := 0) (b := 0) (congrArg (Prod.mk _) h)).2⟩

omit [FloatOps F] in
theorem creds (c : Dev nD) :
    (Pipeline.launchCred O₀ c : sProp 𝕄) ⊢ iprop(cred (tallyAt (barCell c) () 3) ∗ bigSep Finset.univ fun k : Msg => cred (tallyAt (recvCell c k) () (amt k))) := by
  unfold Pipeline.launchCred
  rw [bigSep_univ_at _ (SemLoc.reg barS), launch_bar]
  refine sep_mono_right ?_
  have hs : (Finset.univ.map recvEmb) ⊆ (Finset.univ : Finset (SemLoc sig)).erase (SemLoc.reg barS) := by
    intro s hs
    obtain ⟨k, -, rfl⟩ := Finset.mem_map.mp hs
    exact Finset.mem_erase.mpr ⟨fun h => recv_ne_bar (a := 0) (b := 0) (congrArg (Prod.mk _) h), Finset.mem_univ _⟩
  refine (bigSep_subset hs).trans ?_
  rw [BI.bigSep_map]
  exact bigSep_mono fun k _ => Entails.of_eq (congrArg cred (launch_recv c k))

/-! ## The theorem's side conditions -/

/-- What a device starts from, its scratch buffers apart. -/
def start (c : Dev nD) : sProp 𝕄 :=
  iprop((∃ K, ctx m K) ∗ linear (F := F) c ∗ cred (tallyAt (barCell c) () 3) ∗ (bigSep Finset.univ fun k : Msg => cred (tallyAt (recvCell c k) () (amt k)))
    ∗ (((c : Thread nD τ).loc main_v1_0) ↦{fullShare} m ((c : Thread nD τ).loc main_v1_0)) ∗ (((c : Thread nD τ).loc main_v1_1) ↦{fullShare} m ((c : Thread nD τ).loc main_v1_1))
    ∗ (((c : Thread nD τ).loc main_v1_2) ↦{fullShare} m ((c : Thread nD τ).loc main_v1_2)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  have hr := unscopedRest0_eq (Ix := Unit) (Name := ℕ) (U := UU) (Lvl := ℕ) (Val := Elt F) c (fun b => m ((c : Thread nD τ).loc b))
  iintro ⟨HU, #Hlev, Hcr, -, HG⟩
  ihave HU := (Entails.of_eq hr) $$ HU
  icases HU with ⟨H0, H1, H2⟩
  ihave Hc := (creds (F := F) c) $$ Hcr
  icases Hc with ⟨HB, HN⟩
  imodintro
  unfold start G'
  icases HG with ⟨⟨%K, #HK⟩, HL⟩
  isplitl
  · isplitr
    · iexists K
      unfold ctx records
      isplitl; · iexact HK
      iexact Hlev
    isplitl [HL]; · iexact HL
    isplitl [HB]; · iexact HB
    isplitl [HN]; · iexact HN
    isplitl [H0]; · iexact H0
    isplitl [H1]; · iexact H1
    iexact H2
  · iempintro

omit [FloatOps F] in
theorem recvSm_start (c : Dev nD) : iprop((bigSep Finset.univ fun k : Msg => atPos ER (recvCell c k) 0 (∅ : Finset (Fin 3)) 0)
    ∗ bigSep Finset.univ fun k : Msg => cred (tallyAt (recvCell c k) () (amt k))) ⊢ RecvSm (F := F) c ∅ := by
  unfold RecvSm
  rw [← bigSep_sep']
  exact Entails.of_eq (BI.bigSep_congr fun k _ => (if_neg (Finset.notMem_empty k)).symm)

theorem keptSt_start (c : Dev nD) : (iprop(emp) : sProp 𝕄) ⊢ KeptSt m c ∅ := by
  unfold KeptSt
  exact Entails.of_eq ((BI.bigSep_emp_const _).symm.trans (BI.bigSep_congr fun k _ => (if_neg (Finset.notMem_empty k)).symm))

omit [FloatOps F] in
theorem barSt_start (c : Dev nD) : iprop(atPos ER (barCell c) 0 (∅ : Finset (Fin 3)) 0 ∗ cred (tallyAt (barCell c) () 3) ∗ payToks (F := F) c
    ∗ (barPay (F := F) (zp c) 0 ∗ barPay (F := F) (xp c) 1 ∗ barPay (F := F) (yp c) 2)) ⊢ BarSt (F := F) c := by
  unfold BarSt payToks
  rw [bigSep_fin3, bigSep_sep']
  iintro ⟨Ha, Hc, ⟨⟨H0, H1, H2⟩, HS, HR⟩, HP⟩
  isplitl [Ha]; · iexact Ha
  isplitl [Hc]; · iexact Hc
  isplitl [H0]; · iexact H0
  isplitl [H1]; · iexact H1
  isplitl [H2]; · iexact H2
  isplitl [HP]; · iexact HP
  isplitl [HS]; · iexact HS
  iexact HR

/-- The start and the scratch buffers make the invariant before the first grid point. -/
theorem phi0_of (c : Dev nD) : iprop(start m c ∗ WholeAny (F := F) c cc0_scratch0 ∗ WholeAny (F := F) c cc0_scratch1 ∗ WholeAny (F := F) c cc0_scratch2
    ∗ WholeAny (F := F) c cc0_scratch3 ∗ WholeAny (F := F) c cc0_scratch4 ∗ WholeAny (F := F) c cc0_scratch5) ⊢ Phi m c 0 := by
  unfold Phi PhiBar
  rw [if_neg (by decide), if_pos rfl]
  unfold start linear
  rw [bigSep_CI, lsems_eq]
  iintro ⟨⟨HK, ⟨⟨Hab, Has, Har⟩, HT, ⟨He0, He1⟩, ⟨Hi0, Hi1⟩, Ho0, Ho1⟩, HcB, HcR, HM0, HM1, HM2⟩, HS0, HS1, HS2, HS3, HS4, HS5⟩
  ihave HL := (landing_start (F := F) c (m ((c : Thread nD τ).loc main_v1_1))) $$ [HM1 HS3]
  · isplitl [HM1]; · iexact HM1
    iexact HS3
  ihave HP := (barPay_start (F := F) c) $$ HL
  isplitl [HK]; · iexact HK
  isplitl [Hab HcB HT HP]
  · iapply (barSt_start (F := F) c)
    isplitl [Hab]; · iexact Hab
    isplitl [HcB]; · iexact HcB
    isplitl [HT]; · iexact HT
    iexact HP
  ihave HR := (recvSm_start (F := F) c) $$ [Har HcR]
  · isplitl [Har]; · iexact Har
    iexact HcR
  ihave HI := (in_start (F := F) c) $$ [HS5 Hi0 Hi1]
  · isplitl [HS5]; · iexact HS5
    isplitl [Hi0]; · iexact Hi0
    iexact Hi1
  icases HI with ⟨HI0, HI1⟩
  ihave HO := (out_start (F := F) c) $$ [HS4 Ho0 Ho1]
  · isplitl [HS4]; · iexact HS4
    isplitl [Ho0]; · iexact Ho0
    iexact Ho1
  icases HO with ⟨HO0, HO1⟩
  unfold Run Idle RecvSt
  rw [sent_zero, recvd_zero]
  isplitl [HS2]; · iapply (acc_start m c); iexact HS2
  isplitl [HS0]; · iapply (comm_start (F := F) c); iexact HS0
  isplitl [HR]
  · isplitl [HR]; · iexact HR
    iapply (keptSt_start m c); iempintro
  isplitl [HM2]
  · iapply ((em_start (F := F) c (m ((c : Thread nD τ).loc main_v1_2))).trans (emSt_start m c)); iexact HM2
  isplitl [HS1 He0 He1]
  · iapply (est_start (F := F) c)
    isplitl [HS1]; · iexact HS1
    isplitl [He0]; · iexact He0
    iexact He1
  isplitl [Has]; · unfold SAt; iexact Has
  isplitl [HI0]; · iexact HI0
  isplitl [HI1]; · iexact HI1
  isplitl [HO0]; · iexact HO0
  isplitl [HO1]; · iexact HO1
  iapply ((res_start (F := F) c (m ((c : Thread nD τ).loc main_v1_0))).trans (outSt_start m c)); iexact HM0

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  have h := phi0_of m c
  rw [show (dats m 0 c).Φ 0 = Phi m c 0 from rfl, scopedRest0_eq]
  iintro ⟨Hs, -, HR⟩
  iapply h
  isplitl [Hs]; · iexact Hs
  iexact HR

/-- What a device ends with, besides the arguments. -/
def Yend (c : Dev nD) : sProp 𝕄 := iprop(semVal (barCell c) 0 ∗ (((c : Thread nD τ).loc main_v1_0) ↦{fullShare} outFin m c))

theorem recvSm_end (c : Dev nD) : RecvSm (F := F) c (LB 22) ⊢ bigSep Finset.univ fun k : Msg => semVal (recvCell c k) 0 := by
  rw [LB_all]
  unfold RecvSm
  exact Entails.of_eq (BI.bigSep_congr fun k _ => if_pos (Finset.mem_univ k))

theorem oth_end (c : Dev nD) : othPts m c ⊢ WholeAny (F := F) c cc0_scratch3 := by
  unfold othPts
  rw [View.set_whole]
  exact any_of _ _

theorem phi1_of (c : Dev nD) : Fin55 m c ⊢ iprop(Yend m c ∗ ((bigSep Finset.univ fun b : Bool × Msg => semVal (kcell (c, some b)) 0) ∗ lsems (F := F) c)
    ∗ WholeAny (F := F) c cc0_scratch0 ∗ WholeAny (F := F) c cc0_scratch1 ∗ WholeAny (F := F) c cc0_scratch2
    ∗ WholeAny (F := F) c cc0_scratch3 ∗ WholeAny (F := F) c cc0_scratch4 ∗ WholeAny (F := F) c cc0_scratch5) := by
  haveI : Nonempty (Elt F .bf16) := ⟨m ((c : Thread nD τ).loc main_arg0) (ix2 (n0 := 1024) (n1 := 2048) 0 0)⟩
  haveI : Nonempty (Elt F .f32) := ⟨outFin m c (ix2 (n0 := 1024) (n1 := 32768) 0 0)⟩
  unfold Fin55 Yend
  rw [lsems_eq, bigSep_univ_prod, bigSep_bool, ED_all]
  iintro ⟨⟨Hacc, Hoth, ⟨He0, Hs0⟩, ⟨He1, Hs1⟩, HR, HI0, HI1, HO0, HO1, HM, HE⟩, HB⟩
  ihave HE := (endSt_end m c) $$ HE
  icases HE with ⟨HSs, Hcomm, Hacl⟩
  ihave HRs := (recvSm_end (F := F) c) $$ HR
  ihave HI0 := (inRdy_free m c 14 0 rfl) $$ HI0
  ihave HI1 := (inRdy_free m c 15 1 rfl) $$ HI1
  ihave HI := (in_end (F := F) c) $$ [HI0 HI1]
  · isplitl [HI0] <;> iassumption
  icases HI with ⟨HS5, Hi0, Hi1⟩
  ihave HO := (out_end (F := F) c) $$ [HO0 HO1]
  · isplitl [HO0] <;> iassumption
  icases HO with ⟨HS4, Ho0, Ho1⟩
  isplitl [HB HM]
  · isplitl [HB]; · iexact HB
    iapply (res_end m c); iexact HM
  isplitl [HSs HRs He0 He1 Hi0 Hi1 Ho0 Ho1]
  · isplitl [HSs HRs]
    · isplitl [HSs]; · iexact HSs
      iexact HRs
    · isplitl [He0 He1]
      · isplitl [He0] <;> iassumption
      isplitl [Hi0 Hi1]
      · isplitl [Hi0] <;> iassumption
      isplitl [Ho0] <;> iassumption
  isplitl [Hcomm]; · iapply (comm_end (F := F) c); iexact Hcomm
  isplitl [Hs0 Hs1]
  · iapply (est_end (F := F) c)
    isplitl [Hs0] <;> iassumption
  isplitl [Hacl Hacc]
  · iapply (acc_end m c)
    isplitl [Hacl] <;> iassumption
  isplitl [Hoth]; · iapply (oth_end m c); iexact Hoth
  isplitl [HS4]; · iexact HS4
  iexact HS5

theorem phi1_exit (c : Dev nD) :
    (dats m 0 c).Φ (Fin.last cfg0.N) ⊢ iprop(Yend m c ∗ Pipeline.ownSems0 osem c ∗ Pipeline.scopedRest cfg0.spec c) := by
  have h := phi1_of m c
  rw [show (dats m 0 c).Φ (Fin.last cfg0.N) = Fin55 m c from (if_pos N_0 : Phi m c grid0.N = Fin55 m c), scopedRest0_eq, ownSems0_eq]
  exact h

theorem dec_stage : ∀ (w : Fin 2) (s : Fin (spec0 w).nbuf), dec (.dma ((spec0 w).sem s)) = none := by decide +kernel

theorem waits (c : Dev nD) : (levAts L lv : sProp 𝕄) ⊢ Pipeline.cellsWaits cfgs (dats m) () 0 c :=
  Pipeline.cellsWaits_intro cfgs (dats m) () 0 c fun w s t => by
    show (levAts L lv : sProp 𝕄) ⊢ MayWait (c : Thread nD τ) (.dma ((spec0 w).sem s)) () (owedN c t.val)
    unfold owedN
    split
    · exact mayWait_launch c _ (dec_stage w s)
    split
    · rw [← Ow_univ c]; exact mayWait_local c _ (dec_stage w s) _
    · exact mayWait_local c _ (dec_stage w s) _

theorem share_eq (c : Dev nD) (w : Fin cfg0.W) : (dats m 0 c).share w = fullShare := by unfold Dat.share; split <;> rfl

/-! ## The run -/

/-- What the run ends with: on every device the arguments as launched and the result written. -/
def QC : PUnit × MemSt nD τ sig (Elt F) → Prop := fun r =>
  ∀ c : Dev nD, r.2.mem ((c : Thread nD τ).loc main_v1_0) = outFin m c
    ∧ r.2.mem ((c : Thread nD τ).loc main_arg0) = m ((c : Thread nD τ).loc main_arg0) ∧ r.2.mem ((c : Thread nD τ).loc main_arg1) = m ((c : Thread nD τ).loc main_arg1)

theorem arg0_end (c : Dev nD) : (dats m 0 c).arrAt 0 cfg0.N = m ((c : Thread nD τ).loc main_arg0) := (dats m 0 c).arrAt_in 0 rfl _
theorem arg1_end (c : Dev nD) : (dats m 0 c).arrAt 1 cfg0.N = m ((c : Thread nD τ).loc main_arg1) := (dats m 0 c).arrAt_in 1 rfl _

set_option maxRecDepth 8000 in
/-- For any float values, from any memory with zero counters: every weakly fair execution of the eight devices terminates,
    and every final state has each device's result array at the computed contents, the arguments unchanged and every
    semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (show BI.own (embR (initOf kcells ktoks, (1 : Counters))) ⊢ (|==> bigSep Finset.univ (G m) : sProp 𝕄) from fund_ghost m) $$ HX with HG
      imodintro
      isplitl [HP] <;> iassumption)
    (hglob := glob m)
    (hA := fun _ _ => rfl) (hpf := fun _ k => k.elim0)
    (X := start m) (Y := Yend m) (Z := fun _ => iprop(emp))
    (hX := start_intro m ρ) (hin := phi0_intro m) (hout := phi1_exit m)
    (QY := fun c s => s.mem ((c : Thread nD τ).loc main_v1_0) = outFin m c ∧ ∀ sm : SemLoc sig, sm.isScoped .tc = false → s.sem ((c.tc : Thread nD τ), sm) = 0)
    (hY := fun c s' => by
      unfold Yend
      rw [← unscopedSems0_eq]
      iintro ⟨⟨Hu, Hm⟩, -, HSI⟩
      icombine HSI Hm gives %hm
      ihave H := (Pipeline.unscopedSems0_read (X := unscopedSems0 c) (c := c) fupd_intro s') $$ [Hu HSI]
      · isplitl [Hu] <;> iassumption
      imod H with ⟨%hs, HSI⟩
      imodintro
      isplitr
      · ipureintro
        exact ⟨Buf.eq_of_forall_mem_univ hm, hs⟩
      iexact HSI)
    (hQ := fun _ h hs => ⟨fun c => ⟨(h c).2.2.1, ((h c).1 0).trans (arg0_end m c), ((h c).1 1).trans (arg1_end m c)⟩, sem_eq_zero hs fun c => (h c).2.2.2⟩)

end Cert.KernelIdeal.Hand

end
-- ==== Proof.Num.lean ====
/-
  Arithmetic over the extended reals, of no program: the quotient `exp l / Σ exp l` and the same quotient with the row's
  largest entry subtracted first, at real entries.
-/
module

public import Idealize.ShloMosaic.Lib.Pointwise

@[expose] public section

noncomputable section

namespace Cert.Softmax

open Idealize.ShloMosaic

/-- The sum of real numbers, read as extended reals, is the extended real of their sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real whose absolute value is below `⊤` is a real number. -/
theorem exists_real (a : EReal) (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

/-- The maximum of finitely many real numbers, taken from `⊥`, is a real number when there is one at all. -/
theorem exists_real_fold {n : ℕ} (hn : 0 < n) (f : Fin n → ℝ) :
    ∃ r : ℝ, (Finset.univ : Finset (Fin n)).fold max (⊥ : EReal) (fun k => ((f k : ℝ) : EReal)) = (r : EReal) := by
  have key : (Finset.univ : Finset (Fin n)).fold max (⊥ : EReal) (fun k => ((f k : ℝ) : EReal)) < ⊤ :=
    (Finset.fold_max_lt _).2 ⟨bot_lt_top, fun k _ => EReal.coe_lt_top _⟩
  have low : ((f ⟨0, hn⟩ : ℝ) : EReal) ≤ (Finset.univ : Finset (Fin n)).fold max (⊥ : EReal) (fun k => ((f k : ℝ) : EReal)) :=
    (Finset.le_fold_max _).2 (Or.inr ⟨⟨0, hn⟩, Finset.mem_univ _, le_rfl⟩)
  exact ⟨_, (EReal.coe_toReal key.ne (fun e => by rw [e] at low; exact absurd low (not_le.2 (EReal.bot_lt_coe _)))).symm⟩

/-- With any real `M` subtracted from every entry the quotient is the plain one, `exp l` times the sum's reciprocal. -/
theorem quot_shift {n : ℕ} (hn : 0 < n) (l : Fin n → ℝ) (M : ℝ) (b : Fin n) :
    Ideal.div (Ideal.exp ((l b : EReal) - (M : EReal))) (∑ k : Fin n, Ideal.exp ((l k : EReal) - (M : EReal)))
      = ((Real.exp (l b) * (1 / ∑ k : Fin n, Real.exp (l k)) : ℝ) : EReal) := by
  haveI : Nonempty (Fin n) := ⟨⟨0, hn⟩⟩
  have hpos : 0 < ∑ k : Fin n, Real.exp (l k) := Finset.sum_pos (fun k _ => Real.exp_pos _) Finset.univ_nonempty
  have hs : (∑ k : Fin n, Ideal.exp ((l k : EReal) - (M : EReal))) = (((∑ k : Fin n, Real.exp (l k)) * (Real.exp M)⁻¹ : ℝ) : EReal) := by
    rw [Finset.sum_mul, ← coe_sum]
    refine Finset.sum_congr rfl fun k _ => ?_
    rw [← EReal.coe_sub, Ideal.exp_coe, Real.exp_sub, div_eq_mul_inv]
  have hne : (∑ k : Fin n, Real.exp (l k)) * (Real.exp M)⁻¹ ≠ 0 := mul_ne_zero hpos.ne' (inv_ne_zero (Real.exp_pos M).ne')
  rw [hs, Ideal.div_coe hne, ← EReal.coe_sub, Ideal.exp_coe, ← EReal.coe_mul, Real.exp_sub]
  congr 1
  have hM := (Real.exp_pos M).ne'
  field_simp

/-- The reciprocal of a row's sum, taken of its two halves' sums. -/
theorem recip_add {A B : ℝ} (h : A + B ≠ 0) : Ideal.div 1 ((A : EReal) + (B : EReal)) = ((1 / (A + B) : ℝ) : EReal) := by
  rw [← EReal.coe_add, Ideal.div_coe h, one_mul]

/-- The product of two real matrices at an index. -/
def logit {M K N : ℕ} (X : Fin M → Fin K → ℝ) (W : Fin K → Fin N → ℝ) (a : Fin M) (b : Fin N) : ℝ := ∑ k : Fin K, X a k * W k b

/-- The row-wise quotient `exp l / Σ exp l` of that product at an index. -/
def soft {M K N : ℕ} (X : Fin M → Fin K → ℝ) (W : Fin K → Fin N → ℝ) (a : Fin M) (b : Fin N) : ℝ :=
  Real.exp (logit X W a b) * (1 / ∑ n : Fin N, Real.exp (logit X W a n))

/-- The product of two matrices of extended reals whose entries are real is the real product. -/
theorem sum_mul_coe {K : ℕ} (f g : Fin K → EReal) (f' g' : Fin K → ℝ) (hf : ∀ k, f k = (f' k : EReal)) (hg : ∀ k, g k = (g' k : EReal)) :
    (∑ k : Fin K, f k * g k) = ((∑ k : Fin K, f' k * g' k : ℝ) : EReal) := by
  rw [← coe_sum]
  exact Finset.sum_congr rfl fun k _ => by rw [hf k, hg k, EReal.coe_mul]

end Cert.Softmax

end
-- ==== Proof.Value.lean ====
/-
  The kernel's result read at an index, at arguments whose entries are real numbers: on every device it is the row-wise
  quotient `exp l / Σ exp l` of the product `l = x · W`, the device's block of `W` being its half of the columns.
-/
module

public import proofs.«01_k».proof.Proof.Num
public import proofs.«01_k».proof.Proof.Win
public import Idealize.ShloMosaic.Lib.Pipeline.ValueKit

@[expose] public section

set_option maxRecDepth 16384

noncomputable section

namespace Cert.KernelIdeal.Hand

open Cert.KernelIdeal Cert.KernelIdeal.Gen Idealize.ShloMosaic Cert.Softmax
open Idealize.ShloMosaic.TcCoe

variable (m : (ℓ : Loc nD τ sig) → Buf (Elt Ideal) ℓ)
variable (X : Fin 1024 → Fin 2048 → ℝ) (W : Fin 2048 → Fin 32768 → ℝ)

set_option backward.proofsInPublic true in
/-- The whole array's column of column `b` of device `c`'s half. -/
def wholeCol (c : Dev nD) (b : Fin 16384) : Fin 32768 := ⟨16384 * (c.val % 2) + b.val, by have := b.isLt; omega⟩

set_option backward.proofsInPublic true in
/-- Column `b` of chunk `j`, in the device's half. -/
def chunkCol (j : Fin 32) (b : Fin 512) : Fin 16384 := ⟨512 * j.val + b.val, by have := b.isLt; have := j.isLt; omega⟩

/-- Every device's rows are the real `X`, and its columns are its half of the real `W`'s. -/
structure Holds : Prop where
  x : ∀ (c : Dev nD) (a : Fin 1024) (k : Fin 2048), (m ((c : Thread nD τ).loc main_arg0) : FVec Ideal S1024x2048 .bf16) (ix2 a k) = (X a k : EReal)
  w : ∀ (c : Dev nD) (k : Fin 2048) (b : Fin 16384), (m ((c : Thread nD τ).loc main_arg1) : FVec Ideal S2048x16384 .bf16) (ix2 k b) = (W k (wholeCol c b) : EReal)

/-- The block of window 0 is the whole left argument. -/
theorem iblk0_apply (c : Dev nD) (j : Fin 32) (a : Fin 1024) (k : Fin 2048) :
    (iblk m c 0 (pt j) : FVec Ideal S1024x2048 .bf16) (ix2 a k) = (m ((c : Thread nD τ).loc main_arg0) : FVec Ideal S1024x2048 .bf16) (ix2 a k) := by
  have e : ∀ t : Fin cfg0.N, win0_0.index t 0 = 0 ∧ win0_0.index t 1 = 0 := by decide +kernel
  blk_ext [iblk, V, (e (pt j)).1, (e (pt j)).2]

/-- The block of window 1 is the chunk's columns of the right argument. -/
theorem iblk1_apply (c : Dev nD) (j : Fin 32) (k : Fin 2048) (b : Fin 512) :
    (iblk m c 1 (pt j) : FVec Ideal S2048x512 .bf16) (ix2 k b) = (m ((c : Thread nD τ).loc main_arg1) : FVec Ideal S2048x16384 .bf16) (ix2 k (chunkCol j b)) := by
  have e : ∀ t : Fin cfg0.N, win0_1.index t 0 = 0 ∧ win0_1.index t 1 = t.val := by decide +kernel
  have h1 : win0_1.index (pt j) 1 = j.val := (e (pt j)).2
  blk_ext [iblk, V, (e (pt j)).1, h1, chunkCol]

variable {m X W}

variable (m) in
/-- The left argument as chunk `j` of device `c` reads it. -/
def xB (c : Dev nD) (j : Fin 32) : FVec Ideal S1024x2048 .bf16 := iblk m c 0 (pt j)
variable (m) in
/-- The columns of the right argument that chunk `j` of device `c` reads. -/
def wB (c : Dev nD) (j : Fin 32) : FVec Ideal S2048x512 .bf16 := iblk m c 1 (pt j)

/-- The `exp` of chunk `j` of device `c`'s product, at an index. -/
theorem eE_apply (h : Holds m X W) (c : Dev nD) (j : Fin 32) (a : Fin 1024) (b : Fin 512) :
    (eE m c j : FVec Ideal S1024x512 .f32) (ix2 a b) = (Real.exp (logit X W a (wholeCol c (chunkCol j b))) : EReal) := by
  have e : (∑ k : Fin 2048, xB m c j (ix2 a k) * wB m c j (ix2 k b)) = (logit X W a (wholeCol c (chunkCol j b)) : EReal) :=
    sum_mul_coe _ _ _ _ (fun k => (iblk0_apply m c j a k).trans (h.x c a k)) (fun k => (iblk1_apply m c j k b).trans (h.w c k (chunkCol j b)))
  show k0_pay78 (F := Ideal) (xB m c j) (wB m c j) (ix2 a b) = _
  pointwise [k0_pay78]
  rw [e, Ideal.exp_coe]

/-- Rounding changes nothing over the extended reals. -/
theorem eb_apply (h : Holds m X W) (c : Dev nD) (j : Fin 32) (a : Fin 1024) (b : Fin 512) :
    (eb m c j : FVec Ideal S1024x512 .bf16) (ix2 a b) = (Real.exp (logit X W a (wholeCol c (chunkCol j b))) : EReal) :=
  eE_apply h c j a b

/-- The row sum of chunk `j`. -/
theorem rsum_apply (h : Holds m X W) (c : Dev nD) (j : Fin 32) (a : Fin 1024) :
    (rsum m c j : FVec Ideal S1024x1 .f32) (ix2 a 0) = ((∑ b : Fin 512, Real.exp (logit X W a (wholeCol c (chunkCol j b))) : ℝ) : EReal) := by
  unfold rsum
  pointwise [k0_pay80]
  rw [← coe_sum]
  exact Finset.sum_congr rfl fun b _ => eE_apply h c j a b

set_option backward.proofsInPublic true in
/-- The running row sum after `n + 1` chunks. -/
theorem accS_apply (h : Holds m X W) (c : Dev nD) (a : Fin 1024) (n : ℕ) :
    (accS m c n : FVec Ideal S1024x1 .f32) (ix2 a 0)
      = ((∑ i ∈ Finset.range (n + 1), ∑ b : Fin 512, Real.exp (logit X W a (wholeCol c (chunkCol ⟨i % 32, Nat.mod_lt _ (by decide)⟩ b))) : ℝ) : EReal) := by
  induction n with
  | zero =>
    rw [Finset.sum_range_one]
    unfold accS
    pointwise [k0_pay82]
    exact rsum_apply h c 0 a
  | succ n ih =>
    rw [Finset.sum_range_succ, EReal.coe_add, ← ih, ← rsum_apply h]
    show k0_pay83 (F := Ideal) (rsum m c ⟨(n + 1) % 32, _⟩) (accS m c n) (ix2 a 0) = _
    pointwise [k0_pay83]

/-- The row sum over a device's half of the columns. -/
theorem sumC_apply (h : Holds m X W) (c : Dev nD) (a : Fin 1024) :
    (sumC m c : FVec Ideal S1024x1 .f32) (ix2 a 0) = ((∑ b : Fin 16384, Real.exp (logit X W a (wholeCol c b)) : ℝ) : EReal) := by
  refine (accS_apply h c a 31).trans (congrArg (fun r : ℝ => (r : EReal)) ?_)
  rw [Finset.sum_range]
  rw [← (finProdFinEquiv (m := 32) (n := 512)).sum_comp, Fintype.sum_prod_type]
  refine Finset.sum_congr rfl fun j _ => Finset.sum_congr rfl fun b _ => ?_
  have e : chunkCol ⟨j.val % 32, Nat.mod_lt _ (by decide)⟩ b = finProdFinEquiv (m := 32) (n := 512) (j, b) := by
    refine Fin.ext ?_
    show 512 * (j.val % 32) + b.val = b.val + 512 * j.val
    have := j.isLt; omega
  exact congrArg (fun q => Real.exp (logit X W a (wholeCol c q))) e

/-- A sum over all the columns is the sum over a device's half and over the other half. -/
theorem sum_halves (f : Fin 32768 → ℝ) (c : Dev nD) : (∑ b : Fin 16384, f (wholeCol c b)) + (∑ b : Fin 16384, f (wholeCol (zp c) b)) = ∑ n : Fin 32768, f n := by
  have key : (∑ n : Fin 32768, f n) = (∑ b : Fin 16384, f (wholeCol 0 b)) + ∑ b : Fin 16384, f (wholeCol 1 b) := by
    refine (Fin.sum_univ_add (a := 16384) (b := 16384) f).trans ?_
    refine congrArg₂ (· + ·) (Finset.sum_congr rfl fun b _ => congrArg f (Fin.ext ?_)) (Finset.sum_congr rfl fun b _ => congrArg f (Fin.ext ?_))
    · show b.val = 16384 * (0 % 2) + b.val
      omega
    · show 16384 + b.val = 16384 * (1 % 2) + b.val
      omega
  have ez : (zp c).val % 2 = 1 - c.val % 2 := (by decide +kernel : ∀ c : Dev nD, (zp c).val % 2 = 1 - c.val % 2) c
  have same : ∀ (c d : Dev nD), c.val % 2 = d.val % 2 → ∀ b, wholeCol c b = wholeCol d b := fun c d e b => Fin.ext (by
    show 16384 * (c.val % 2) + b.val = 16384 * (d.val % 2) + b.val
    rw [e])
  rw [key]
  rcases Nat.mod_two_eq_zero_or_one c.val with e | e
  · exact congrArg₂ (· + ·) (Finset.sum_congr rfl fun b _ => congrArg f (same c 0 e b))
      (Finset.sum_congr rfl fun b _ => congrArg f (same (zp c) 1 (by rw [ez, e]; rfl) b))
  · rw [add_comm]
    exact congrArg₂ (· + ·) (Finset.sum_congr rfl fun b _ => congrArg f (same (zp c) 0 (by rw [ez, e]; rfl) b))
      (Finset.sum_congr rfl fun b _ => congrArg f (same c 1 e b))

/-- The factor of a row: one over the sum of the whole row. -/
theorem invC_apply (h : Holds m X W) (c : Dev nD) (a : Fin 1024) :
    (invC m c : FVec Ideal S1024x1 .f32) (ix2 a 0) = ((1 / ∑ n : Fin 32768, Real.exp (logit X W a n) : ℝ) : EReal) := by
  have hpos : 0 < ∑ n : Fin 32768, Real.exp (logit X W a n) := Finset.sum_pos (fun k _ => Real.exp_pos _) ⟨0, Finset.mem_univ _⟩
  have hs := sum_halves (fun n => Real.exp (logit X W a n)) c
  have r := recip_add (A := ∑ b : Fin 16384, Real.exp (logit X W a (wholeCol c b))) (B := ∑ b : Fin 16384, Real.exp (logit X W a (wholeCol (zp c) b)))
    (by rw [hs]; exact hpos.ne')
  rw [hs] at r
  rw [← r, ← sumC_apply h c a, ← sumC_apply h (zp c) a]
  unfold invC
  pointwise [k0_pay1]

/-- A scaled chunk at an index. -/
theorem scl_apply (v : FVec Ideal S1024x1 .f32) (w : FVec Ideal S1024x512 .bf16) (a : Fin 1024) (b : Fin 512) :
    (scl v w : FVec Ideal S1024x512 .f32) (ix2 a b) = w (ix2 a b) * v (ix2 a 0) := by
  unfold scl
  pointwise [k0_pay2]

/-- The kernel's result on any device, at an index, is the row-wise quotient. -/
theorem outFin_apply (h : Holds m X W) (c : Dev nD) (a : Fin 1024) (b : Fin 32768) :
    (outFin m c : FVec Ideal S1024x32768 .f32) (ix2 a b) = (soft X W a b : EReal) := by
  have col : ∀ (d : Dev nD) (j : Fin 32), d.val % 2 = b.val / 16384 → j.val = b.val % 16384 / 512 →
      wholeCol d (chunkCol j ⟨b.val % 2048 % 512, Nat.mod_lt _ (by decide)⟩) = b := fun d j hd hj => Fin.ext (by
    show 16384 * (d.val % 2) + (512 * j.val + b.val % 2048 % 512) = b.val
    rw [hd, hj]; omega)
  have hb := b.isLt
  have es : ∀ (c : Dev nD) (g : Fin 32), (srcDev c g).val % 2 = 1 - c.val % 2 := by decide +kernel
  have ch : ∀ (r : Fin 4), r.val = b.val % 2048 / 512 → (chunk m c (itemOf c b) r : FVec Ideal S1024x512 .bf16) (ix2 a ⟨b.val % 2048 % 512, Nat.mod_lt _ (by decide)⟩)
      = (Real.exp (logit X W a b) : EReal) := fun r hr => by
    have en : (itemOf c b).val = (if b.val / 16384 = c.val % 2 then b.val % 16384 / 2048 else 8 + b.val % 16384 / 2048) % 16 := rfl
    unfold chunk
    by_cases hc : b.val / 16384 = c.val % 2
    · rw [if_pos hc] at en
      rw [if_pos (by omega), eb_apply h, col c _ hc.symm (by show (4 * (itemOf c b).val + r.val) % 32 = _; omega)]
    · rw [if_neg hc] at en
      rw [if_neg (by omega), eb_apply h, col _ _ (by rw [es]; omega) (by show (4 * ((itemOf c b).val - 8) + r.val) % 32 = _; omega)]
  unfold soft
  rw [EReal.coe_mul, ← invC_apply h c a, ← ch ⟨b.val % 2048 / 512, by omega⟩ rfl, ← scl_apply]
  exact congrArg (scl (invC m c) (chunk m c (itemOf c b) ⟨b.val % 2048 / 512, _⟩)) (ix2_eq_valueIdx _ _).symm

end Cert.KernelIdeal.Hand

end
-- ==== Proof.RefVal.lean ====
/-
  The reference's result read at an index, at arguments whose entries are real numbers: the row-wise quotient
  `exp l / Σ exp l` of the product `l = x · W`.
-/
module

public import proofs.«01_k».proof.Proof.Num
public import proofs.«01_k».proof.Proof.Gen.ReferenceIdeal.Run

@[expose] public section

set_option maxRecDepth 16384

noncomputable section

namespace Cert.ReferenceIdeal.Hand

open Cert.ReferenceIdeal Cert.ReferenceIdeal.Gen Idealize.ShloMosaic Cert.Softmax

/-- The reference's product of its two arguments. -/
def refL (A : FVec Ideal S1024x2048 .bf16) (B : FVec Ideal S2048x32768 .bf16) : FVec Ideal S1024x32768 .f32 :=
  Host.dotGeneral dot_S1024x2048_S2048x32768_S1024x32768_1_0_0_1_n_n none (extf .f32 A bitsLt_bf16_f32) (extf .f32 B bitsLt_bf16_f32)

/-- The reference's result as a function of its two arguments. -/
def refT (A : FVec Ideal S1024x2048 .bf16) (B : FVec Ideal S2048x32768 .bf16) : FVec Ideal S1024x32768 .f32 :=
  Host.divf (Host.exp (subf (refL A B) (broadcastInDim S1024x32768 ![0, 1] bcast_S1024x1_S1024x32768_0_1 (broadcastInDim S1024x1 ![0] bcast_S1024_S1024x1_0 (Host.reduce FloatOps.maximumf (refL A B) (constant S_ .f32 0xFF800000#32) reducesTo_S1024x32768_S1024_d1 h_S_))))) (broadcastInDim S1024x32768 ![0, 1] bcast_S1024x1_S1024x32768_0_1 (broadcastInDim S1024x1 ![0] bcast_S1024_S1024x1_0 (Host.reduceAdd (Host.exp (subf (refL A B) (broadcastInDim S1024x32768 ![0, 1] bcast_S1024x1_S1024x32768_0_1 (broadcastInDim S1024x1 ![0] bcast_S1024_S1024x1_0 (Host.reduce FloatOps.maximumf (refL A B) (constant S_ .f32 0xFF800000#32) reducesTo_S1024x32768_S1024_d1 h_S_))))) (constant S_ .f32 0x00000000#32) reducesTo_S1024x32768_S1024_d1 h_S_)))

variable (A : FVec Ideal S1024x2048 .bf16) (B : FVec Ideal S2048x32768 .bf16)
variable (X : Fin 1024 → Fin 2048 → ℝ) (W : Fin 2048 → Fin 32768 → ℝ)

/-- The product at an index is the real product. -/
theorem refL_apply (hA : ∀ a k, A (ix2 a k) = (X a k : EReal)) (hB : ∀ k b, B (ix2 k b) = (W k b : EReal)) (a : Fin 1024) (b : Fin 32768) :
    refL A B (ix2 a b) = (logit X W a b : EReal) := by
  pointwise [refL]
  exact sum_mul_coe _ _ _ _ (fun k => hA a k) (fun k => hB k b)

/-- The pattern of the reduction's starting value is the least extended real. -/
theorem ofBits_bot : Ideal.ofBits .f32 0xFF800000#32 = ⊥ := by simp [Ideal.ofBits, Ideal.ieee]

/-- The reference's result at an index is the row-wise quotient. -/
theorem refT_apply (hA : ∀ a k, A (ix2 a k) = (X a k : EReal)) (hB : ∀ k b, B (ix2 k b) = (W k b : EReal)) (a : Fin 1024) (b : Fin 32768) :
    refT A B (ix2 a b) = (soft X W a b : EReal) := by
  obtain ⟨M, hM⟩ := exists_real_fold (n := 32768) (by decide) (logit X W a)
  pointwise [refT]
  simp only [refL_apply A B X W hA hB, ofBits_bot]
  rw [hM]
  exact quot_shift (by decide) _ M b

end Cert.ReferenceIdeal.Hand

end
-- ==== Proof.lean ====
/- The proof of the claims: each is a fact about the runs of `Proof/Launch.lean` and of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Value
public import proofs.«01_k».proof.Proof.RefVal
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- The two programs have the same text: their body tables agree. -/
theorem defs₀_eq : Cert.KernelIdeal.defs₀ (F := Bits) = Cert.Kernel.defs₀ (F := Bits) := by
  unfold Cert.KernelIdeal.defs₀ Cert.Kernel.defs₀
  refine congrArg Defs.onTc (funext fun ℓ => funext fun a => ?_)
  match ℓ, a with
  | 0, (t, s) => rfl
  | ⟨_ + 1, h⟩, _ => exact absurd h (Nat.not_lt.2 (Nat.le_add_left _ _))

/-- And so do their regions'. -/
theorem defs_eq : Cert.KernelIdeal.defs (F := Bits) = Cert.Kernel.defs (F := Bits) :=
  congrArg (Pipeline.defs Cert.Kernel.pcfgs) defs₀_eq

/-- The kernel runs, at any bit patterns, its arguments unchanged and every counter at zero at the end: the run of
    `Proof/Launch.lean`, which is stated over any float values. -/
theorem frame_kernel : Cert.quiescent_Kernel := fun m ρ _ => by
  rw [← defs_eq]
  exact (θ_run Cert.KernelIdeal.defs _ _).mono (fun _ h => ⟨fun c => (h.1 c).2, h.2⟩) (Cert.KernelIdeal.Hand.run_main (F := Bits) m ρ)

/-- The same at the ideal values. -/
theorem frame_ideal : Cert.quiescent_KernelIdeal := fun m ρ _ =>
  (θ_run Cert.KernelIdeal.defs _ _).mono (fun _ h => ⟨fun c => (h.1 c).2, h.2⟩) (Cert.KernelIdeal.Hand.run_main (F := Ideal) m ρ)

/-- The reference runs, its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The arguments of one device are finite where the precondition says so: every entry is a real number. -/
theorem real_of_pre (A : FVec Ideal Cert.KernelIdeal.S1024x2048 .bf16) (B : FVec Ideal Cert.KernelIdeal.S2048x16384 .bf16)
    (h : Cert.Pre_finite_KernelIdeal.fn (F := Ideal) A B = fun _ => 1#1) :
    (∀ i, ∃ r : ℝ, A i = (r : EReal)) ∧ ∀ i, ∃ r : ℝ, B i = (r : EReal) := by
  have top : Ideal.ofBits .bf16 0x7F80#16 = ⊤ := by simp [Ideal.ofBits, Ideal.ieee]
  have fin : ∀ a : EReal, Ideal.cmp .olt (max a (-a)) (Ideal.ofBits .bf16 0x7F80#16) = 1#1 → ∃ r : ℝ, a = (r : EReal) := fun a e => by
    rw [top] at e
    refine Softmax.exists_real a ?_
    by_contra hn
    simp [Ideal.cmp, hn] at e
  have h0 := congrFun h ix0
  unfold Cert.Pre_finite_KernelIdeal.fn at h0
  obtain ⟨h1, h2⟩ := IntOp.andi_eq_one.1 h0
  haveI : Subsingleton Cert.Pre_finite_KernelIdeal.S_.Idx := ⟨fun _ _ => funext fun a => a.elim0⟩
  exact ⟨fun i => fin _ (Host.reduce_andi_all _ _ _ _ _ h1 i), fun i => fin _ (Host.reduce_andi_all _ _ _ _ _ h2 i)⟩

/-- With finite arguments, the devices' agreeing with the reference's, the kernel's run leaves on every device the
    array that the reference's run leaves: the row-wise quotient `exp l / Σ exp l` of the product. -/
theorem algebraic : Cert.algebraic_KernelIdeal_ReferenceIdeal_pre_finite_KernelIdeal := fun m g m' g' hpre hin => by
  have hA : ∀ (a : Fin 1024) (k : Fin 2048), ∃ r : ℝ, (m' (((0 : Dev Cert.ReferenceIdeal.nD).tc : Thread Cert.ReferenceIdeal.nD Cert.ReferenceIdeal.τ).loc Cert.ReferenceIdeal.main_arg0)
      : FVec Ideal Cert.ReferenceIdeal.S1024x2048 .bf16) (ix2 a k) = (r : EReal) := fun a k => by
    rw [← (hin 0).1]
    exact (real_of_pre _ _ (hpre 0)).1 (ix2 a k)
  have col : ∀ (c : Dev Cert.KernelIdeal.nD) (k : Fin 2048) (b : Fin 16384),
      (m ((c.tc : Thread Cert.KernelIdeal.nD Cert.KernelIdeal.τ).loc Cert.KernelIdeal.main_arg1) : FVec Ideal Cert.KernelIdeal.S2048x16384 .bf16) (ix2 k b)
      = (m' (((0 : Dev Cert.ReferenceIdeal.nD).tc : Thread Cert.ReferenceIdeal.nD Cert.ReferenceIdeal.τ).loc Cert.ReferenceIdeal.main_arg1)
        : FVec Ideal Cert.ReferenceIdeal.S2048x32768 .bf16) (ix2 k (Cert.KernelIdeal.Hand.wholeCol c b)) := fun c k b => by
    rw [(hin c).2]
    refine (Layout.blockN_apply _ _ _ _).trans (congrArg _ ?_)
    funext i
    refine Fin.ext ?_
    match i with
    | ⟨0, _⟩ => exact (Layout.TilesN.idx_val _ _ _ _).trans (by
        show 0 * 2048 + k.val = k.val
        omega)
    | ⟨1, _⟩ => exact (Layout.TilesN.idx_val _ _ _ _).trans (by
        show Layout.meshLin [2, 2, 2] c.val [2] * 16384 + b.val = 16384 * (c.val % 2) + b.val
        have : ∀ c : Dev Cert.KernelIdeal.nD, Layout.meshLin [2, 2, 2] c.val [2] = c.val % 2 := by decide +kernel
        rw [this]; omega)
  have hB : ∀ (k : Fin 2048) (n : Fin 32768), ∃ r : ℝ, (m' (((0 : Dev Cert.ReferenceIdeal.nD).tc : Thread Cert.ReferenceIdeal.nD Cert.ReferenceIdeal.τ).loc Cert.ReferenceIdeal.main_arg1)
      : FVec Ideal Cert.ReferenceIdeal.S2048x32768 .bf16) (ix2 k n) = (r : EReal) := fun k n => by
    have hn := n.isLt
    have e : n = Cert.KernelIdeal.Hand.wholeCol ⟨n.val / 16384, by show _ < 8; omega⟩ ⟨n.val % 16384, Nat.mod_lt _ (by decide)⟩ := Fin.ext (by
      show n.val = 16384 * (n.val / 16384 % 2) + n.val % 16384
      omega)
    rw [e, ← col]
    exact (real_of_pre _ _ (hpre _)).2 _
  choose X hX using hA
  choose W hW using hB
  have holds : Cert.KernelIdeal.Hand.Holds m X W := ⟨fun c a k => by rw [(hin c).1]; exact hX a k, fun c k b => (col c k b).trans (hW _ _)⟩
  refine ⟨_, (θ_run Cert.KernelIdeal.defs _ _).mono (fun r h c => ?_) (Cert.KernelIdeal.Hand.run_main (F := Ideal) m g),
    (θ_run Cert.ReferenceIdeal.defs _ _).mono (fun r h => h 0) (Cert.ReferenceIdeal.Value.run (F := Ideal) m' g')⟩
  refine ⟨(h.1 c).1.trans ?_, (h.1 c).2⟩
  refine funext fun i => ?_
  rw [eq_ix2 i]
  exact (Cert.KernelIdeal.Hand.outFin_apply holds c _ _).trans (Cert.ReferenceIdeal.Hand.refT_apply _ _ X W hX hW _ _).symm

/-- All the claims. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, algebraic⟩

end Cert.Proof

end
